-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_embeddings_finite [hPre_embeddings_finite : Cert.Pre_embeddings_finite.Facts] (m : (ℓ : Loc Cert.KernelIdeal.nD Cert.KernelIdeal.τ Cert.KernelIdeal.sig) → Buf (Elt Ideal) ℓ) : Prop :=
  ∀ c : Dev Cert.KernelIdeal.nD,
    (Cert.Pre_embeddings_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_embeddings_finite [hPre_embeddings_finite : Cert.Pre_embeddings_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_embeddings_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_embeddings_finite [hKernelIdeal : Cert.KernelIdeal.Facts] [hPre_embeddings_finite : Cert.Pre_embeddings_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_embeddings_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_embeddings_finite [hReferenceIdeal : Cert.ReferenceIdeal.Facts] [hPre_embeddings_finite : Cert.Pre_embeddings_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_embeddings_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_embeddings_finite [hKernelIdeal : Cert.KernelIdeal.Facts] [hReferenceIdeal : Cert.ReferenceIdeal.Facts] [hPre_embeddings_finite : Cert.Pre_embeddings_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_embeddings_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_embeddings_finite : Cert.Pre_embeddings_finite.Facts),
    quiescent_Kernel (hKernel := hKernel)
    ∧ quiescent_KernelIdeal (hKernelIdeal := hKernelIdeal)
    ∧ quiescent_KernelIdeal_pre_embeddings_finite (hKernelIdeal := hKernelIdeal) (hPre_embeddings_finite := hPre_embeddings_finite)
    ∧ quiescent_ReferenceIdeal (hReferenceIdeal := hReferenceIdeal)
    ∧ quiescent_ReferenceIdeal_pre_embeddings_finite (hReferenceIdeal := hReferenceIdeal) (hPre_embeddings_finite := hPre_embeddings_finite)
    ∧ preserves_Kernel_KernelIdeal
    ∧ algebraic_KernelIdeal_ReferenceIdeal_pre_embeddings_finite (hKernelIdeal := hKernelIdeal) (hReferenceIdeal := hReferenceIdeal) (hPre_embeddings_finite := hPre_embeddings_finite)
-- ==== Pre_embeddings_finite.lean ====
abbrev S512x16x28x28 : Shape := ⟨4, ![512, 16, 28, 28]⟩
abbrev S4x784x512 : Shape := ⟨3, ![4, 784, 512]⟩
abbrev S4x512 : Shape := ⟨2, ![4, 512]⟩
abbrev S4x512x512 : Shape := ⟨3, ![4, 512, 512]⟩
abbrev S4x512x16 : Shape := ⟨3, ![4, 512, 16]⟩
abbrev S4x16 : Shape := ⟨2, ![4, 16]⟩
abbrev S8x2x128 : Shape := ⟨3, ![8, 2, 128]⟩
abbrev S8x128 : Shape := ⟨2, ![8, 128]⟩
abbrev S8x128x1 : Shape := ⟨3, ![8, 128, 1]⟩
abbrev S8x1 : Shape := ⟨2, ![8, 1]⟩
abbrev S1x16x4 : Shape := ⟨3, ![1, 16, 4]⟩
abbrev S1x64x4 : Shape := ⟨3, ![1, 64, 4]⟩
abbrev S1x4x2 : Shape := ⟨3, ![1, 4, 2]⟩
abbrev S1x2x1 : Shape := ⟨3, ![1, 2, 1]⟩
abbrev S1x4x4 : Shape := ⟨3, ![1, 4, 4]⟩
abbrev S1x8x4 : Shape := ⟨3, ![1, 8, 4]⟩
abbrev S1x8x2 : Shape := ⟨3, ![1, 8, 2]⟩
abbrev S_ : Shape := ⟨0, ![]⟩

class Facts : Prop where
  bcast_S_S1x16x4 : S_.BroadcastsInDim S1x16x4 (![] : Fin 0 → Fin S1x16x4.rank)
  reducesTo_S1x16x4_S_d0_1_2 : S1x16x4.ReducesTo [0, 1, 2] S_
  h_S_ : 0 < S_.numel
  bcast_S_S1x64x4 : S_.BroadcastsInDim S1x64x4 (![] : Fin 0 → Fin S1x64x4.rank)
  reducesTo_S1x64x4_S_d0_1_2 : S1x64x4.ReducesTo [0, 1, 2] S_
  bcast_S_S1x4x2 : S_.BroadcastsInDim S1x4x2 (![] : Fin 0 → Fin S1x4x2.rank)
  reducesTo_S1x4x2_S_d0_1_2 : S1x4x2.ReducesTo [0, 1, 2] S_
  bcast_S_S1x2x1 : S_.BroadcastsInDim S1x2x1 (![] : Fin 0 → Fin S1x2x1.rank)
  reducesTo_S1x2x1_S_d0_1_2 : S1x2x1.ReducesTo [0, 1, 2] S_
  bcast_S_S1x4x4 : S_.BroadcastsInDim S1x4x4 (![] : Fin 0 → Fin S1x4x4.rank)
  reducesTo_S1x4x4_S_d0_1_2 : S1x4x4.ReducesTo [0, 1, 2] S_
  bcast_S_S1x8x4 : S_.BroadcastsInDim S1x8x4 (![] : Fin 0 → Fin S1x8x4.rank)
  reducesTo_S1x8x4_S_d0_1_2 : S1x8x4.ReducesTo [0, 1, 2] S_
  bcast_S_S1x8x2 : S_.BroadcastsInDim S1x8x2 (![] : Fin 0 → Fin S1x8x2.rank)
  reducesTo_S1x8x2_S_d0_1_2 : S1x8x2.ReducesTo [0, 1, 2] S_

variable [Facts]

def fn_part1 {F : FTy → Type} [FloatOps F] (main_arg15 : FVec F S1x4x4 .f32) (main_arg16 : FVec F S1x8x4 .f32) (main_arg17 : FVec F S1x8x2 .f32) (main_v13 : IVec S_ 1) (main_v16 : IVec S1x2x1 1) : IVec S_ 1 :=
  let main_c_5 : IVec S_ 1 := constantI S_ 1 1#1
  let main_v17 : IVec S_ 1 := (fun x v => Host.reduce IntOp.andi x v reducesTo_S1x2x1_S_d0_1_2 h_S_) main_v16 main_c_5
  let main_v18 : IVec S_ 1 := andi main_v13 main_v17
  let main_v19 : FVec F S1x4x4 .f32 := Host.absf main_arg15
  let main_cst_6 : FVec F S_ .f32 := constant S_ .f32 0x7F800000#32
  let main_v20 : FVec F S1x4x4 .f32 := broadcastInDim S1x4x4 ![] bcast_S_S1x4x4 main_cst_6
  let main_v21 : IVec S1x4x4 1 := cmpf .olt main_v19 main_v20
  let main_c_7 : IVec S_ 1 := constantI S_ 1 1#1
  let main_v22 : IVec S_ 1 := (fun x v => Host.reduce IntOp.andi x v reducesTo_S1x4x4_S_d0_1_2 h_S_) main_v21 main_c_7
  let main_v23 : IVec S_ 1 := andi main_v18 main_v22
  let main_v24 : FVec F S1x8x4 .f32 := Host.absf main_arg16
  let main_cst_8 : FVec F S_ .f32 := constant S_ .f32 0x7F800000#32
  let main_v25 : FVec F S1x8x4 .f32 := broadcastInDim S1x8x4 ![] bcast_S_S1x8x4 main_cst_8
  let main_v26 : IVec S1x8x4 1 := cmpf .olt main_v24 main_v25
  let main_c_9 : IVec S_ 1 := constantI S_ 1 1#1
  let main_v27 : IVec S_ 1 := (fun x v => Host.reduce IntOp.andi x v reducesTo_S1x8x4_S_d0_1_2 h_S_) main_v26 main_c_9
  let main_v28 : IVec S_ 1 := andi main_v23 main_v27
  let main_v29 : FVec F S1x8x2 .f32 := Host.absf main_arg17
  let main_cst_10 : FVec F S_ .f32 := constant S_ .f32 0x7F800000#32
  let main_v30 : FVec F S1x8x2 .f32 := broadcastInDim S1x8x2 ![] bcast_S_S1x8x2 main_cst_10
  let main_v31 : IVec S1x8x2 1 := cmpf .olt main_v29 main_v30
  let main_c_11 : IVec S_ 1 := constantI S_ 1 1#1
  let main_v32 : IVec S_ 1 := (fun x v => Host.reduce IntOp.andi x v reducesTo_S1x8x2_S_d0_1_2 h_S_) main_v31 main_c_11
  let main_v33 : IVec S_ 1 := andi main_v28 main_v32
  main_v33

def fn {F : FTy → Type} [FloatOps F] (main_arg0 : FVec F S512x16x28x28 .f32) (main_arg1 : FVec F S4x784x512 .f32) (main_arg2 : FVec F S4x512 .f32) (main_arg3 : FVec F S4x512x512 .f32) (main_arg4 : FVec F S4x512 .f32) (main_arg5 : FVec F S4x512x16 .f32) (main_arg6 : FVec F S4x16 .f32) (main_arg7 : FVec F S8x2x128 .f32) (main_arg8 : FVec F S8x128 .f32) (main_arg9 : FVec F S8x128x1 .f32) (main_arg10 : FVec F S8x1 .f32) (main_arg11 : FVec F S1x16x4 .f32) (main_arg12 : FVec F S1x64x4 .f32) (main_arg13 : FVec F S1x4x2 .f32) (main_arg14 : FVec F S1x2x1 .f32) (main_arg15 : FVec F S1x4x4 .f32) (main_arg16 : FVec F S1x8x4 .f32) (main_arg17 : FVec F S1x8x2 .f32) : IVec S_ 1 :=
  let main_v0 : FVec F S1x16x4 .f32 := Host.absf main_arg11
  let main_cst : FVec F S_ .f32 := constant S_ .f32 0x7F800000#32
  let main_v1 : FVec F S1x16x4 .f32 := broadcastInDim S1x16x4 ![] bcast_S_S1x16x4 main_cst
  let main_v2 : IVec S1x16x4 1 := cmpf .olt main_v0 main_v1
  let main_c : IVec S_ 1 := constantI S_ 1 1#1
  let main_v3 : IVec S_ 1 := (fun x v => Host.reduce IntOp.andi x v reducesTo_S1x16x4_S_d0_1_2 h_S_) main_v2 main_c
  let main_v4 : FVec F S1x64x4 .f32 := Host.absf main_arg12
  let main_cst_0 : FVec F S_ .f32 := constant S_ .f32 0x7F800000#32
  let main_v5 : FVec F S1x64x4 .f32 := broadcastInDim S1x64x4 ![] bcast_S_S1x64x4 main_cst_0
  let main_v6 : IVec S1x64x4 1 := cmpf .olt main_v4 main_v5
  let main_c_1 : IVec S_ 1 := constantI S_ 1 1#1
  let main_v7 : IVec S_ 1 := (fun x v => Host.reduce IntOp.andi x v reducesTo_S1x64x4_S_d0_1_2 h_S_) main_v6 main_c_1
  let main_v8 : IVec S_ 1 := andi main_v3 main_v7
  let main_v9 : FVec F S1x4x2 .f32 := Host.absf main_arg13
  let main_cst_2 : FVec F S_ .f32 := constant S_ .f32 0x7F800000#32
  let main_v10 : FVec F S1x4x2 .f32 := broadcastInDim S1x4x2 ![] bcast_S_S1x4x2 main_cst_2
  let main_v11 : IVec S1x4x2 1 := cmpf .olt main_v9 main_v10
  let main_c_3 : IVec S_ 1 := constantI S_ 1 1#1
  let main_v12 : IVec S_ 1 := (fun x v => Host.reduce IntOp.andi x v reducesTo_S1x4x2_S_d0_1_2 h_S_) main_v11 main_c_3
  let main_v13 : IVec S_ 1 := andi main_v8 main_v12
  let main_v14 : FVec F S1x2x1 .f32 := Host.absf main_arg14
  let main_cst_4 : FVec F S_ .f32 := constant S_ .f32 0x7F800000#32
  let main_v15 : FVec F S1x2x1 .f32 := broadcastInDim S1x2x1 ![] bcast_S_S1x2x1 main_cst_4
  let main_v16 : IVec S1x2x1 1 := cmpf .olt main_v14 main_v15
  fn_part1 (F := F) main_arg15 main_arg16 main_arg17 main_v13 main_v16
-- ==== Kernel.lean ====
abbrev S512x16x28x28 : Shape := ⟨4, ![512, 16, 28, 28]⟩
abbrev S4x784x512 : Shape := ⟨3, ![4, 784, 512]⟩
abbrev S4x512 : Shape := ⟨2, ![4, 512]⟩
abbrev S4x512x512 : Shape := ⟨3, ![4, 512, 512]⟩
abbrev S4x512x16 : Shape := ⟨3, ![4, 512, 16]⟩
abbrev S4x16 : Shape := ⟨2, ![4, 16]⟩
abbrev S8x2x128 : Shape := ⟨3, ![8, 2, 128]⟩
abbrev S8x128 : Shape := ⟨2, ![8, 128]⟩
abbrev S8x128x1 : Shape := ⟨3, ![8, 128, 1]⟩
abbrev S8x1 : Shape := ⟨2, ![8, 1]⟩
abbrev S1x16x4 : Shape := ⟨3, ![1, 16, 4]⟩
abbrev S1x64x4 : Shape := ⟨3, ![1, 64, 4]⟩
abbrev S1x4x2 : Shape := ⟨3, ![1, 4, 2]⟩
abbrev S1x2x1 : Shape := ⟨3, ![1, 2, 1]⟩
abbrev S1x4x4 : Shape := ⟨3, ![1, 4, 4]⟩
abbrev S1x8x4 : Shape := ⟨3, ![1, 8, 4]⟩
abbrev S1x8x2 : Shape := ⟨3, ![1, 8, 2]⟩
abbrev S512x16x784 : Shape := ⟨3, ![512, 16, 784]⟩
abbrev S512x2 : Shape := ⟨2, ![512, 2]⟩
abbrev S4x512x784 : Shape := ⟨3, ![4, 512, 784]⟩
abbrev S4 : Shape := ⟨1, ![4]⟩
abbrev S12 : Shape := ⟨1, ![12]⟩
abbrev S1x1x1 : Shape := ⟨3, ![1, 1, 1]⟩
abbrev S1 : Shape := ⟨1, ![1]⟩
abbrev S_ : Shape := ⟨0, ![]⟩
abbrev S1x512x784 : Shape := ⟨3, ![1, 512, 784]⟩
abbrev S512x784 : Shape := ⟨2, ![512, 784]⟩
abbrev S512x1x784 : Shape := ⟨3, ![512, 1, 784]⟩
abbrev S1x784x512 : Shape := ⟨3, ![1, 784, 512]⟩
abbrev S784x512 : Shape := ⟨2, ![784, 512]⟩
abbrev S1x512x512 : Shape := ⟨3, ![1, 512, 512]⟩
abbrev S512x512 : Shape := ⟨2, ![512, 512]⟩
abbrev S1x512x16 : Shape := ⟨3, ![1, 512, 16]⟩
abbrev S512x16 : Shape := ⟨2, ![512, 16]⟩
abbrev S4x1 : Shape := ⟨2, ![4, 1]⟩
abbrev S512 : Shape := ⟨1, ![512]⟩
abbrev S1x512 : Shape := ⟨2, ![1, 512]⟩
abbrev S16 : Shape := ⟨1, ![16]⟩
abbrev S1x16 : Shape := ⟨2, ![1, 16]⟩
abbrev S512x64 : Shape := ⟨2, ![512, 64]⟩
abbrev S64x1 : Shape := ⟨2, ![64, 1]⟩
abbrev S64x8 : Shape := ⟨2, ![64, 8]⟩
abbrev S512x8 : Shape := ⟨2, ![512, 8]⟩
abbrev S512x1 : Shape := ⟨2, ![512, 1]⟩
abbrev S8x1x1 : Shape := ⟨3, ![8, 1, 1]⟩
abbrev S2x128 : Shape := ⟨2, ![2, 128]⟩
abbrev S128 : Shape := ⟨1, ![128]⟩
abbrev S1x128 : Shape := ⟨2, ![1, 128]⟩
abbrev S128x1 : Shape := ⟨2, ![128, 1]⟩
abbrev S1x1 : Shape := ⟨2, ![1, 1]⟩
abbrev S512x128 : Shape := ⟨2, ![512, 128]⟩
abbrev S512x4 : Shape := ⟨2, ![512, 4]⟩
abbrev S1x4 : Shape := ⟨2, ![1, 4]⟩
abbrev S2x1 : Shape := ⟨2, ![2, 1]⟩
abbrev S1x2 : Shape := ⟨2, ![1, 2]⟩

abbrev nBuf : Space → Nat
  | .hbm => 20
  | .vmem => 12
  | .smem => 7
  | _ => 0

abbrev bufTy : (tb : Table) → Fin (tcTables nBuf tb) → BufTy
  | .hbm, ⟨0, _⟩ => ⟨S512x16x28x28, .f32⟩
  | .hbm, ⟨1, _⟩ => ⟨S4x784x512, .f32⟩
  | .hbm, ⟨2, _⟩ => ⟨S4x512, .f32⟩
  | .hbm, ⟨3, _⟩ => ⟨S4x512x512, .f32⟩
  | .hbm, ⟨4, _⟩ => ⟨S4x512, .f32⟩
  | .hbm, ⟨5, _⟩ => ⟨S4x512x16, .f32⟩
  | .hbm, ⟨6, _⟩ => ⟨S4x16, .f32⟩
  | .hbm, ⟨7, _⟩ => ⟨S8x2x128, .f32⟩
  | .hbm, ⟨8, _⟩ => ⟨S8x128, .f32⟩
  | .hbm, ⟨9, _⟩ => ⟨S8x128x1, .f32⟩
  | .hbm, ⟨10, _⟩ => ⟨S8x1, .f32⟩
  | .hbm, ⟨11, _⟩ => ⟨S1x16x4, .f32⟩
  | .hbm, ⟨12, _⟩ => ⟨S1x64x4, .f32⟩
  | .hbm, ⟨13, _⟩ => ⟨S1x4x2, .f32⟩
  | .hbm, ⟨14, _⟩ => ⟨S1x2x1, .f32⟩
  | .hbm, ⟨15, _⟩ => ⟨S1x4x4, .f32⟩
  | .hbm, ⟨16, _⟩ => ⟨S1x8x4, .f32⟩
  | .hbm, ⟨17, _⟩ => ⟨S1x8x2, .f32⟩
  | .hbm, ⟨18, _⟩ => ⟨S512x16x784, .f32⟩
  | .hbm, ⟨19, _⟩ => ⟨S512x2, .f32⟩
  | .local _ .vmem, ⟨0, _⟩ => ⟨S4x512, .f32⟩
  | .local _ .vmem, ⟨1, _⟩ => ⟨S4x512, .f32⟩
  | .local _ .vmem, ⟨2, _⟩ => ⟨S4x16, .f32⟩
  | .local _ .vmem, ⟨3, _⟩ => ⟨S8x2x128, .f32⟩
  | .local _ .vmem, ⟨4, _⟩ => ⟨S8x128, .f32⟩
  | .local _ .vmem, ⟨5, _⟩ => ⟨S8x128x1, .f32⟩
  | .local _ .vmem, ⟨6, _⟩ => ⟨S8x1, .f32⟩
  | .local _ .vmem, ⟨7, _⟩ => ⟨S512x2, .f32⟩
  | .local _ .vmem, ⟨8, _⟩ => ⟨S4x512x784, .f32⟩
  | .local _ .vmem, ⟨9, _⟩ => ⟨S4x784x512, .f32⟩
  | .local _ .vmem, ⟨10, _⟩ => ⟨S4x512x512, .f32⟩
  | .local _ .vmem, ⟨11, _⟩ => ⟨S4x512x16, .f32⟩
  | .local _ .smem, ⟨0, _⟩ => ⟨S1x16x4, .f32⟩
  | .local _ .smem, ⟨1, _⟩ => ⟨S1x4x4, .f32⟩
  | .local _ .smem, ⟨2, _⟩ => ⟨S1x64x4, .f32⟩
  | .local _ .smem, ⟨3, _⟩ => ⟨S1x4x2, .f32⟩
  | .local _ .smem, ⟨4, _⟩ => ⟨S1x2x1, .f32⟩
  | .local _ .smem, ⟨5, _⟩ => ⟨S1x8x4, .f32⟩
  | .local _ .smem, ⟨6, _⟩ => ⟨S1x8x2, .f32⟩
  | _, _ => ⟨S512x16x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg14_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_stg1_0 : Ref sig .tc := ⟨.smem, 1, rfl⟩
abbrev cc0_stg9_0 : Ref sig .tc := ⟨.smem, 2, rfl⟩
abbrev cc0_stg10_0 : Ref sig .tc := ⟨.smem, 3, rfl⟩
abbrev cc0_stg11_0 : Ref sig .tc := ⟨.smem, 4, rfl⟩
abbrev cc0_stg12_0 : Ref sig .tc := ⟨.smem, 5, rfl⟩
abbrev cc0_stg13_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

def k0_off1 (v2 : BitVec 1) (v6 : BitVec 1) (v10 : BitVec 1) (v14 : BitVec 1) (v18 : BitVec 1) (v22 : BitVec 1) (v26 : BitVec 1) (v30 : BitVec 1) (v34 : BitVec 1) (v38 : BitVec 1) (v42 : BitVec 1) (v46 : BitVec 1) (v50 : BitVec 1) (v54 : BitVec 1) (v58 : BitVec 1) : Fin 3 → Nat :=
  let c0_i32_292 : BitVec 32 := 0#32
  let c15_i32 : BitVec 32 := 15#32
  let c14_i32 : BitVec 32 := 14#32
  let c13_i32 : BitVec 32 := 13#32
  let c12_i32 : BitVec 32 := 12#32
  let c11_i32 : BitVec 32 := 11#32
  let c10_i32 : BitVec 32 := 10#32
  let c9_i32 : BitVec 32 := 9#32
  let c8_i32 : BitVec 32 := 8#32
  let c7_i32 : BitVec 32 := 7#32
  let c6_i32 : BitVec 32 := 6#32
  let c5_i32 : BitVec 32 := 5#32
  let c4_i32 : BitVec 32 := 4#32
  let c3_i32 : BitVec 32 := 3#32
  let c2_i32 : BitVec 32 := 2#32
  let c1_i32 : BitVec 32 := 1#32
  let c0_i32 : BitVec 32 := 0#32
  let v3 : BitVec 32 := Scalar.select v2 c1_i32 c0_i32
  let v7 : BitVec 32 := Scalar.select v6 c2_i32 v3
  let v11 : BitVec 32 := Scalar.select v10 c3_i32 v7
  let v15 : BitVec 32 := Scalar.select v14 c4_i32 v11
  let v19 : BitVec 32 := Scalar.select v18 c5_i32 v15
  let v23 : BitVec 32 := Scalar.select v22 c6_i32 v19
  let v27 : BitVec 32 := Scalar.select v26 c7_i32 v23
  let v31 : BitVec 32 := Scalar.select v30 c8_i32 v27
  let v35 : BitVec 32 := Scalar.select v34 c9_i32 v31
  let v39 : BitVec 32 := Scalar.select v38 c10_i32 v35
  let v43 : BitVec 32 := Scalar.select v42 c11_i32 v39
  let v47 : BitVec 32 := Scalar.select v46 c12_i32 v43
  let v51 : BitVec 32 := Scalar.select v50 c13_i32 v47
  let v55 : BitVec 32 := Scalar.select v54 c14_i32 v51
  let v59 : BitVec 32 := Scalar.select v58 c15_i32 v55
  let c0_i32_293 : BitVec 32 := 0#32
  ![0, v59.toNat, 0]

def k0_off2 (v242 : BitVec 1) (v246 : BitVec 1) (v250 : BitVec 1) : Fin 3 → Nat :=
  let c3_i32_239 : BitVec 32 := 3#32
  let c2_i32_235 : BitVec 32 := 2#32
  let c1_i32_230 : BitVec 32 := 1#32
  let c0_i32_231 : BitVec 32 := 0#32
  let v243 : BitVec 32 := Scalar.select v242 c1_i32_230 c0_i32_231
  let v247 : BitVec 32 := Scalar.select v246 c2_i32_235 v243
  let v251 : BitVec 32 := Scalar.select v250 c3_i32_239 v247
  let c0_i32_298 : BitVec 32 := 0#32
  let c0_i32_299 : BitVec 32 := 0#32
  ![v251.toNat, 0, 0]

def k0_off3 (v242 : BitVec 1) (v246 : BitVec 1) (v250 : BitVec 1) : Fin 3 → Nat :=
  let c3_i32_239 : BitVec 32 := 3#32
  let c2_i32_235 : BitVec 32 := 2#32
  let c1_i32_230 : BitVec 32 := 1#32
  let c0_i32_231 : BitVec 32 := 0#32
  let v243 : BitVec 32 := Scalar.select v242 c1_i32_230 c0_i32_231
  let v247 : BitVec 32 := Scalar.select v246 c2_i32_235 v243
  let v251 : BitVec 32 := Scalar.select v250 c3_i32_239 v247
  let c0_i32_304 : BitVec 32 := 0#32
  let c0_i32_305 : BitVec 32 := 0#32
  ![v251.toNat, 0, 0]
def k0_off4 (v242 : BitVec 1) (v246 : BitVec 1) (v250 : BitVec 1) : Fin 3 → Nat :=
  let c3_i32_239 : BitVec 32 := 3#32
  let c2_i32_235 : BitVec 32 := 2#32
  let c1_i32_230 : BitVec 32 := 1#32
  let c0_i32_231 : BitVec 32 := 0#32
  let v243 : BitVec 32 := Scalar.select v242 c1_i32_230 c0_i32_231
  let v247 : BitVec 32 := Scalar.select v246 c2_i32_235 v243
  let v251 : BitVec 32 := Scalar.select v250 c3_i32_239 v247
  let c0_i32_310 : BitVec 32 := 0#32
  let c0_i32_311 : BitVec 32 := 0#32
  ![v251.toNat, 0, 0]
def k0_off5 (v62 : BitVec 1) (v66 : BitVec 1) (v70 : BitVec 1) (v74 : BitVec 1) (v78 : BitVec 1) (v82 : BitVec 1) (v86 : BitVec 1) (v90 : BitVec 1) (v94 : BitVec 1) (v98 : BitVec 1) (v102 : BitVec 1) (v106 : BitVec 1) (v110 : BitVec 1) (v114 : BitVec 1) (v118 : BitVec 1) : Fin 3 → Nat :=
  let c0_i32_316 : BitVec 32 := 0#32
  let c15_i32_95 : BitVec 32 := 15#32
  let c14_i32_91 : BitVec 32 := 14#32
  let c13_i32_87 : BitVec 32 := 13#32
  let c12_i32_83 : BitVec 32 := 12#32
  let c11_i32_79 : BitVec 32 := 11#32
  let c10_i32_75 : BitVec 32 := 10#32
  let c9_i32_71 : BitVec 32 := 9#32
  let c8_i32_67 : BitVec 32 := 8#32
  let c7_i32_63 : BitVec 32 := 7#32
  let c6_i32_59 : BitVec 32 := 6#32
  let c5_i32_55 : BitVec 32 := 5#32
  let c4_i32_51 : BitVec 32 := 4#32
  let c3_i32_47 : BitVec 32 := 3#32
  let c2_i32_43 : BitVec 32 := 2#32
  let c1_i32_38 : BitVec 32 := 1#32
  let c0_i32_39 : BitVec 32 := 0#32
  let v63 : BitVec 32 := Scalar.select v62 c1_i32_38 c0_i32_39
  let v67 : BitVec 32 := Scalar.select v66 c2_i32_43 v63
  let v71 : BitVec 32 := Scalar.select v70 c3_i32_47 v67
  let v75 : BitVec 32 := Scalar.select v74 c4_i32_51 v71
  let v79 : BitVec 32 := Scalar.select v78 c5_i32_55 v75
  let v83 : BitVec 32 := Scalar.select v82 c6_i32_59 v79
  let v87 : BitVec 32 := Scalar.select v86 c7_i32_63 v83
  let v91 : BitVec 32 := Scalar.select v90 c8_i32_67 v87
  let v95 : BitVec 32 := Scalar.select v94 c9_i32_71 v91
  let v99 : BitVec 32 := Scalar.select v98 c10_i32_75 v95
  let v103 : BitVec 32 := Scalar.select v102 c11_i32_79 v99
  let v107 : BitVec 32 := Scalar.select v106 c12_i32_83 v103
  let v111 : BitVec 32 := Scalar.select v110 c13_i32_87 v107
  let v115 : BitVec 32 := Scalar.select v114 c14_i32_91 v111
  let v119 : BitVec 32 := Scalar.select v118 c15_i32_95 v115
  let c0_i32_317 : BitVec 32 := 0#32
  ![0, v119.toNat, 0]

def k0_off6 (v254 : BitVec 1) (v258 : BitVec 1) (v262 : BitVec 1) : Fin 3 → Nat :=
  let c3_i32_255 : BitVec 32 := 3#32
  let c2_i32_251 : BitVec 32 := 2#32
  let c1_i32_246 : BitVec 32 := 1#32
  let c0_i32_247 : BitVec 32 := 0#32
  let v255 : BitVec 32 := Scalar.select v254 c1_i32_246 c0_i32_247
  let v259 : BitVec 32 := Scalar.select v258 c2_i32_251 v255
  let v263 : BitVec 32 := Scalar.select v262 c3_i32_255 v259
  let c0_i32_322 : BitVec 32 := 0#32
  let c0_i32_323 : BitVec 32 := 0#32
  ![v263.toNat, 0, 0]

def k0_off7 (v254 : BitVec 1) (v258 : BitVec 1) (v262 : BitVec 1) : Fin 3 → Nat :=
  let c3_i32_255 : BitVec 32 := 3#32
  let c2_i32_251 : BitVec 32 := 2#32
  let c1_i32_246 : BitVec 32 := 1#32
  let c0_i32_247 : BitVec 32 := 0#32
  let v255 : BitVec 32 := Scalar.select v254 c1_i32_246 c0_i32_247
  let v259 : BitVec 32 := Scalar.select v258 c2_i32_251 v255
  let v263 : BitVec 32 := Scalar.select v262 c3_i32_255 v259
  let c0_i32_328 : BitVec 32 := 0#32
  let c0_i32_329 : BitVec 32 := 0#32
  ![v263.toNat, 0, 0]
def k0_off8 (v254 : BitVec 1) (v258 : BitVec 1) (v262 : BitVec 1) : Fin 3 → Nat :=
  let c3_i32_255 : BitVec 32 := 3#32
  let c2_i32_251 : BitVec 32 := 2#32
  let c1_i32_246 : BitVec 32 := 1#32
  let c0_i32_247 : BitVec 32 := 0#32
  let v255 : BitVec 32 := Scalar.select v254 c1_i32_246 c0_i32_247
  let v259 : BitVec 32 := Scalar.select v258 c2_i32_251 v255
  let v263 : BitVec 32 := Scalar.select v262 c3_i32_255 v259
  let c0_i32_334 : BitVec 32 := 0#32
  let c0_i32_335 : BitVec 32 := 0#32
  ![v263.toNat, 0, 0]
def k0_off9 (v122 : BitVec 1) (v126 : BitVec 1) (v130 : BitVec 1) (v134 : BitVec 1) (v138 : BitVec 1) (v142 : BitVec 1) (v146 : BitVec 1) (v150 : BitVec 1) (v154 : BitVec 1) (v158 : BitVec 1) (v162 : BitVec 1) (v166 : BitVec 1) (v170 : BitVec 1) (v174 : BitVec 1) (v178 : BitVec 1) : Fin 3 → Nat :=
  let c0_i32_340 : BitVec 32 := 0#32
  let c15_i32_159 : BitVec 32 := 15#32
  let c14_i32_155 : BitVec 32 := 14#32
  let c13_i32_151 : BitVec 32 := 13#32
  let c12_i32_147 : BitVec 32 := 12#32
  let c11_i32_143 : BitVec 32 := 11#32
  let c10_i32_139 : BitVec 32 := 10#32
  let c9_i32_135 : BitVec 32 := 9#32
  let c8_i32_131 : BitVec 32 := 8#32
  let c7_i32_127 : BitVec 32 := 7#32
  let c6_i32_123 : BitVec 32 := 6#32
  let c5_i32_119 : BitVec 32 := 5#32
  let c4_i32_115 : BitVec 32 := 4#32
  let c3_i32_111 : BitVec 32 := 3#32
  let c2_i32_107 : BitVec 32 := 2#32
  let c1_i32_102 : BitVec 32 := 1#32
  let c0_i32_103 : BitVec 32 := 0#32
  let v123 : BitVec 32 := Scalar.select v122 c1_i32_102 c0_i32_103
  let v127 : BitVec 32 := Scalar.select v126 c2_i32_107 v123
  let v131 : BitVec 32 := Scalar.select v130 c3_i32_111 v127
  let v135 : BitVec 32 := Scalar.select v134 c4_i32_115 v131
  let v139 : BitVec 32 := Scalar.select v138 c5_i32_119 v135
  let v143 : BitVec 32 := Scalar.select v142 c6_i32_123 v139
  let v147 : BitVec 32 := Scalar.select v146 c7_i32_127 v143
  let v151 : BitVec 32 := Scalar.select v150 c8_i32_131 v147
  let v155 : BitVec 32 := Scalar.select v154 c9_i32_135 v151
  let v159 : BitVec 32 := Scalar.select v158 c10_i32_139 v155
  let v163 : BitVec 32 := Scalar.select v162 c11_i32_143 v159
  let v167 : BitVec 32 := Scalar.select v166 c12_i32_147 v163
  let v171 : BitVec 32 := Scalar.select v170 c13_i32_151 v167
  let v175 : BitVec 32 := Scalar.select v174 c14_i32_155 v171
  let v179 : BitVec 32 := Scalar.select v178 c15_i32_159 v175
  let c0_i32_341 : BitVec 32 := 0#32
  ![0, v179.toNat, 0]

def k0_off10 (v266 : BitVec 1) (v270 : BitVec 1) (v274 : BitVec 1) : Fin 3 → Nat :=
  let c3_i32_271 : BitVec 32 := 3#32
  let c2_i32_267 : BitVec 32 := 2#32
  let c1_i32_262 : BitVec 32 := 1#32
  let c0_i32_263 : BitVec 32 := 0#32
  let v267 : BitVec 32 := Scalar.select v266 c1_i32_262 c0_i32_263
  let v271 : BitVec 32 := Scalar.select v270 c2_i32_267 v267
  let v275 : BitVec 32 := Scalar.select v274 c3_i32_271 v271
  let c0_i32_346 : BitVec 32 := 0#32
  let c0_i32_347 : BitVec 32 := 0#32
  ![v275.toNat, 0, 0]

def k0_off11 (v266 : BitVec 1) (v270 : BitVec 1) (v274 : BitVec 1) : Fin 3 → Nat :=
  let c3_i32_271 : BitVec 32 := 3#32
  let c2_i32_267 : BitVec 32 := 2#32
  let c1_i32_262 : BitVec 32 := 1#32
  let c0_i32_263 : BitVec 32 := 0#32
  let v267 : BitVec 32 := Scalar.select v266 c1_i32_262 c0_i32_263
  let v271 : BitVec 32 := Scalar.select v270 c2_i32_267 v267
  let v275 : BitVec 32 := Scalar.select v274 c3_i32_271 v271
  let c0_i32_352 : BitVec 32 := 0#32
  let c0_i32_353 : BitVec 32 := 0#32
  ![v275.toNat, 0, 0]
def k0_off12 (v266 : BitVec 1) (v270 : BitVec 1) (v274 : BitVec 1) : Fin 3 → Nat :=
  let c3_i32_271 : BitVec 32 := 3#32
  let c2_i32_267 : BitVec 32 := 2#32
  let c1_i32_262 : BitVec 32 := 1#32
  let c0_i32_263 : BitVec 32 := 0#32
  let v267 : BitVec 32 := Scalar.select v266 c1_i32_262 c0_i32_263
  let v271 : BitVec 32 := Scalar.select v270 c2_i32_267 v267
  let v275 : BitVec 32 := Scalar.select v274 c3_i32_271 v271
  let c0_i32_358 : BitVec 32 := 0#32
  let c0_i32_359 : BitVec 32 := 0#32
  ![v275.toNat, 0, 0]
def k0_off13 (v182 : BitVec 1) (v186 : BitVec 1) (v190 : BitVec 1) (v194 : BitVec 1) (v198 : BitVec 1) (v202 : BitVec 1) (v206 : BitVec 1) (v210 : BitVec 1) (v214 : BitVec 1) (v218 : BitVec 1) (v222 : BitVec 1) (v226 : BitVec 1) (v230 : BitVec 1) (v234 : BitVec 1) (v238 : BitVec 1) : Fin 3 → Nat :=
  let c0_i32_364 : BitVec 32 := 0#32
  let c15_i32_223 : BitVec 32 := 15#32
  let c14_i32_219 : BitVec 32 := 14#32
  let c13_i32_215 : BitVec 32 := 13#32
  let c12_i32_211 : BitVec 32 := 12#32
  let c11_i32_207 : BitVec 32 := 11#32
  let c10_i32_203 : BitVec 32 := 10#32
  let c9_i32_199 : BitVec 32 := 9#32
  let c8_i32_195 : BitVec 32 := 8#32
  let c7_i32_191 : BitVec 32 := 7#32
  let c6_i32_187 : BitVec 32 := 6#32
  let c5_i32_183 : BitVec 32 := 5#32
  let c4_i32_179 : BitVec 32 := 4#32
  let c3_i32_175 : BitVec 32 := 3#32
  let c2_i32_171 : BitVec 32 := 2#32
  let c1_i32_166 : BitVec 32 := 1#32
  let c0_i32_167 : BitVec 32 := 0#32
  let v183 : BitVec 32 := Scalar.select v182 c1_i32_166 c0_i32_167
  let v187 : BitVec 32 := Scalar.select v186 c2_i32_171 v183
  let v191 : BitVec 32 := Scalar.select v190 c3_i32_175 v187
  let v195 : BitVec 32 := Scalar.select v194 c4_i32_179 v191
  let v199 : BitVec 32 := Scalar.select v198 c5_i32_183 v195
  let v203 : BitVec 32 := Scalar.select v202 c6_i32_187 v199
  let v207 : BitVec 32 := Scalar.select v206 c7_i32_191 v203
  let v211 : BitVec 32 := Scalar.select v210 c8_i32_195 v207
  let v215 : BitVec 32 := Scalar.select v214 c9_i32_199 v211
  let v219 : BitVec 32 := Scalar.select v218 c10_i32_203 v215
  let v223 : BitVec 32 := Scalar.select v222 c11_i32_207 v219
  let v227 : BitVec 32 := Scalar.select v226 c12_i32_211 v223
  let v231 : BitVec 32 := Scalar.select v230 c13_i32_215 v227
  let v235 : BitVec 32 := Scalar.select v234 c14_i32_219 v231
  let v239 : BitVec 32 := Scalar.select v238 c15_i32_223 v235
  let c0_i32_365 : BitVec 32 := 0#32
  ![0, v239.toNat, 0]

def k0_off14 (v278 : BitVec 1) (v282 : BitVec 1) (v286 : BitVec 1) : Fin 3 → Nat :=
  let c3_i32_287 : BitVec 32 := 3#32
  let c2_i32_283 : BitVec 32 := 2#32
  let c1_i32_278 : BitVec 32 := 1#32
  let c0_i32_279 : BitVec 32 := 0#32
  let v279 : BitVec 32 := Scalar.select v278 c1_i32_278 c0_i32_279
  let v283 : BitVec 32 := Scalar.select v282 c2_i32_283 v279
  let v287 : BitVec 32 := Scalar.select v286 c3_i32_287 v283
  let c0_i32_370 : BitVec 32 := 0#32
  let c0_i32_371 : BitVec 32 := 0#32
  ![v287.toNat, 0, 0]

def k0_off15 (v278 : BitVec 1) (v282 : BitVec 1) (v286 : BitVec 1) : Fin 3 → Nat :=
  let c3_i32_287 : BitVec 32 := 3#32
  let c2_i32_283 : BitVec 32 := 2#32
  let c1_i32_278 : BitVec 32 := 1#32
  let c0_i32_279 : BitVec 32 := 0#32
  let v279 : BitVec 32 := Scalar.select v278 c1_i32_278 c0_i32_279
  let v283 : BitVec 32 := Scalar.select v282 c2_i32_283 v279
  let v287 : BitVec 32 := Scalar.select v286 c3_i32_287 v283
  let c0_i32_376 : BitVec 32 := 0#32
  let c0_i32_377 : BitVec 32 := 0#32
  ![v287.toNat, 0, 0]
def k0_off16 (v278 : BitVec 1) (v282 : BitVec 1) (v286 : BitVec 1) : Fin 3 → Nat :=
  let c3_i32_287 : BitVec 32 := 3#32
  let c2_i32_283 : BitVec 32 := 2#32
  let c1_i32_278 : BitVec 32 := 1#32
  let c0_i32_279 : BitVec 32 := 0#32
  let v279 : BitVec 32 := Scalar.select v278 c1_i32_278 c0_i32_279
  let v283 : BitVec 32 := Scalar.select v282 c2_i32_283 v279
  let v287 : BitVec 32 := Scalar.select v286 c3_i32_287 v283
  let c0_i32_382 : BitVec 32 := 0#32
  let c0_i32_383 : BitVec 32 := 0#32
  ![v287.toNat, 0, 0]

def k0_chk8 (v278 : BitVec 1) (v282 : BitVec 1) (v286 : BitVec 1) : Prop :=
  (∀ a, (k0_off14 v278 v282 v286) a + S1x784x512.size a ≤ S4x784x512.size a) ∧
  (∀ a, (k0_off15 v278 v282 v286) a + S1x512x512.size a ≤ S4x512x512.size a) ∧
  (∀ a, (k0_off16 v278 v282 v286) a + S1x512x16.size a ≤ S4x512x16.size a)
theorem k0_off14_inb : ∀ (v278 : BitVec 1) (v282 : BitVec 1) (v286 : BitVec 1) (k0_hw8 : k0_chk8 v278 v282 v286), ∀ a, (k0_off14 v278 v282 v286) a + S1x784x512.size a ≤ S4x784x512.size a := fun v278 v282 v286 k0_hw8 => k0_hw8.1
theorem k0_off15_inb : ∀ (v278 : BitVec 1) (v282 : BitVec 1) (v286 : BitVec 1) (k0_hw8 : k0_chk8 v278 v282 v286), ∀ a, (k0_off15 v278 v282 v286) a + S1x512x512.size a ≤ S4x512x512.size a := fun v278 v282 v286 k0_hw8 => k0_hw8.2.1
theorem k0_off16_inb : ∀ (v278 : BitVec 1) (v282 : BitVec 1) (v286 : BitVec 1) (k0_hw8 : k0_chk8 v278 v282 v286), ∀ a, (k0_off16 v278 v282 v286) a + S1x512x16.size a ≤ S4x512x16.size a := fun v278 v282 v286 k0_hw8 => k0_hw8.2.2

def k0_off17 (v2 : BitVec 1) (v6 : BitVec 1) (v10 : BitVec 1) (v14 : BitVec 1) (v18 : BitVec 1) (v22 : BitVec 1) (v26 : BitVec 1) (v30 : BitVec 1) (v34 : BitVec 1) (v38 : BitVec 1) (v42 : BitVec 1) (v46 : BitVec 1) (v50 : BitVec 1) (v54 : BitVec 1) (v58 : BitVec 1) : Fin 3 → Nat :=
  let c0_i32_396 : BitVec 32 := 0#32
  let c15_i32 : BitVec 32 := 15#32
  let c14_i32 : BitVec 32 := 14#32
  let c13_i32 : BitVec 32 := 13#32
  let c12_i32 : BitVec 32 := 12#32
  let c11_i32 : BitVec 32 := 11#32
  let c10_i32 : BitVec 32 := 10#32
  let c9_i32 : BitVec 32 := 9#32
  let c8_i32 : BitVec 32 := 8#32
  let c7_i32 : BitVec 32 := 7#32
  let c6_i32 : BitVec 32 := 6#32
  let c5_i32 : BitVec 32 := 5#32
  let c4_i32 : BitVec 32 := 4#32
  let c3_i32 : BitVec 32 := 3#32
  let c2_i32 : BitVec 32 := 2#32
  let c1_i32 : BitVec 32 := 1#32
  let c0_i32 : BitVec 32 := 0#32
  let v3 : BitVec 32 := Scalar.select v2 c1_i32 c0_i32
  let v7 : BitVec 32 := Scalar.select v6 c2_i32 v3
  let v11 : BitVec 32 := Scalar.select v10 c3_i32 v7
  let v15 : BitVec 32 := Scalar.select v14 c4_i32 v11
  let v19 : BitVec 32 := Scalar.select v18 c5_i32 v15
  let v23 : BitVec 32 := Scalar.select v22 c6_i32 v19
  let v27 : BitVec 32 := Scalar.select v26 c7_i32 v23
  let v31 : BitVec 32 := Scalar.select v30 c8_i32 v27
  let v35 : BitVec 32 := Scalar.select v34 c9_i32 v31
  let v39 : BitVec 32 := Scalar.select v38 c10_i32 v35
  let v43 : BitVec 32 := Scalar.select v42 c11_i32 v39
  let v47 : BitVec 32 := Scalar.select v46 c12_i32 v43
  let v51 : BitVec 32 := Scalar.select v50 c13_i32 v47
  let v55 : BitVec 32 := Scalar.select v54 c14_i32 v51
  let v59 : BitVec 32 := Scalar.select v58 c15_i32 v55
  let c0_i32_397 : BitVec 32 := 0#32
  ![0, v59.toNat, 0]

def k0_chk1 (v2 : BitVec 1) (v6 : BitVec 1) (v10 : BitVec 1) (v14 : BitVec 1) (v18 : BitVec 1) (v22 : BitVec 1) (v26 : BitVec 1) (v30 : BitVec 1) (v34 : BitVec 1) (v38 : BitVec 1) (v42 : BitVec 1) (v46 : BitVec 1) (v50 : BitVec 1) (v54 : BitVec 1) (v58 : BitVec 1) : Prop :=
  (∀ a, (k0_off1 v2 v6 v10 v14 v18 v22 v26 v30 v34 v38 v42 v46 v50 v54 v58) a + S512x1x784.size a ≤ S512x16x784.size a) ∧
  (∀ a, (k0_off17 v2 v6 v10 v14 v18 v22 v26 v30 v34 v38 v42 v46 v50 v54 v58) a + S512x1x784.size a ≤ S512x16x784.size a)
theorem k0_off1_inb : ∀ (v2 : BitVec 1) (v6 : BitVec 1) (v10 : BitVec 1) (v14 : BitVec 1) (v18 : BitVec 1) (v22 : BitVec 1) (v26 : BitVec 1) (v30 : BitVec 1) (v34 : BitVec 1) (v38 : BitVec 1) (v42 : BitVec 1) (v46 : BitVec 1) (v50 : BitVec 1) (v54 : BitVec 1) (v58 : BitVec 1) (k0_hw1 : k0_chk1 v2 v6 v10 v14 v18 v22 v26 v30 v34 v38 v42 v46 v50 v54 v58), ∀ a, (k0_off1 v2 v6 v10 v14 v18 v22 v26 v30 v34 v38 v42 v46 v50 v54 v58) a + S512x1x784.size a ≤ S512x16x784.size a := fun v2 v6 v10 v14 v18 v22 v26 v30 v34 v38 v42 v46 v50 v54 v58 k0_hw1 => k0_hw1.1
theorem k0_off17_inb : ∀ (v2 : BitVec 1) (v6 : BitVec 1) (v10 : BitVec 1) (v14 : BitVec 1) (v18 : BitVec 1) (v22 : BitVec 1) (v26 : BitVec 1) (v30 : BitVec 1) (v34 : BitVec 1) (v38 : BitVec 1) (v42 : BitVec 1) (v46 : BitVec 1) (v50 : BitVec 1) (v54 : BitVec 1) (v58 : BitVec 1) (k0_hw1 : k0_chk1 v2 v6 v10 v14 v18 v22 v26 v30 v34 v38 v42 v46 v50 v54 v58), ∀ a, (k0_off17 v2 v6 v10 v14 v18 v22 v26 v30 v34 v38 v42 v46 v50 v54 v58) a + S512x1x784.size a ≤ S512x16x784.size a := fun v2 v6 v10 v14 v18 v22 v26 v30 v34 v38 v42 v46 v50 v54 v58 k0_hw1 => k0_hw1.2

def k0_off18 (v242 : BitVec 1) (v246 : BitVec 1) (v250 : BitVec 1) : Fin 3 → Nat :=
  let c3_i32_239 : BitVec 32 := 3#32
  let c2_i32_235 : BitVec 32 := 2#32
  let c1_i32_230 : BitVec 32 := 1#32
  let c0_i32_231 : BitVec 32 := 0#32
  let v243 : BitVec 32 := Scalar.select v242 c1_i32_230 c0_i32_231
  let v247 : BitVec 32 := Scalar.select v246 c2_i32_235 v243
  let v251 : BitVec 32 := Scalar.select v250 c3_i32_239 v247
  let c0_i32_402 : BitVec 32 := 0#32
  let c0_i32_403 : BitVec 32 := 0#32
  ![v251.toNat, 0, 0]
def k0_off19 (v242 : BitVec 1) (v246 : BitVec 1) (v250 : BitVec 1) : Fin 3 → Nat :=
  let c3_i32_239 : BitVec 32 := 3#32
  let c2_i32_235 : BitVec 32 := 2#32
  let c1_i32_230 : BitVec 32 := 1#32
  let c0_i32_231 : BitVec 32 := 0#32
  let v243 : BitVec 32 := Scalar.select v242 c1_i32_230 c0_i32_231
  let v247 : BitVec 32 := Scalar.select v246 c2_i32_235 v243
  let v251 : BitVec 32 := Scalar.select v250 c3_i32_239 v247
  let c0_i32_408 : BitVec 32 := 0#32
  let c0_i32_409 : BitVec 32 := 0#32
  ![v251.toNat, 0, 0]
def k0_off20 (v242 : BitVec 1) (v246 : BitVec 1) (v250 : BitVec 1) : Fin 3 → Nat :=
  let c3_i32_239 : BitVec 32 := 3#32
  let c2_i32_235 : BitVec 32 := 2#32
  let c1_i32_230 : BitVec 32 := 1#32
  let c0_i32_231 : BitVec 32 := 0#32
  let v243 : BitVec 32 := Scalar.select v242 c1_i32_230 c0_i32_231
  let v247 : BitVec 32 := Scalar.select v246 c2_i32_235 v243
  let v251 : BitVec 32 := Scalar.select v250 c3_i32_239 v247
  let c0_i32_414 : BitVec 32 := 0#32
  let c0_i32_415 : BitVec 32 := 0#32
  ![v251.toNat, 0, 0]

def k0_chk2 (v242 : BitVec 1) (v246 : BitVec 1) (v250 : BitVec 1) : Prop :=
  (∀ a, (k0_off2 v242 v246 v250) a + S1x784x512.size a ≤ S4x784x512.size a) ∧
  (∀ a, (k0_off3 v242 v246 v250) a + S1x512x512.size a ≤ S4x512x512.size a) ∧
  (∀ a, (k0_off4 v242 v246 v250) a + S1x512x16.size a ≤ S4x512x16.size a) ∧
  (∀ a, (k0_off18 v242 v246 v250) a + S1x784x512.size a ≤ S4x784x512.size a) ∧
  (∀ a, (k0_off19 v242 v246 v250) a + S1x512x512.size a ≤ S4x512x512.size a) ∧
  (∀ a, (k0_off20 v242 v246 v250) a + S1x512x16.size a ≤ S4x512x16.size a)
theorem k0_off2_inb : ∀ (v242 : BitVec 1) (v246 : BitVec 1) (v250 : BitVec 1) (k0_hw2 : k0_chk2 v242 v246 v250), ∀ a, (k0_off2 v242 v246 v250) a + S1x784x512.size a ≤ S4x784x512.size a := fun v242 v246 v250 k0_hw2 => k0_hw2.1
theorem k0_off3_inb : ∀ (v242 : BitVec 1) (v246 : BitVec 1) (v250 : BitVec 1) (k0_hw2 : k0_chk2 v242 v246 v250), ∀ a, (k0_off3 v242 v246 v250) a + S1x512x512.size a ≤ S4x512x512.size a := fun v242 v246 v250 k0_hw2 => k0_hw2.2.1
theorem k0_off4_inb : ∀ (v242 : BitVec 1) (v246 : BitVec 1) (v250 : BitVec 1) (k0_hw2 : k0_chk2 v242 v246 v250), ∀ a, (k0_off4 v242 v246 v250) a + S1x512x16.size a ≤ S4x512x16.size a := fun v242 v246 v250 k0_hw2 => k0_hw2.2.2.1
theorem k0_off18_inb : ∀ (v242 : BitVec 1) (v246 : BitVec 1) (v250 : BitVec 1) (k0_hw2 : k0_chk2 v242 v246 v250), ∀ a, (k0_off18 v242 v246 v250) a + S1x784x512.size a ≤ S4x784x512.size a := fun v242 v246 v250 k0_hw2 => k0_hw2.2.2.2.1
theorem k0_off19_inb : ∀ (v242 : BitVec 1) (v246 : BitVec 1) (v250 : BitVec 1) (k0_hw2 : k0_chk2 v242 v246 v250), ∀ a, (k0_off19 v242 v246 v250) a + S1x512x512.size a ≤ S4x512x512.size a := fun v242 v246 v250 k0_hw2 => k0_hw2.2.2.2.2.1
theorem k0_off20_inb : ∀ (v242 : BitVec 1) (v246 : BitVec 1) (v250 : BitVec 1) (k0_hw2 : k0_chk2 v242 v246 v250), ∀ a, (k0_off20 v242 v246 v250) a + S1x512x16.size a ≤ S4x512x16.size a := fun v242 v246 v250 k0_hw2 => k0_hw2.2.2.2.2.2

def k0_off21 (v62 : BitVec 1) (v66 : BitVec 1) (v70 : BitVec 1) (v74 : BitVec 1) (v78 : BitVec 1) (v82 : BitVec 1) (v86 : BitVec 1) (v90 : BitVec 1) (v94 : BitVec 1) (v98 : BitVec 1) (v102 : BitVec 1) (v106 : BitVec 1) (v110 : BitVec 1) (v114 : BitVec 1) (v118 : BitVec 1) : Fin 3 → Nat :=
  let c0_i32_446 : BitVec 32 := 0#32
  let c15_i32_95 : BitVec 32 := 15#32
  let c14_i32_91 : BitVec 32 := 14#32
  let c13_i32_87 : BitVec 32 := 13#32
  let c12_i32_83 : BitVec 32 := 12#32
  let c11_i32_79 : BitVec 32 := 11#32
  let c10_i32_75 : BitVec 32 := 10#32
  let c9_i32_71 : BitVec 32 := 9#32
  let c8_i32_67 : BitVec 32 := 8#32
  let c7_i32_63 : BitVec 32 := 7#32
  let c6_i32_59 : BitVec 32 := 6#32
  let c5_i32_55 : BitVec 32 := 5#32
  let c4_i32_51 : BitVec 32 := 4#32
  let c3_i32_47 : BitVec 32 := 3#32
  let c2_i32_43 : BitVec 32 := 2#32
  let c1_i32_38 : BitVec 32 := 1#32
  let c0_i32_39 : BitVec 32 := 0#32
  let v63 : BitVec 32 := Scalar.select v62 c1_i32_38 c0_i32_39
  let v67 : BitVec 32 := Scalar.select v66 c2_i32_43 v63
  let v71 : BitVec 32 := Scalar.select v70 c3_i32_47 v67
  let v75 : BitVec 32 := Scalar.select v74 c4_i32_51 v71
  let v79 : BitVec 32 := Scalar.select v78 c5_i32_55 v75
  let v83 : BitVec 32 := Scalar.select v82 c6_i32_59 v79
  let v87 : BitVec 32 := Scalar.select v86 c7_i32_63 v83
  let v91 : BitVec 32 := Scalar.select v90 c8_i32_67 v87
  let v95 : BitVec 32 := Scalar.select v94 c9_i32_71 v91
  let v99 : BitVec 32 := Scalar.select v98 c10_i32_75 v95
  let v103 : BitVec 32 := Scalar.select v102 c11_i32_79 v99
  let v107 : BitVec 32 := Scalar.select v106 c12_i32_83 v103
  let v111 : BitVec 32 := Scalar.select v110 c13_i32_87 v107
  let v115 : BitVec 32 := Scalar.select v114 c14_i32_91 v111
  let v119 : BitVec 32 := Scalar.select v118 c15_i32_95 v115
  let c0_i32_447 : BitVec 32 := 0#32
  ![0, v119.toNat, 0]

def k0_chk3 (v62 : BitVec 1) (v66 : BitVec 1) (v70 : BitVec 1) (v74 : BitVec 1) (v78 : BitVec 1) (v82 : BitVec 1) (v86 : BitVec 1) (v90 : BitVec 1) (v94 : BitVec 1) (v98 : BitVec 1) (v102 : BitVec 1) (v106 : BitVec 1) (v110 : BitVec 1) (v114 : BitVec 1) (v118 : BitVec 1) : Prop :=
  (∀ a, (k0_off5 v62 v66 v70 v74 v78 v82 v86 v90 v94 v98 v102 v106 v110 v114 v118) a + S512x1x784.size a ≤ S512x16x784.size a) ∧
  (∀ a, (k0_off21 v62 v66 v70 v74 v78 v82 v86 v90 v94 v98 v102 v106 v110 v114 v118) a + S512x1x784.size a ≤ S512x16x784.size a)
theorem k0_off5_inb : ∀ (v62 : BitVec 1) (v66 : BitVec 1) (v70 : BitVec 1) (v74 : BitVec 1) (v78 : BitVec 1) (v82 : BitVec 1) (v86 : BitVec 1) (v90 : BitVec 1) (v94 : BitVec 1) (v98 : BitVec 1) (v102 : BitVec 1) (v106 : BitVec 1) (v110 : BitVec 1) (v114 : BitVec 1) (v118 : BitVec 1) (k0_hw3 : k0_chk3 v62 v66 v70 v74 v78 v82 v86 v90 v94 v98 v102 v106 v110 v114 v118), ∀ a, (k0_off5 v62 v66 v70 v74 v78 v82 v86 v90 v94 v98 v102 v106 v110 v114 v118) a + S512x1x784.size a ≤ S512x16x784.size a := fun v62 v66 v70 v74 v78 v82 v86 v90 v94 v98 v102 v106 v110 v114 v118 k0_hw3 => k0_hw3.1
theorem k0_off21_inb : ∀ (v62 : BitVec 1) (v66 : BitVec 1) (v70 : BitVec 1) (v74 : BitVec 1) (v78 : BitVec 1) (v82 : BitVec 1) (v86 : BitVec 1) (v90 : BitVec 1) (v94 : BitVec 1) (v98 : BitVec 1) (v102 : BitVec 1) (v106 : BitVec 1) (v110 : BitVec 1) (v114 : BitVec 1) (v118 : BitVec 1) (k0_hw3 : k0_chk3 v62 v66 v70 v74 v78 v82 v86 v90 v94 v98 v102 v106 v110 v114 v118), ∀ a, (k0_off21 v62 v66 v70 v74 v78 v82 v86 v90 v94 v98 v102 v106 v110 v114 v118) a + S512x1x784.size a ≤ S512x16x784.size a := fun v62 v66 v70 v74 v78 v82 v86 v90 v94 v98 v102 v106 v110 v114 v118 k0_hw3 => k0_hw3.2

def k0_off22 (v254 : BitVec 1) (v258 : BitVec 1) (v262 : BitVec 1) : Fin 3 → Nat :=
  let c3_i32_255 : BitVec 32 := 3#32
  let c2_i32_251 : BitVec 32 := 2#32
  let c1_i32_246 : BitVec 32 := 1#32
  let c0_i32_247 : BitVec 32 := 0#32
  let v255 : BitVec 32 := Scalar.select v254 c1_i32_246 c0_i32_247
  let v259 : BitVec 32 := Scalar.select v258 c2_i32_251 v255
  let v263 : BitVec 32 := Scalar.select v262 c3_i32_255 v259
  let c0_i32_452 : BitVec 32 := 0#32
  let c0_i32_453 : BitVec 32 := 0#32
  ![v263.toNat, 0, 0]
def k0_off23 (v254 : BitVec 1) (v258 : BitVec 1) (v262 : BitVec 1) : Fin 3 → Nat :=
  let c3_i32_255 : BitVec 32 := 3#32
  let c2_i32_251 : BitVec 32 := 2#32
  let c1_i32_246 : BitVec 32 := 1#32
  let c0_i32_247 : BitVec 32 := 0#32
  let v255 : BitVec 32 := Scalar.select v254 c1_i32_246 c0_i32_247
  let v259 : BitVec 32 := Scalar.select v258 c2_i32_251 v255
  let v263 : BitVec 32 := Scalar.select v262 c3_i32_255 v259
  let c0_i32_458 : BitVec 32 := 0#32
  let c0_i32_459 : BitVec 32 := 0#32
  ![v263.toNat, 0, 0]
def k0_off24 (v254 : BitVec 1) (v258 : BitVec 1) (v262 : BitVec 1) : Fin 3 → Nat :=
  let c3_i32_255 : BitVec 32 := 3#32
  let c2_i32_251 : BitVec 32 := 2#32
  let c1_i32_246 : BitVec 32 := 1#32
  let c0_i32_247 : BitVec 32 := 0#32
  let v255 : BitVec 32 := Scalar.select v254 c1_i32_246 c0_i32_247
  let v259 : BitVec 32 := Scalar.select v258 c2_i32_251 v255
  let v263 : BitVec 32 := Scalar.select v262 c3_i32_255 v259
  let c0_i32_464 : BitVec 32 := 0#32
  let c0_i32_465 : BitVec 32 := 0#32
  ![v263.toNat, 0, 0]

def k0_chk4 (v254 : BitVec 1) (v258 : BitVec 1) (v262 : BitVec 1) : Prop :=
  (∀ a, (k0_off6 v254 v258 v262) a + S1x784x512.size a ≤ S4x784x512.size a) ∧
  (∀ a, (k0_off7 v254 v258 v262) a + S1x512x512.size a ≤ S4x512x512.size a) ∧
  (∀ a, (k0_off8 v254 v258 v262) a + S1x512x16.size a ≤ S4x512x16.size a) ∧
  (∀ a, (k0_off22 v254 v258 v262) a + S1x784x512.size a ≤ S4x784x512.size a) ∧
  (∀ a, (k0_off23 v254 v258 v262) a + S1x512x512.size a ≤ S4x512x512.size a) ∧
  (∀ a, (k0_off24 v254 v258 v262) a + S1x512x16.size a ≤ S4x512x16.size a)
theorem k0_off6_inb : ∀ (v254 : BitVec 1) (v258 : BitVec 1) (v262 : BitVec 1) (k0_hw4 : k0_chk4 v254 v258 v262), ∀ a, (k0_off6 v254 v258 v262) a + S1x784x512.size a ≤ S4x784x512.size a := fun v254 v258 v262 k0_hw4 => k0_hw4.1
theorem k0_off7_inb : ∀ (v254 : BitVec 1) (v258 : BitVec 1) (v262 : BitVec 1) (k0_hw4 : k0_chk4 v254 v258 v262), ∀ a, (k0_off7 v254 v258 v262) a + S1x512x512.size a ≤ S4x512x512.size a := fun v254 v258 v262 k0_hw4 => k0_hw4.2.1
theorem k0_off8_inb : ∀ (v254 : BitVec 1) (v258 : BitVec 1) (v262 : BitVec 1) (k0_hw4 : k0_chk4 v254 v258 v262), ∀ a, (k0_off8 v254 v258 v262) a + S1x512x16.size a ≤ S4x512x16.size a := fun v254 v258 v262 k0_hw4 => k0_hw4.2.2.1
theorem k0_off22_inb : ∀ (v254 : BitVec 1) (v258 : BitVec 1) (v262 : BitVec 1) (k0_hw4 : k0_chk4 v254 v258 v262), ∀ a, (k0_off22 v254 v258 v262) a + S1x784x512.size a ≤ S4x784x512.size a := fun v254 v258 v262 k0_hw4 => k0_hw4.2.2.2.1
theorem k0_off23_inb : ∀ (v254 : BitVec 1) (v258 : BitVec 1) (v262 : BitVec 1) (k0_hw4 : k0_chk4 v254 v258 v262), ∀ a, (k0_off23 v254 v258 v262) a + S1x512x512.size a ≤ S4x512x512.size a := fun v254 v258 v262 k0_hw4 => k0_hw4.2.2.2.2.1
theorem k0_off24_inb : ∀ (v254 : BitVec 1) (v258 : BitVec 1) (v262 : BitVec 1) (k0_hw4 : k0_chk4 v254 v258 v262), ∀ a, (k0_off24 v254 v258 v262) a + S1x512x16.size a ≤ S4x512x16.size a := fun v254 v258 v262 k0_hw4 => k0_hw4.2.2.2.2.2

def k0_off25 (v122 : BitVec 1) (v126 : BitVec 1) (v130 : BitVec 1) (v134 : BitVec 1) (v138 : BitVec 1) (v142 : BitVec 1) (v146 : BitVec 1) (v150 : BitVec 1) (v154 : BitVec 1) (v158 : BitVec 1) (v162 : BitVec 1) (v166 : BitVec 1) (v170 : BitVec 1) (v174 : BitVec 1) (v178 : BitVec 1) : Fin 3 → Nat :=
  let c0_i32_496 : BitVec 32 := 0#32
  let c15_i32_159 : BitVec 32 := 15#32
  let c14_i32_155 : BitVec 32 := 14#32
  let c13_i32_151 : BitVec 32 := 13#32
  let c12_i32_147 : BitVec 32 := 12#32
  let c11_i32_143 : BitVec 32 := 11#32
  let c10_i32_139 : BitVec 32 := 10#32
  let c9_i32_135 : BitVec 32 := 9#32
  let c8_i32_131 : BitVec 32 := 8#32
  let c7_i32_127 : BitVec 32 := 7#32
  let c6_i32_123 : BitVec 32 := 6#32
  let c5_i32_119 : BitVec 32 := 5#32
  let c4_i32_115 : BitVec 32 := 4#32
  let c3_i32_111 : BitVec 32 := 3#32
  let c2_i32_107 : BitVec 32 := 2#32
  let c1_i32_102 : BitVec 32 := 1#32
  let c0_i32_103 : BitVec 32 := 0#32
  let v123 : BitVec 32 := Scalar.select v122 c1_i32_102 c0_i32_103
  let v127 : BitVec 32 := Scalar.select v126 c2_i32_107 v123
  let v131 : BitVec 32 := Scalar.select v130 c3_i32_111 v127
  let v135 : BitVec 32 := Scalar.select v134 c4_i32_115 v131
  let v139 : BitVec 32 := Scalar.select v138 c5_i32_119 v135
  let v143 : BitVec 32 := Scalar.select v142 c6_i32_123 v139
  let v147 : BitVec 32 := Scalar.select v146 c7_i32_127 v143
  let v151 : BitVec 32 := Scalar.select v150 c8_i32_131 v147
  let v155 : BitVec 32 := Scalar.select v154 c9_i32_135 v151
  let v159 : BitVec 32 := Scalar.select v158 c10_i32_139 v155
  let v163 : BitVec 32 := Scalar.select v162 c11_i32_143 v159
  let v167 : BitVec 32 := Scalar.select v166 c12_i32_147 v163
  let v171 : BitVec 32 := Scalar.select v170 c13_i32_151 v167
  let v175 : BitVec 32 := Scalar.select v174 c14_i32_155 v171
  let v179 : BitVec 32 := Scalar.select v178 c15_i32_159 v175
  let c0_i32_497 : BitVec 32 := 0#32
  ![0, v179.toNat, 0]

def k0_chk5 (v122 : BitVec 1) (v126 : BitVec 1) (v130 : BitVec 1) (v134 : BitVec 1) (v138 : BitVec 1) (v142 : BitVec 1) (v146 : BitVec 1) (v150 : BitVec 1) (v154 : BitVec 1) (v158 : BitVec 1) (v162 : BitVec 1) (v166 : BitVec 1) (v170 : BitVec 1) (v174 : BitVec 1) (v178 : BitVec 1) : Prop :=
  (∀ a, (k0_off9 v122 v126 v130 v134 v138 v142 v146 v150 v154 v158 v162 v166 v170 v174 v178) a + S512x1x784.size a ≤ S512x16x784.size a) ∧
  (∀ a, (k0_off25 v122 v126 v130 v134 v138 v142 v146 v150 v154 v158 v162 v166 v170 v174 v178) a + S512x1x784.size a ≤ S512x16x784.size a)
theorem k0_off9_inb : ∀ (v122 : BitVec 1) (v126 : BitVec 1) (v130 : BitVec 1) (v134 : BitVec 1) (v138 : BitVec 1) (v142 : BitVec 1) (v146 : BitVec 1) (v150 : BitVec 1) (v154 : BitVec 1) (v158 : BitVec 1) (v162 : BitVec 1) (v166 : BitVec 1) (v170 : BitVec 1) (v174 : BitVec 1) (v178 : BitVec 1) (k0_hw5 : k0_chk5 v122 v126 v130 v134 v138 v142 v146 v150 v154 v158 v162 v166 v170 v174 v178), ∀ a, (k0_off9 v122 v126 v130 v134 v138 v142 v146 v150 v154 v158 v162 v166 v170 v174 v178) a + S512x1x784.size a ≤ S512x16x784.size a := fun v122 v126 v130 v134 v138 v142 v146 v150 v154 v158 v162 v166 v170 v174 v178 k0_hw5 => k0_hw5.1
theorem k0_off25_inb : ∀ (v122 : BitVec 1) (v126 : BitVec 1) (v130 : BitVec 1) (v134 : BitVec 1) (v138 : BitVec 1) (v142 : BitVec 1) (v146 : BitVec 1) (v150 : BitVec 1) (v154 : BitVec 1) (v158 : BitVec 1) (v162 : BitVec 1) (v166 : BitVec 1) (v170 : BitVec 1) (v174 : BitVec 1) (v178 : BitVec 1) (k0_hw5 : k0_chk5 v122 v126 v130 v134 v138 v142 v146 v150 v154 v158 v162 v166 v170 v174 v178), ∀ a, (k0_off25 v122 v126 v130 v134 v138 v142 v146 v150 v154 v158 v162 v166 v170 v174 v178) a + S512x1x784.size a ≤ S512x16x784.size a := fun v122 v126 v130 v134 v138 v142 v146 v150 v154 v158 v162 v166 v170 v174 v178 k0_hw5 => k0_hw5.2

def k0_off26 (v266 : BitVec 1) (v270 : BitVec 1) (v274 : BitVec 1) : Fin 3 → Nat :=
  let c3_i32_271 : BitVec 32 := 3#32
  let c2_i32_267 : BitVec 32 := 2#32
  let c1_i32_262 : BitVec 32 := 1#32
  let c0_i32_263 : BitVec 32 := 0#32
  let v267 : BitVec 32 := Scalar.select v266 c1_i32_262 c0_i32_263
  let v271 : BitVec 32 := Scalar.select v270 c2_i32_267 v267
  let v275 : BitVec 32 := Scalar.select v274 c3_i32_271 v271
  let c0_i32_502 : BitVec 32 := 0#32
  let c0_i32_503 : BitVec 32 := 0#32
  ![v275.toNat, 0, 0]
def k0_off27 (v266 : BitVec 1) (v270 : BitVec 1) (v274 : BitVec 1) : Fin 3 → Nat :=
  let c3_i32_271 : BitVec 32 := 3#32
  let c2_i32_267 : BitVec 32 := 2#32
  let c1_i32_262 : BitVec 32 := 1#32
  let c0_i32_263 : BitVec 32 := 0#32
  let v267 : BitVec 32 := Scalar.select v266 c1_i32_262 c0_i32_263
  let v271 : BitVec 32 := Scalar.select v270 c2_i32_267 v267
  let v275 : BitVec 32 := Scalar.select v274 c3_i32_271 v271
  let c0_i32_508 : BitVec 32 := 0#32
  let c0_i32_509 : BitVec 32 := 0#32
  ![v275.toNat, 0, 0]
def k0_off28 (v266 : BitVec 1) (v270 : BitVec 1) (v274 : BitVec 1) : Fin 3 → Nat :=
  let c3_i32_271 : BitVec 32 := 3#32
  let c2_i32_267 : BitVec 32 := 2#32
  let c1_i32_262 : BitVec 32 := 1#32
  let c0_i32_263 : BitVec 32 := 0#32
  let v267 : BitVec 32 := Scalar.select v266 c1_i32_262 c0_i32_263
  let v271 : BitVec 32 := Scalar.select v270 c2_i32_267 v267
  let v275 : BitVec 32 := Scalar.select v274 c3_i32_271 v271
  let c0_i32_514 : BitVec 32 := 0#32
  let c0_i32_515 : BitVec 32 := 0#32
  ![v275.toNat, 0, 0]

def k0_chk6 (v266 : BitVec 1) (v270 : BitVec 1) (v274 : BitVec 1) : Prop :=
  (∀ a, (k0_off10 v266 v270 v274) a + S1x784x512.size a ≤ S4x784x512.size a) ∧
  (∀ a, (k0_off11 v266 v270 v274) a + S1x512x512.size a ≤ S4x512x512.size a) ∧
  (∀ a, (k0_off12 v266 v270 v274) a + S1x512x16.size a ≤ S4x512x16.size a) ∧
  (∀ a, (k0_off26 v266 v270 v274) a + S1x784x512.size a ≤ S4x784x512.size a) ∧
  (∀ a, (k0_off27 v266 v270 v274) a + S1x512x512.size a ≤ S4x512x512.size a) ∧
  (∀ a, (k0_off28 v266 v270 v274) a + S1x512x16.size a ≤ S4x512x16.size a)
theorem k0_off10_inb : ∀ (v266 : BitVec 1) (v270 : BitVec 1) (v274 : BitVec 1) (k0_hw6 : k0_chk6 v266 v270 v274), ∀ a, (k0_off10 v266 v270 v274) a + S1x784x512.size a ≤ S4x784x512.size a := fun v266 v270 v274 k0_hw6 => k0_hw6.1
theorem k0_off11_inb : ∀ (v266 : BitVec 1) (v270 : BitVec 1) (v274 : BitVec 1) (k0_hw6 : k0_chk6 v266 v270 v274), ∀ a, (k0_off11 v266 v270 v274) a + S1x512x512.size a ≤ S4x512x512.size a := fun v266 v270 v274 k0_hw6 => k0_hw6.2.1
theorem k0_off12_inb : ∀ (v266 : BitVec 1) (v270 : BitVec 1) (v274 : BitVec 1) (k0_hw6 : k0_chk6 v266 v270 v274), ∀ a, (k0_off12 v266 v270 v274) a + S1x512x16.size a ≤ S4x512x16.size a := fun v266 v270 v274 k0_hw6 => k0_hw6.2.2.1
theorem k0_off26_inb : ∀ (v266 : BitVec 1) (v270 : BitVec 1) (v274 : BitVec 1) (k0_hw6 : k0_chk6 v266 v270 v274), ∀ a, (k0_off26 v266 v270 v274) a + S1x784x512.size a ≤ S4x784x512.size a := fun v266 v270 v274 k0_hw6 => k0_hw6.2.2.2.1
theorem k0_off27_inb : ∀ (v266 : BitVec 1) (v270 : BitVec 1) (v274 : BitVec 1) (k0_hw6 : k0_chk6 v266 v270 v274), ∀ a, (k0_off27 v266 v270 v274) a + S1x512x512.size a ≤ S4x512x512.size a := fun v266 v270 v274 k0_hw6 => k0_hw6.2.2.2.2.1
theorem k0_off28_inb : ∀ (v266 : BitVec 1) (v270 : BitVec 1) (v274 : BitVec 1) (k0_hw6 : k0_chk6 v266 v270 v274), ∀ a, (k0_off28 v266 v270 v274) a + S1x512x16.size a ≤ S4x512x16.size a := fun v266 v270 v274 k0_hw6 => k0_hw6.2.2.2.2.2

def k0_off29 (v182 : BitVec 1) (v186 : BitVec 1) (v190 : BitVec 1) (v194 : BitVec 1) (v198 : BitVec 1) (v202 : BitVec 1) (v206 : BitVec 1) (v210 : BitVec 1) (v214 : BitVec 1) (v218 : BitVec 1) (v222 : BitVec 1) (v226 : BitVec 1) (v230 : BitVec 1) (v234 : BitVec 1) (v238 : BitVec 1) : Fin 3 → Nat :=
  let c0_i32_546 : BitVec 32 := 0#32
  let c15_i32_223 : BitVec 32 := 15#32
  let c14_i32_219 : BitVec 32 := 14#32
  let c13_i32_215 : BitVec 32 := 13#32
  let c12_i32_211 : BitVec 32 := 12#32
  let c11_i32_207 : BitVec 32 := 11#32
  let c10_i32_203 : BitVec 32 := 10#32
  let c9_i32_199 : BitVec 32 := 9#32
  let c8_i32_195 : BitVec 32 := 8#32
  let c7_i32_191 : BitVec 32 := 7#32
  let c6_i32_187 : BitVec 32 := 6#32
  let c5_i32_183 : BitVec 32 := 5#32
  let c4_i32_179 : BitVec 32 := 4#32
  let c3_i32_175 : BitVec 32 := 3#32
  let c2_i32_171 : BitVec 32 := 2#32
  let c1_i32_166 : BitVec 32 := 1#32
  let c0_i32_167 : BitVec 32 := 0#32
  let v183 : BitVec 32 := Scalar.select v182 c1_i32_166 c0_i32_167
  let v187 : BitVec 32 := Scalar.select v186 c2_i32_171 v183
  let v191 : BitVec 32 := Scalar.select v190 c3_i32_175 v187
  let v195 : BitVec 32 := Scalar.select v194 c4_i32_179 v191
  let v199 : BitVec 32 := Scalar.select v198 c5_i32_183 v195
  let v203 : BitVec 32 := Scalar.select v202 c6_i32_187 v199
  let v207 : BitVec 32 := Scalar.select v206 c7_i32_191 v203
  let v211 : BitVec 32 := Scalar.select v210 c8_i32_195 v207
  let v215 : BitVec 32 := Scalar.select v214 c9_i32_199 v211
  let v219 : BitVec 32 := Scalar.select v218 c10_i32_203 v215
  let v223 : BitVec 32 := Scalar.select v222 c11_i32_207 v219
  let v227 : BitVec 32 := Scalar.select v226 c12_i32_211 v223
  let v231 : BitVec 32 := Scalar.select v230 c13_i32_215 v227
  let v235 : BitVec 32 := Scalar.select v234 c14_i32_219 v231
  let v239 : BitVec 32 := Scalar.select v238 c15_i32_223 v235
  let c0_i32_547 : BitVec 32 := 0#32
  ![0, v239.toNat, 0]

def k0_chk7 (v182 : BitVec 1) (v186 : BitVec 1) (v190 : BitVec 1) (v194 : BitVec 1) (v198 : BitVec 1) (v202 : BitVec 1) (v206 : BitVec 1) (v210 : BitVec 1) (v214 : BitVec 1) (v218 : BitVec 1) (v222 : BitVec 1) (v226 : BitVec 1) (v230 : BitVec 1) (v234 : BitVec 1) (v238 : BitVec 1) : Prop :=
  (∀ a, (k0_off13 v182 v186 v190 v194 v198 v202 v206 v210 v214 v218 v222 v226 v230 v234 v238) a + S512x1x784.size a ≤ S512x16x784.size a) ∧
  (∀ a, (k0_off29 v182 v186 v190 v194 v198 v202 v206 v210 v214 v218 v222 v226 v230 v234 v238) a + S512x1x784.size a ≤ S512x16x784.size a)
theorem k0_off13_inb : ∀ (v182 : BitVec 1) (v186 : BitVec 1) (v190 : BitVec 1) (v194 : BitVec 1) (v198 : BitVec 1) (v202 : BitVec 1) (v206 : BitVec 1) (v210 : BitVec 1) (v214 : BitVec 1) (v218 : BitVec 1) (v222 : BitVec 1) (v226 : BitVec 1) (v230 : BitVec 1) (v234 : BitVec 1) (v238 : BitVec 1) (k0_hw7 : k0_chk7 v182 v186 v190 v194 v198 v202 v206 v210 v214 v218 v222 v226 v230 v234 v238), ∀ a, (k0_off13 v182 v186 v190 v194 v198 v202 v206 v210 v214 v218 v222 v226 v230 v234 v238) a + S512x1x784.size a ≤ S512x16x784.size a := fun v182 v186 v190 v194 v198 v202 v206 v210 v214 v218 v222 v226 v230 v234 v238 k0_hw7 => k0_hw7.1
theorem k0_off29_inb : ∀ (v182 : BitVec 1) (v186 : BitVec 1) (v190 : BitVec 1) (v194 : BitVec 1) (v198 : BitVec 1) (v202 : BitVec 1) (v206 : BitVec 1) (v210 : BitVec 1) (v214 : BitVec 1) (v218 : BitVec 1) (v222 : BitVec 1) (v226 : BitVec 1) (v230 : BitVec 1) (v234 : BitVec 1) (v238 : BitVec 1) (k0_hw7 : k0_chk7 v182 v186 v190 v194 v198 v202 v206 v210 v214 v218 v222 v226 v230 v234 v238), ∀ a, (k0_off29 v182 v186 v190 v194 v198 v202 v206 v210 v214 v218 v222 v226 v230 v234 v238) a + S512x1x784.size a ≤ S512x16x784.size a := fun v182 v186 v190 v194 v198 v202 v206 v210 v214 v218 v222 v226 v230 v234 v238 k0_hw7 => k0_hw7.2

abbrev stage0_0 : Fin 1 → Memref sig .tc .smem S1x16x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1x64x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S1x4x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .smem S1x2x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .smem S1x8x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .smem S1x8x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== ReferenceIdeal.lean ====
abbrev S512x16x28x28 : Shape := ⟨4, ![512, 16, 28, 28]⟩
abbrev S4x784x512 : Shape := ⟨3, ![4, 784, 512]⟩
abbrev S4x512 : Shape := ⟨2, ![4, 512]⟩
abbrev S4x512x512 : Shape := ⟨3, ![4, 512, 512]⟩
abbrev S4x512x16 : Shape := ⟨3, ![4, 512, 16]⟩
abbrev S4x16 : Shape := ⟨2, ![4, 16]⟩
abbrev S8x2x128 : Shape := ⟨3, ![8, 2, 128]⟩
abbrev S8x128 : Shape := ⟨2, ![8, 128]⟩
abbrev S8x128x1 : Shape := ⟨3, ![8, 128, 1]⟩
abbrev S8x1 : Shape := ⟨2, ![8, 1]⟩
abbrev S1x16x4 : Shape := ⟨3, ![1, 16, 4]⟩
abbrev S1x64x4 : Shape := ⟨3, ![1, 64, 4]⟩
abbrev S1x4x2 : Shape := ⟨3, ![1, 4, 2]⟩
abbrev S1x2x1 : Shape := ⟨3, ![1, 2, 1]⟩
abbrev S1x4x4 : Shape := ⟨3, ![1, 4, 4]⟩
abbrev S1x8x4 : Shape := ⟨3, ![1, 8, 4]⟩
abbrev S1x8x2 : Shape := ⟨3, ![1, 8, 2]⟩
abbrev S_ : Shape := ⟨0, ![]⟩
abbrev S1x4 : Shape := ⟨2, ![1, 4]⟩
abbrev S1x1x4 : Shape := ⟨3, ![1, 1, 4]⟩
abbrev S1x4x16 : Shape := ⟨3, ![1, 4, 16]⟩
abbrev S1x4x1 : Shape := ⟨3, ![1, 4, 1]⟩
abbrev S1x1x16 : Shape := ⟨3, ![1, 1, 16]⟩
abbrev S16x4 : Shape := ⟨2, ![16, 4]⟩
abbrev S4x4 : Shape := ⟨2, ![4, 4]⟩
abbrev S512x16x784 : Shape := ⟨3, ![512, 16, 784]⟩
abbrev S4x512x784 : Shape := ⟨3, ![4, 512, 784]⟩
abbrev S4x512x4x512 : Shape := ⟨4, ![4, 512, 4, 512]⟩
abbrev S4x4x512x512 : Shape := ⟨4, ![4, 4, 512, 512]⟩
abbrev S1x4x1x512 : Shape := ⟨4, ![1, 4, 1, 512]⟩
abbrev S4x16x4x512 : Shape := ⟨4, ![4, 16, 4, 512]⟩
abbrev S4x4x512x16 : Shape := ⟨4, ![4, 4, 512, 16]⟩
abbrev S1x4x1x16 : Shape := ⟨4, ![1, 4, 1, 16]⟩
abbrev S512x4x16 : Shape := ⟨3, ![512, 4, 16]⟩
abbrev S512x64 : Shape := ⟨2, ![512, 64]⟩
abbrev S1x4x64 : Shape := ⟨3, ![1, 4, 64]⟩
abbrev S1x1x64 : Shape := ⟨3, ![1, 1, 64]⟩
abbrev S1x4x8 : Shape := ⟨3, ![1, 4, 8]⟩
abbrev S1x1x8 : Shape := ⟨3, ![1, 1, 8]⟩
abbrev S8x4 : Shape := ⟨2, ![8, 4]⟩
abbrev S64x4 : Shape := ⟨2, ![64, 4]⟩
abbrev S512x4 : Shape := ⟨2, ![512, 4]⟩
abbrev S512x4x1 : Shape := ⟨3, ![512, 4, 1]⟩
abbrev S512x4x2 : Shape := ⟨3, ![512, 4, 2]⟩
abbrev S512x4x8x128 : Shape := ⟨4, ![512, 4, 8, 128]⟩
abbrev S1x1x8x128 : Shape := ⟨4, ![1, 1, 8, 128]⟩
abbrev S8x512x4 : Shape := ⟨3, ![8, 512, 4]⟩
abbrev S512x4x8 : Shape := ⟨3, ![512, 4, 8]⟩
abbrev S8 : Shape := ⟨1, ![8]⟩
abbrev S1x2x4 : Shape := ⟨3, ![1, 2, 4]⟩
abbrev S1x2x2 : Shape := ⟨3, ![1, 2, 2]⟩
abbrev S1x2 : Shape := ⟨2, ![1, 2]⟩
abbrev S1x1x2 : Shape := ⟨3, ![1, 1, 2]⟩
abbrev S1x2x8 : Shape := ⟨3, ![1, 2, 8]⟩
abbrev S8x2 : Shape := ⟨2, ![8, 2]⟩
abbrev S4x2 : Shape := ⟨2, ![4, 2]⟩
abbrev S512x2 : Shape := ⟨2, ![512, 2]⟩
abbrev S512x2x1 : Shape := ⟨3, ![512, 2, 1]⟩
abbrev S512x2x2 : Shape := ⟨3, ![512, 2, 2]⟩
abbrev S512x2x8x128 : Shape := ⟨4, ![512, 2, 8, 128]⟩
abbrev S8x512x2 : Shape := ⟨3, ![8, 512, 2]⟩
abbrev S512x2x8 : Shape := ⟨3, ![512, 2, 8]⟩
abbrev S2x512 : Shape := ⟨2, ![2, 512]⟩
abbrev S1x1x1 : Shape := ⟨3, ![1, 1, 1]⟩
abbrev S1x1 : Shape := ⟨2, ![1, 1]⟩
abbrev S2x1 : Shape := ⟨2, ![2, 1]⟩
abbrev S512x1 : Shape := ⟨2, ![512, 1]⟩

abbrev nBuf : Space → Nat
  | .hbm => 333
  | .vmem => 0
  | .smem => 0
  | _ => 0

abbrev hbmTy0_0 (i : Nat) : BufTy := match i % 128 with
  | 0 => ⟨S512x16x28x28, .f32⟩
  | 1 => ⟨S4x784x512, .f32⟩
  | 2 => ⟨S4x512, .f32⟩
  | 3 => ⟨S4x512x512, .f32⟩
  | 4 => ⟨S4x512, .f32⟩
  | 5 => ⟨S4x512x16, .f32⟩
  | 6 => ⟨S4x16, .f32⟩
  | 7 => ⟨S8x2x128, .f32⟩
  | 8 => ⟨S8x128, .f32⟩
  | 9 => ⟨S8x128x1, .f32⟩
  | 10 => ⟨S8x1, .f32⟩
  | 11 => ⟨S1x16x4, .f32⟩
  | 12 => ⟨S1x64x4, .f32⟩
  | 13 => ⟨S1x4x2, .f32⟩
  | 14 => ⟨S1x2x1, .f32⟩
  | 15 => ⟨S1x4x4, .f32⟩
  | 16 => ⟨S1x8x4, .f32⟩
  | 17 => ⟨S1x8x2, .f32⟩
  | 18 => ⟨S_, .f32⟩
  | 19 => ⟨S1x16x4, .f32⟩
  | 20 => ⟨S1x16x4, .f32⟩
  | 21 => ⟨S_, .f32⟩
  | 22 => ⟨S1x4, .f32⟩
  | 23 => ⟨S_, .f32⟩
  | 24 => ⟨S1x4, .f32⟩
  | 25 => ⟨S1x4, .f32⟩
  | 26 => ⟨S1x1x4, .f32⟩
  | 27 => ⟨S1x16x4, .f32⟩
  | 28 => ⟨S1x16x4, .f32⟩
  | 29 => ⟨S1x16x4, .f32⟩
  | 30 => ⟨S_, .f32⟩
  | 31 => ⟨S1x4, .f32⟩
  | 32 => ⟨S1x1x4, .f32⟩
  | 33 => ⟨S1x16x4, .f32⟩
  | 34 => ⟨S1x16x4, .f32⟩
  | 35 => ⟨S1x4x16, .f32⟩
  | 36 => ⟨S1x4x1, .f32⟩
  | 37 => ⟨S1x4x1, .i32⟩
  | 38 => ⟨S1x4, .i32⟩
  | 39 => ⟨S1x4x1, .i32⟩
  | 40 => ⟨S1x1x16, .i32⟩
  | 41 => ⟨S1x4x16, .i32⟩
  | 42 => ⟨S1x4x16, .i32⟩
  | 43 => ⟨S1x4x16, .i1⟩
  | 44 => ⟨S1x4x16, .f32⟩
  | 45 => ⟨S1x16x4, .f32⟩
  | 46 => ⟨S1x16x4, .f32⟩
  | 47 => ⟨S1x16x4, .f32⟩
  | 48 => ⟨S16x4, .f32⟩
  | 49 => ⟨S_, .f32⟩
  | 50 => ⟨S1x4x4, .f32⟩
  | 51 => ⟨S1x4x4, .f32⟩
  | 52 => ⟨S_, .f32⟩
  | 53 => ⟨S1x4, .f32⟩
  | 54 => ⟨S_, .f32⟩
  | 55 => ⟨S1x4, .f32⟩
  | 56 => ⟨S1x4, .f32⟩
  | 57 => ⟨S1x1x4, .f32⟩
  | 58 => ⟨S1x4x4, .f32⟩
  | 59 => ⟨S1x4x4, .f32⟩
  | 60 => ⟨S1x4x4, .f32⟩
  | 61 => ⟨S_, .f32⟩
  | 62 => ⟨S1x4, .f32⟩
  | 63 => ⟨S1x1x4, .f32⟩
  | 64 => ⟨S1x4x4, .f32⟩
  | 65 => ⟨S1x4x4, .f32⟩
  | 66 => ⟨S1x4x4, .f32⟩
  | 67 => ⟨S1x4x1, .f32⟩
  | 68 => ⟨S1x4x1, .i32⟩
  | 69 => ⟨S1x4, .i32⟩
  | 70 => ⟨S1x4x1, .i32⟩
  | 71 => ⟨S1x1x4, .i32⟩
  | 72 => ⟨S1x4x4, .i32⟩
  | 73 => ⟨S1x4x4, .i32⟩
  | 74 => ⟨S1x4x4, .i1⟩
  | 75 => ⟨S1x4x4, .f32⟩
  | 76 => ⟨S1x4x4, .f32⟩
  | 77 => ⟨S1x4x4, .f32⟩
  | 78 => ⟨S1x4x4, .f32⟩
  | 79 => ⟨S4x4, .f32⟩
  | 80 => ⟨S512x16x784, .f32⟩
  | 81 => ⟨S4x512x784, .f32⟩
  | 82 => ⟨S4x512x4x512, .f32⟩
  | 83 => ⟨S4x4x512x512, .f32⟩
  | 84 => ⟨S1x4x1x512, .f32⟩
  | 85 => ⟨S4x4x512x512, .f32⟩
  | 86 => ⟨S4x4x512x512, .f32⟩
  | 87 => ⟨S_, .f32⟩
  | 88 => ⟨S4x4x512x512, .f32⟩
  | 89 => ⟨S4x4x512x512, .f32⟩
  | 90 => ⟨S4x512x4x512, .f32⟩
  | 91 => ⟨S4x4x512x512, .f32⟩
  | 92 => ⟨S1x4x1x512, .f32⟩
  | 93 => ⟨S4x4x512x512, .f32⟩
  | 94 => ⟨S4x4x512x512, .f32⟩
  | 95 => ⟨S_, .f32⟩
  | 96 => ⟨S4x4x512x512, .f32⟩
  | 97 => ⟨S4x4x512x512, .f32⟩
  | 98 => ⟨S4x16x4x512, .f32⟩
  | 99 => ⟨S4x4x512x16, .f32⟩
  | 100 => ⟨S1x4x1x16, .f32⟩
  | 101 => ⟨S4x4x512x16, .f32⟩
  | 102 => ⟨S4x4x512x16, .f32⟩
  | 103 => ⟨S4x512x16, .f32⟩
  | 104 => ⟨S512x4x16, .f32⟩
  | 105 => ⟨S512x64, .f32⟩
  | 106 => ⟨S_, .f32⟩
  | 107 => ⟨S1x64x4, .f32⟩
  | 108 => ⟨S1x64x4, .f32⟩
  | 109 => ⟨S1x64x4, .f32⟩
  | 110 => ⟨S1x64x4, .f32⟩
  | 111 => ⟨S_, .f32⟩
  | 112 => ⟨S1x64x4, .f32⟩
  | 113 => ⟨S1x64x4, .f32⟩
  | 114 => ⟨S_, .f32⟩
  | 115 => ⟨S1x64x4, .f32⟩
  | 116 => ⟨S1x64x4, .f32⟩
  | 117 => ⟨S1x4x64, .f32⟩
  | 118 => ⟨S1x4x2, .f32⟩
  | 119 => ⟨S1x4x2, .i32⟩
  | 120 => ⟨S1x4x1, .i32⟩
  | 121 => ⟨S1x4, .i32⟩
  | 122 => ⟨S1x4x1, .i32⟩
  | 123 => ⟨S1x1x64, .i32⟩
  | 124 => ⟨S1x4x64, .i32⟩
  | 125 => ⟨S1x4x64, .i32⟩
  | 126 => ⟨S1x4x64, .i1⟩
  | 127 => ⟨S1x4x64, .f32⟩
  | _ => ⟨S512x16x28x28, .f32⟩

abbrev hbmTy0_1 (i : Nat) : BufTy := match i % 128 with
  | 0 => ⟨S1x64x4, .f32⟩
  | 1 => ⟨S1x4x1, .i32⟩
  | 2 => ⟨S1x4, .i32⟩
  | 3 => ⟨S1x4x1, .i32⟩
  | 4 => ⟨S1x1x64, .i32⟩
  | 5 => ⟨S1x4x64, .i32⟩
  | 6 => ⟨S1x4x64, .i32⟩
  | 7 => ⟨S1x4x64, .i1⟩
  | 8 => ⟨S1x4x64, .f32⟩
  | 9 => ⟨S1x64x4, .f32⟩
  | 10 => ⟨S1x64x4, .f32⟩
  | 11 => ⟨S1x64x4, .f32⟩
  | 12 => ⟨S1x64x4, .f32⟩
  | 13 => ⟨S1x64x4, .f32⟩
  | 14 => ⟨S_, .f32⟩
  | 15 => ⟨S1x8x4, .f32⟩
  | 16 => ⟨S1x8x4, .f32⟩
  | 17 => ⟨S_, .f32⟩
  | 18 => ⟨S1x4, .f32⟩
  | 19 => ⟨S_, .f32⟩
  | 20 => ⟨S1x4, .f32⟩
  | 21 => ⟨S1x4, .f32⟩
  | 22 => ⟨S1x1x4, .f32⟩
  | 23 => ⟨S1x8x4, .f32⟩
  | 24 => ⟨S1x8x4, .f32⟩
  | 25 => ⟨S1x8x4, .f32⟩
  | 26 => ⟨S_, .f32⟩
  | 27 => ⟨S1x4, .f32⟩
  | 28 => ⟨S1x1x4, .f32⟩
  | 29 => ⟨S1x8x4, .f32⟩
  | 30 => ⟨S1x8x4, .f32⟩
  | 31 => ⟨S1x4x8, .f32⟩
  | 32 => ⟨S1x4x1, .f32⟩
  | 33 => ⟨S1x4x1, .i32⟩
  | 34 => ⟨S1x4, .i32⟩
  | 35 => ⟨S1x4x1, .i32⟩
  | 36 => ⟨S1x1x8, .i32⟩
  | 37 => ⟨S1x4x8, .i32⟩
  | 38 => ⟨S1x4x8, .i32⟩
  | 39 => ⟨S1x4x8, .i1⟩
  | 40 => ⟨S1x4x8, .f32⟩
  | 41 => ⟨S1x8x4, .f32⟩
  | 42 => ⟨S1x8x4, .f32⟩
  | 43 => ⟨S1x8x4, .f32⟩
  | 44 => ⟨S8x4, .f32⟩
  | 45 => ⟨S64x4, .f32⟩
  | 46 => ⟨S512x4, .f32⟩
  | 47 => ⟨S64x4, .f32⟩
  | 48 => ⟨S512x4, .f32⟩
  | 49 => ⟨S512x4x1, .f32⟩
  | 50 => ⟨S512x4x1, .f32⟩
  | 51 => ⟨S512x4x2, .f32⟩
  | 52 => ⟨S512x4x8x128, .f32⟩
  | 53 => ⟨S1x1x8x128, .f32⟩
  | 54 => ⟨S512x4x8x128, .f32⟩
  | 55 => ⟨S512x4x8x128, .f32⟩
  | 56 => ⟨S_, .f32⟩
  | 57 => ⟨S512x4x8x128, .f32⟩
  | 58 => ⟨S512x4x8x128, .f32⟩
  | 59 => ⟨S8x128, .f32⟩
  | 60 => ⟨S8x512x4, .f32⟩
  | 61 => ⟨S512x4x8, .f32⟩
  | 62 => ⟨S8, .f32⟩
  | 63 => ⟨S1x1x8, .f32⟩
  | 64 => ⟨S512x4x8, .f32⟩
  | 65 => ⟨S512x4x8, .f32⟩
  | 66 => ⟨S4x512, .f32⟩
  | 67 => ⟨S512x4, .f32⟩
  | 68 => ⟨S_, .f32⟩
  | 69 => ⟨S1x4x2, .f32⟩
  | 70 => ⟨S1x4x2, .f32⟩
  | 71 => ⟨S1x4x2, .f32⟩
  | 72 => ⟨S1x4x2, .f32⟩
  | 73 => ⟨S_, .f32⟩
  | 74 => ⟨S1x4x2, .f32⟩
  | 75 => ⟨S1x4x2, .f32⟩
  | 76 => ⟨S_, .f32⟩
  | 77 => ⟨S1x4x2, .f32⟩
  | 78 => ⟨S1x4x2, .f32⟩
  | 79 => ⟨S1x2x4, .f32⟩
  | 80 => ⟨S1x2x2, .f32⟩
  | 81 => ⟨S1x2x2, .i32⟩
  | 82 => ⟨S1x2x1, .i32⟩
  | 83 => ⟨S1x2, .i32⟩
  | 84 => ⟨S1x2x1, .i32⟩
  | 85 => ⟨S1x1x4, .i32⟩
  | 86 => ⟨S1x2x4, .i32⟩
  | 87 => ⟨S1x2x4, .i32⟩
  | 88 => ⟨S1x2x4, .i1⟩
  | 89 => ⟨S1x2x4, .f32⟩
  | 90 => ⟨S1x4x2, .f32⟩
  | 91 => ⟨S1x2x1, .i32⟩
  | 92 => ⟨S1x2, .i32⟩
  | 93 => ⟨S1x2x1, .i32⟩
  | 94 => ⟨S1x1x4, .i32⟩
  | 95 => ⟨S1x2x4, .i32⟩
  | 96 => ⟨S1x2x4, .i32⟩
  | 97 => ⟨S1x2x4, .i1⟩
  | 98 => ⟨S1x2x4, .f32⟩
  | 99 => ⟨S1x4x2, .f32⟩
  | 100 => ⟨S1x4x2, .f32⟩
  | 101 => ⟨S1x4x2, .f32⟩
  | 102 => ⟨S1x4x2, .f32⟩
  | 103 => ⟨S1x4x2, .f32⟩
  | 104 => ⟨S_, .f32⟩
  | 105 => ⟨S1x8x2, .f32⟩
  | 106 => ⟨S1x8x2, .f32⟩
  | 107 => ⟨S_, .f32⟩
  | 108 => ⟨S1x2, .f32⟩
  | 109 => ⟨S_, .f32⟩
  | 110 => ⟨S1x2, .f32⟩
  | 111 => ⟨S1x2, .f32⟩
  | 112 => ⟨S1x1x2, .f32⟩
  | 113 => ⟨S1x8x2, .f32⟩
  | 114 => ⟨S1x8x2, .f32⟩
  | 115 => ⟨S1x8x2, .f32⟩
  | 116 => ⟨S_, .f32⟩
  | 117 => ⟨S1x2, .f32⟩
  | 118 => ⟨S1x1x2, .f32⟩
  | 119 => ⟨S1x8x2, .f32⟩
  | 120 => ⟨S1x8x2, .f32⟩
  | 121 => ⟨S1x2x8, .f32⟩
  | 122 => ⟨S1x2x1, .f32⟩
  | 123 => ⟨S1x2x1, .i32⟩
  | 124 => ⟨S1x2, .i32⟩
  | 125 => ⟨S1x2x1, .i32⟩
  | 126 => ⟨S1x1x8, .i32⟩
  | 127 => ⟨S1x2x8, .i32⟩
  | _ => ⟨S512x16x28x28, .f32⟩

abbrev hbmTy0_2 (i : Nat) : BufTy := match i % 128 with
  | 0 => ⟨S1x2x8, .i32⟩
  | 1 => ⟨S1x2x8, .i1⟩
  | 2 => ⟨S1x2x8, .f32⟩
  | 3 => ⟨S1x8x2, .f32⟩
  | 4 => ⟨S1x8x2, .f32⟩
  | 5 => ⟨S1x8x2, .f32⟩
  | 6 => ⟨S8x2, .f32⟩
  | 7 => ⟨S4x2, .f32⟩
  | 8 => ⟨S512x2, .f32⟩
  | 9 => ⟨S4x2, .f32⟩
  | 10 => ⟨S512x2, .f32⟩
  | 11 => ⟨S512x2x1, .f32⟩
  | 12 => ⟨S512x2x1, .f32⟩
  | 13 => ⟨S512x2x2, .f32⟩
  | 14 => ⟨S512x2x8x128, .f32⟩
  | 15 => ⟨S1x1x8x128, .f32⟩
  | 16 => ⟨S512x2x8x128, .f32⟩
  | 17 => ⟨S512x2x8x128, .f32⟩
  | 18 => ⟨S_, .f32⟩
  | 19 => ⟨S512x2x8x128, .f32⟩
  | 20 => ⟨S512x2x8x128, .f32⟩
  | 21 => ⟨S8x128, .f32⟩
  | 22 => ⟨S8x512x2, .f32⟩
  | 23 => ⟨S512x2x8, .f32⟩
  | 24 => ⟨S8, .f32⟩
  | 25 => ⟨S1x1x8, .f32⟩
  | 26 => ⟨S512x2x8, .f32⟩
  | 27 => ⟨S512x2x8, .f32⟩
  | 28 => ⟨S2x512, .f32⟩
  | 29 => ⟨S512x2, .f32⟩
  | 30 => ⟨S_, .f32⟩
  | 31 => ⟨S1x2x1, .f32⟩
  | 32 => ⟨S1x2x1, .f32⟩
  | 33 => ⟨S1x2x1, .f32⟩
  | 34 => ⟨S1x2x1, .f32⟩
  | 35 => ⟨S_, .f32⟩
  | 36 => ⟨S1x2x1, .f32⟩
  | 37 => ⟨S1x2x1, .f32⟩
  | 38 => ⟨S_, .f32⟩
  | 39 => ⟨S1x2x1, .f32⟩
  | 40 => ⟨S1x2x1, .f32⟩
  | 41 => ⟨S1x1x2, .f32⟩
  | 42 => ⟨S1x1x2, .f32⟩
  | 43 => ⟨S1x1x2, .i32⟩
  | 44 => ⟨S1x1x1, .i32⟩
  | 45 => ⟨S1x1, .i32⟩
  | 46 => ⟨S1x1x1, .i32⟩
  | 47 => ⟨S1x1x2, .i32⟩
  | 48 => ⟨S1x1x2, .i32⟩
  | 49 => ⟨S1x1x2, .i1⟩
  | 50 => ⟨S1x1x2, .f32⟩
  | 51 => ⟨S1x2x1, .f32⟩
  | 52 => ⟨S1x1x1, .i32⟩
  | 53 => ⟨S1x1, .i32⟩
  | 54 => ⟨S1x1x1, .i32⟩
  | 55 => ⟨S1x1x2, .i32⟩
  | 56 => ⟨S1x1x2, .i32⟩
  | 57 => ⟨S1x1x2, .i1⟩
  | 58 => ⟨S1x1x2, .f32⟩
  | 59 => ⟨S1x2x1, .f32⟩
  | 60 => ⟨S1x2x1, .f32⟩
  | 61 => ⟨S1x2x1, .f32⟩
  | 62 => ⟨S1x2x1, .f32⟩
  | 63 => ⟨S1x2x1, .f32⟩
  | 64 => ⟨S2x1, .f32⟩
  | 65 => ⟨S512x1, .f32⟩
  | 66 => ⟨S2x1, .f32⟩
  | 67 => ⟨S512x1, .f32⟩
  | 68 => ⟨S512x2, .f32⟩
  | 69 => ⟨S512x2, .f32⟩
  | 70 => ⟨S512x2, .f32⟩
  | 71 => ⟨S_, .f32⟩
  | 72 => ⟨S512x2, .f32⟩
  | 73 => ⟨S512x2, .f32⟩
  | 74 => ⟨S_, .f32⟩
  | 75 => ⟨S512x2, .f32⟩
  | 76 => ⟨S512x2, .f32⟩
  | _ => ⟨S512x16x28x28, .f32⟩

abbrev hbmTy (i : Nat) : BufTy := match i / 128 with
  | 0 => hbmTy0_0 i
  | 1 => hbmTy0_1 i
  | 2 => hbmTy0_2 i
  | _ => ⟨S512x16x28x28, .f32⟩

abbrev bufTy : (tb : Table) → Fin (tcTables nBuf tb) → BufTy
  | .hbm, ⟨i, _⟩ => hbmTy i
  | _, _ => ⟨S512x16x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_cst_1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_values : Ref sig .tc := ⟨.hbm, 36, rfl⟩
abbrev main_indices : Ref sig .tc := ⟨.hbm, 37, rfl⟩
abbrev main_v14 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_3 : Ref sig .tc := ⟨.hbm, 49, rfl⟩
abbrev main_v20 : Ref sig .tc := ⟨.hbm, 50, rfl⟩
abbrev main_v21 : Ref sig .tc := ⟨.hbm, 51, rfl⟩
abbrev main_cst_4 : Ref sig .tc := ⟨.hbm, 52, rfl⟩
abbrev main_v22 : Ref sig .tc := ⟨.hbm, 53, rfl⟩
abbrev main_cst_5 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_6 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_values_7 : Ref sig .tc := ⟨.hbm, 67, rfl⟩
abbrev main_indices_8 : Ref sig .tc := ⟨.hbm, 68, rfl⟩
abbrev main_v34 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_9 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_10 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_11 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_12 : Ref sig .tc := ⟨.hbm, 111, rfl⟩
abbrev main_v68 : Ref sig .tc := ⟨.hbm, 112, rfl⟩
abbrev main_v69 : Ref sig .tc := ⟨.hbm, 113, rfl⟩
abbrev main_cst_13 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_values_14 : Ref sig .tc := ⟨.hbm, 118, rfl⟩
abbrev main_indices_15 : Ref sig .tc := ⟨.hbm, 119, rfl⟩
abbrev main_v73 : Ref sig .tc := ⟨.hbm, 120, rfl⟩
abbrev main_v74 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_cst_16 : Ref sig .tc := ⟨.hbm, 142, rfl⟩
abbrev main_v85 : Ref sig .tc := ⟨.hbm, 143, rfl⟩
abbrev main_v86 : Ref sig .tc := ⟨.hbm, 144, rfl⟩
abbrev main_cst_17 : Ref sig .tc := ⟨.hbm, 145, rfl⟩
abbrev main_v87 : Ref sig .tc := ⟨.hbm, 146, rfl⟩
abbrev main_cst_18 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_19 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_values_20 : Ref sig .tc := ⟨.hbm, 160, rfl⟩
abbrev main_indices_21 : Ref sig .tc := ⟨.hbm, 161, rfl⟩
abbrev main_v99 : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_cst_22 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_cst_23 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_cst_24 : Ref sig .tc := ⟨.hbm, 201, rfl⟩
abbrev main_v131 : Ref sig .tc := ⟨.hbm, 202, rfl⟩
abbrev main_v132 : Ref sig .tc := ⟨.hbm, 203, rfl⟩
abbrev main_cst_25 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_values_26 : Ref sig .tc := ⟨.hbm, 208, rfl⟩
abbrev main_indices_27 : Ref sig .tc := ⟨.hbm, 209, rfl⟩
abbrev main_v136 : Ref sig .tc := ⟨.hbm, 210, rfl⟩
abbrev main_v137 : Ref sig .tc := ⟨.hbm, 211, rfl⟩
abbrev main_call5_v0 : Ref sig .tc := ⟨.hbm, 212, rfl⟩
abbrev main_call5_v1 : Ref sig .tc := ⟨.hbm, 213, rfl⟩
abbrev main_call5_v2 : Ref sig .tc := ⟨.hbm, 214, rfl⟩
abbrev main_call5_v3 : Ref sig .tc := ⟨.hbm, 215, rfl⟩
abbrev main_call5_v4 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_call6_v0 : Ref sig .tc := ⟨.hbm, 221, rfl⟩
abbrev main_call6_v1 : Ref sig .tc := ⟨.hbm, 222, rfl⟩
abbrev main_call6_v2 : Ref sig .tc := ⟨.hbm, 223, rfl⟩
abbrev main_call6_v3 : Ref sig .tc := ⟨.hbm, 224, rfl⟩
abbrev main_call6_v4 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_cst_28 : Ref sig .tc := ⟨.hbm, 232, rfl⟩
abbrev main_v148 : Ref sig .tc := ⟨.hbm, 233, rfl⟩
abbrev main_v149 : Ref sig .tc := ⟨.hbm, 234, rfl⟩
abbrev main_cst_29 : Ref sig .tc := ⟨.hbm, 235, rfl⟩
abbrev main_v150 : Ref sig .tc := ⟨.hbm, 236, rfl⟩
abbrev main_cst_30 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_cst_31 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_values_32 : Ref sig .tc := ⟨.hbm, 250, rfl⟩
abbrev main_indices_33 : Ref sig .tc := ⟨.hbm, 251, rfl⟩
abbrev main_v162 : Ref sig .tc := ⟨.hbm, 252, rfl⟩
abbrev main_call7_v0 : Ref sig .tc := ⟨.hbm, 253, rfl⟩
abbrev main_call7_v1 : Ref sig .tc := ⟨.hbm, 254, rfl⟩
abbrev main_call7_v2 : Ref sig .tc := ⟨.hbm, 255, rfl⟩
abbrev main_call7_v3 : Ref sig .tc := ⟨.hbm, 256, rfl⟩
abbrev main_call7_v4 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_cst_34 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_cst_35 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_cst_36 : Ref sig .tc := ⟨.hbm, 291, rfl⟩
abbrev main_v194 : Ref sig .tc := ⟨.hbm, 292, rfl⟩
abbrev main_v195 : Ref sig .tc := ⟨.hbm, 293, rfl⟩
abbrev main_cst_37 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_values_38 : Ref sig .tc := ⟨.hbm, 298, rfl⟩
abbrev main_indices_39 : Ref sig .tc := ⟨.hbm, 299, rfl⟩
abbrev main_v199 : Ref sig .tc := ⟨.hbm, 300, rfl⟩
abbrev main_v200 : Ref sig .tc := ⟨.hbm, 301, rfl⟩
abbrev main_call8_v0 : Ref sig .tc := ⟨.hbm, 302, rfl⟩
abbrev main_call8_v1 : Ref sig .tc := ⟨.hbm, 303, rfl⟩
abbrev main_call8_v2 : Ref sig .tc := ⟨.hbm, 304, rfl⟩
abbrev main_call8_v3 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_call9_v0 : Ref sig .tc := ⟨.hbm, 310, rfl⟩
abbrev main_call9_v1 : Ref sig .tc := ⟨.hbm, 311, rfl⟩
abbrev main_call9_v2 : Ref sig .tc := ⟨.hbm, 312, rfl⟩
abbrev main_call9_v3 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_cst_40 : Ref sig .tc := ⟨.hbm, 327, rfl⟩
abbrev main_v218 : Ref sig .tc := ⟨.hbm, 328, rfl⟩
abbrev main_v219 : Ref sig .tc := ⟨.hbm, 329, rfl⟩
abbrev main_cst_41 : Ref sig .tc := ⟨.hbm, 330, rfl⟩
abbrev main_v220 : Ref sig .tc := ⟨.hbm, 331, rfl⟩
abbrev main_v221 : Ref sig .tc := ⟨.hbm, 332, rfl⟩

abbrev nD : Nat := 1
abbrev τ : Topo := Topo.v7x

variable {F : FTy → Type} [FloatOps F]
-- ==== Proof.Slots.lean ====
/-
  Four blocks written into the four slots of a scratch buffer, and one slot read back: the block written there. Each
  write goes through one slot's slice with the leading unit axis dropped; the read is of the slice itself.
-/
module

public import Idealize.ShloMosaic.Signature
public import Idealize.ShloMosaic.Lib.ReshapeSlab

@[expose] public section

namespace Cert.Slots

open Idealize.ShloMosaic

variable {sig : RefSig} {κ : Kind} {sp : Space} {s s' : Shape} {e : EltTy} {Val : EltTy → Type}

/-- A slice read after a block was written through it, some axes dropped: the block, re-indexed. -/
theorem read_hit (v : View sig κ sp s e) (r : Rect s) (h : s'.numel = r.shape.numel)
    (f : v.ty.Contents Val) (w : s'.Idx → Val e) :
    (v.slice r).read Val (((v.slice r).reshape s' h).write Val f w Finset.univ)
      = fun x => w ((Shape.reshapeEquiv h).symm x) := by
  funext x
  have := View.read_write_of_mem (v := (v.slice r).reshape s' h) f w (Finset.mem_univ ((Shape.reshapeEquiv h).symm x))
  rw [← this]
  rw [View.read_apply, View.read_apply]
  simp

/-- A slice read after a block was written through another slice, apart from it on axis `a`: what was there before. -/
theorem read_miss (v : View sig κ sp s e) (r r' : Rect s) (h : s'.numel = r'.shape.numel) (a : Fin s.rank)
    (h₁ : r.stride a = 1) (h₂ : r'.stride a = 1)
    (hsep : r.off a + r.size a ≤ r'.off a ∨ r'.off a + r'.size a ≤ r.off a)
    (f : v.ty.Contents Val) (w : s'.Idx → Val e) :
    (v.slice r).read Val (((v.slice r').reshape s' h).write Val f w Finset.univ) = (v.slice r).read Val f := by
  funext x
  rw [View.read_apply, View.read_apply, View.write_of_not_mem]
  intro hi
  have hd := View.disjoint_slice_of_sep v r r' a h₁ h₂ hsep
  rw [Finset.disjoint_left] at hd
  refine hd (a := (v.slice r).emb x) (Finset.mem_map.mpr ⟨x, Finset.mem_univ _, rfl⟩) ?_
  obtain ⟨y, -, hy⟩ := Finset.mem_map.mp hi
  exact Finset.mem_map.mpr ⟨Shape.reshapeEquiv h y, Finset.mem_univ _, hy⟩

variable {n a b : ℕ}

/-- The `i`-th slot of a buffer of `4` slots of extents `a` by `b`. -/
abbrev slot (i : ℕ) (hi : ∀ k, (![i, 0, 0] : Fin 3 → ℕ) k + (![1, a, b] : Fin 3 → ℕ) k ≤ (⟨3, ![4, a, b]⟩ : Shape).size k) :
    Rect ⟨3, ![4, a, b]⟩ := Rect.unit ![i, 0, 0] ![1, a, b] hi

/-- The four slots written in turn, one read back. -/
theorem read4 (v : View sig κ sp ⟨3, ![4, a, b]⟩ e) (i : Fin 4) (hi) (h0) (h1) (h2) (h3)
    (q0 : s'.numel = (slot (a := a) (b := b) 0 h0).shape.numel) (q1 : s'.numel = (slot (a := a) (b := b) 1 h1).shape.numel)
    (q2 : s'.numel = (slot (a := a) (b := b) 2 h2).shape.numel) (q3 : s'.numel = (slot (a := a) (b := b) 3 h3).shape.numel)
    (f : v.ty.Contents Val) (w0 w1 w2 w3 : s'.Idx → Val e) :
    v.readAt Val (slot (a := a) (b := b) i hi).toLoadRect
      (((v.slice (slot 3 h3)).reshape s' q3).write Val (((v.slice (slot 2 h2)).reshape s' q2).write Val
        (((v.slice (slot 1 h1)).reshape s' q1).write Val (((v.slice (slot 0 h0)).reshape s' q0).write Val f w0 Finset.univ)
          w1 Finset.univ) w2 Finset.univ) w3 Finset.univ)
      = fun x => (![w0, w1, w2, w3] : Fin 4 → s'.Idx → Val e) i ((Shape.reshapeEquiv q0).symm x) := by
  rw [View.readAt_rect]
  match i, hi with
  | 0, hi =>
    rw [read_miss _ _ _ _ 0 rfl rfl (by left; simp [Rect.unit]), read_miss _ _ _ _ 0 rfl rfl (by left; simp [Rect.unit]),
      read_miss _ _ _ _ 0 rfl rfl (by left; simp [Rect.unit])]
    exact read_hit v (slot 0 h0) q0 f w0
  | 1, hi =>
    rw [read_miss _ _ _ _ 0 rfl rfl (by left; simp [Rect.unit]), read_miss _ _ _ _ 0 rfl rfl (by left; simp [Rect.unit])]
    exact read_hit v (slot 1 h1) q1 _ w1
  | 2, hi =>
    rw [read_miss _ _ _ _ 0 rfl rfl (by left; simp [Rect.unit])]
    exact read_hit v (slot 2 h2) q2 _ w2
  | 3, hi => exact read_hit v (slot 3 h3) q3 _ w3

end Cert.Slots
-- ==== Proof.KernelIdeal.Checks.lean ====
/-
  The side conditions of the sixteen copies: every index the scans produce is in range, whatever the
  comparisons said. An index is built by choosing, comparison after comparison, between a literal and the index so far,
  so it never exceeds the largest literal.
-/
module

public import proofs.«01_k».proof.Proof.Gen.KernelIdeal.Frame
public import proofs.«01_k».proof.Proof.Gen.KernelIdeal.Skeleton

@[expose] public section

namespace Cert.KernelIdeal.Hand

open Cert.KernelIdeal Cert.KernelIdeal.Gen
open Idealize.ShloMosaic

/-- Choosing between two words that are at most `n` gives a word that is at most `n`. -/
theorem select_le {n : Nat} (b : BitVec 1) {x y : BitVec 32} (hx : x.toNat ≤ n) (hy : y.toNat ≤ n) :
    (Scalar.select b x y).toNat ≤ n := by
  unfold Scalar.select; split <;> assumption

/-- A box one wide on the middle axis of the input, at an index that is at most 15, lies inside it. -/
theorem box_x {o : Fin 3 → Nat} (h0 : o 0 = 0) (h1 : o 1 ≤ 15) (h2 : o 2 = 0) : ∀ a, o a + S512x1x784.size a ≤ S512x16x784.size a
  | 0 => by show o 0 + 512 ≤ 512; omega
  | 1 => by show o 1 + 1 ≤ 16; omega
  | 2 => by show o 2 + 784 ≤ 784; omega

/-- One module's first weight matrix, at an index that is at most 3, lies inside the four. -/
theorem box_w1 {o : Fin 3 → Nat} (h0 : o 0 ≤ 3) (h1 : o 1 = 0) (h2 : o 2 = 0) : ∀ a, o a + S1x784x512.size a ≤ S4x784x512.size a
  | 0 => by show o 0 + 1 ≤ 4; omega
  | 1 => by show o 1 + 784 ≤ 784; omega
  | 2 => by show o 2 + 512 ≤ 512; omega

/-- The same for the second weight matrix. -/
theorem box_w2 {o : Fin 3 → Nat} (h0 : o 0 ≤ 3) (h1 : o 1 = 0) (h2 : o 2 = 0) : ∀ a, o a + S1x512x512.size a ≤ S4x512x512.size a
  | 0 => by show o 0 + 1 ≤ 4; omega
  | 1 => by show o 1 + 512 ≤ 512; omega
  | 2 => by show o 2 + 512 ≤ 512; omega

/-- The same for the third weight matrix. -/
theorem box_w3 {o : Fin 3 → Nat} (h0 : o 0 ≤ 3) (h1 : o 1 = 0) (h2 : o 2 = 0) : ∀ a, o a + S1x512x16.size a ≤ S4x512x16.size a
  | 0 => by show o 0 + 1 ≤ 4; omega
  | 1 => by show o 1 + 512 ≤ 512; omega
  | 2 => by show o 2 + 16 ≤ 16; omega

/-- The index a scan of sixteen entries ends at is at most 15. -/
theorem scan16_le (v : Fin 15 → BitVec 1) :
    (Scalar.select (v 14) 15#32 (Scalar.select (v 13) 14#32 (Scalar.select (v 12) 13#32 (Scalar.select (v 11) 12#32
      (Scalar.select (v 10) 11#32 (Scalar.select (v 9) 10#32 (Scalar.select (v 8) 9#32 (Scalar.select (v 7) 8#32
      (Scalar.select (v 6) 7#32 (Scalar.select (v 5) 6#32 (Scalar.select (v 4) 5#32 (Scalar.select (v 3) 4#32
      (Scalar.select (v 2) 3#32 (Scalar.select (v 1) 2#32 (Scalar.select (v 0) 1#32 0#32))))))))))))))).toNat ≤ 15 := by
  repeat (first | exact by decide | refine select_le _ (by decide) ?_)

/-- The index a scan of four entries ends at is at most 3. -/
theorem scan4_le (a b c : BitVec 1) :
    (Scalar.select c 3#32 (Scalar.select b 2#32 (Scalar.select a 1#32 0#32))).toNat ≤ 3 := by
  repeat (first | exact by decide | refine select_le _ (by decide) ?_)

/-- The copies of input slot 0 are in range. -/
theorem chk1 (v2 v6 v10 v14 v18 v22 v26 v30 v34 v38 v42 v46 v50 v54 v58 : BitVec 1) :
    k0_chk1 v2 v6 v10 v14 v18 v22 v26 v30 v34 v38 v42 v46 v50 v54 v58 :=
  ⟨box_x rfl (scan16_le ![v2, v6, v10, v14, v18, v22, v26, v30, v34, v38, v42, v46, v50, v54, v58]) rfl,
    box_x rfl (scan16_le ![v2, v6, v10, v14, v18, v22, v26, v30, v34, v38, v42, v46, v50, v54, v58]) rfl⟩

/-- The copies of input slot 1 are in range. -/
theorem chk3 (v62 v66 v70 v74 v78 v82 v86 v90 v94 v98 v102 v106 v110 v114 v118 : BitVec 1) :
    k0_chk3 v62 v66 v70 v74 v78 v82 v86 v90 v94 v98 v102 v106 v110 v114 v118 :=
  ⟨box_x rfl (scan16_le ![v62, v66, v70, v74, v78, v82, v86, v90, v94, v98, v102, v106, v110, v114, v118]) rfl,
    box_x rfl (scan16_le ![v62, v66, v70, v74, v78, v82, v86, v90, v94, v98, v102, v106, v110, v114, v118]) rfl⟩

/-- The copies of input slot 2 are in range. -/
theorem chk5 (v122 v126 v130 v134 v138 v142 v146 v150 v154 v158 v162 v166 v170 v174 v178 : BitVec 1) :
    k0_chk5 v122 v126 v130 v134 v138 v142 v146 v150 v154 v158 v162 v166 v170 v174 v178 :=
  ⟨box_x rfl (scan16_le ![v122, v126, v130, v134, v138, v142, v146, v150, v154, v158, v162, v166, v170, v174, v178]) rfl,
    box_x rfl (scan16_le ![v122, v126, v130, v134, v138, v142, v146, v150, v154, v158, v162, v166, v170, v174, v178]) rfl⟩

/-- The copies of input slot 3 are in range. -/
theorem chk7 (v182 v186 v190 v194 v198 v202 v206 v210 v214 v218 v222 v226 v230 v234 v238 : BitVec 1) :
    k0_chk7 v182 v186 v190 v194 v198 v202 v206 v210 v214 v218 v222 v226 v230 v234 v238 :=
  ⟨box_x rfl (scan16_le ![v182, v186, v190, v194, v198, v202, v206, v210, v214, v218, v222, v226, v230, v234, v238]) rfl,
    box_x rfl (scan16_le ![v182, v186, v190, v194, v198, v202, v206, v210, v214, v218, v222, v226, v230, v234, v238]) rfl⟩

/-- The copies of module slot 0's weights are in range. -/
theorem chk2 (v242 v246 v250 : BitVec 1) : k0_chk2 v242 v246 v250 :=
  ⟨box_w1 (scan4_le _ _ _) rfl rfl, box_w2 (scan4_le _ _ _) rfl rfl, box_w3 (scan4_le _ _ _) rfl rfl, box_w1 (scan4_le _ _ _) rfl rfl, box_w2 (scan4_le _ _ _) rfl rfl, box_w3 (scan4_le _ _ _) rfl rfl⟩

/-- The copies of module slot 1's weights are in range. -/
theorem chk4 (v254 v258 v262 : BitVec 1) : k0_chk4 v254 v258 v262 :=
  ⟨box_w1 (scan4_le _ _ _) rfl rfl, box_w2 (scan4_le _ _ _) rfl rfl, box_w3 (scan4_le _ _ _) rfl rfl, box_w1 (scan4_le _ _ _) rfl rfl, box_w2 (scan4_le _ _ _) rfl rfl, box_w3 (scan4_le _ _ _) rfl rfl⟩

/-- The copies of module slot 2's weights are in range. -/
theorem chk6 (v266 v270 v274 : BitVec 1) : k0_chk6 v266 v270 v274 :=
  ⟨box_w1 (scan4_le _ _ _) rfl rfl, box_w2 (scan4_le _ _ _) rfl rfl, box_w3 (scan4_le _ _ _) rfl rfl, box_w1 (scan4_le _ _ _) rfl rfl, box_w2 (scan4_le _ _ _) rfl rfl, box_w3 (scan4_le _ _ _) rfl rfl⟩

/-- The copies of module slot 3's weights are in range. -/
theorem chk8 (v278 v282 v286 : BitVec 1) : k0_chk8 v278 v282 v286 :=
  ⟨box_w1 (scan4_le _ _ _) rfl rfl, box_w2 (scan4_le _ _ _) rfl rfl, box_w3 (scan4_le _ _ _) rfl rfl⟩

end Cert.KernelIdeal.Hand
-- ==== Proof.KernelIdeal.Body.lean ====
/-
  The kernel's body, run once: the scalar scans, the sixteen copies and their waits, the matrix products, the result's
  store. It is run part by part (one theorem for each printed part), at operands left as variables; what it leaves in the
  result's staging buffer is the witness of a subtype the run finds.
-/
module

public import proofs.«01_k».proof.Proof.Gen.KernelIdeal.Frame
public import proofs.«01_k».proof.Proof.Gen.KernelIdeal.Skeleton
public import proofs.«01_k».proof.Proof.KernelIdeal.Checks
public import Idealize.ShloMosaic.Lib.Pipeline.Frame
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The contents type of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f
/-- The read share of memref `M`'s buffer that the copy completing on semaphore cell `n` takes. -/
abbrev tk (c : Dev nD) {sp : Space} {S : Shape} {e : EltTy} (M : Memref sig .tc sp S e) (n : ℕ) (f : Bf (F := F) c M) : sProp 𝕄 :=
  M.view.loc (c : Thread nD τ) ↦{Transfers.shareTokN fullShare n} f

/-- The HBM operand `main_v0`, whole. -/
abbrev hb_x : Memref sig .tc .hbm S512x16x784 .f32 := Memref.whole main_v0
/-- The HBM operand `main_arg1`, whole. -/
abbrev hb_a : Memref sig .tc .hbm S4x784x512 .f32 := Memref.whole main_arg1
/-- The HBM operand `main_arg3`, whole. -/
abbrev hb_b : Memref sig .tc .hbm S4x512x512 .f32 := Memref.whole main_arg3
/-- The HBM operand `main_arg5`, whole. -/
abbrev hb_d : Memref sig .tc .hbm S4x512x16 .f32 := Memref.whole main_arg5
/-- The scratch buffer `cc0_scratch0`, whole. -/
abbrev sc19 : Memref sig .tc .vmem S4x512x784 .f32 := Memref.whole cc0_scratch0
/-- The scratch buffer `cc0_scratch1`, whole. -/
abbrev sc20 : Memref sig .tc .vmem S4x784x512 .f32 := Memref.whole cc0_scratch1
/-- The scratch buffer `cc0_scratch2`, whole. -/
abbrev sc21 : Memref sig .tc .vmem S4x512x512 .f32 := Memref.whole cc0_scratch2
/-- The scratch buffer `cc0_scratch3`, whole. -/
abbrev sc22 : Memref sig .tc .vmem S4x512x16 .f32 := Memref.whole cc0_scratch3

/-- The sixteen semaphore counters at zero. -/
abbrev sems0 (c : Dev nD) : sProp 𝕄 :=
  iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0)

/-- The four operands left in HBM: for each copy out of one, its read share. -/
abbrev toks (c : Dev nD) (gx : Bf (F := F) c hb_x) (ga : Bf (F := F) c hb_a) (gb : Bf (F := F) c hb_b) (gd : Bf (F := F) c hb_d) : sProp 𝕄 :=
  iprop(tk c hb_x 15 gx ∗ tk c hb_x 16 gx ∗ tk c hb_x 17 gx ∗ tk c hb_x 18 gx ∗ tk c hb_a 19 ga ∗ tk c hb_a 22 ga ∗ tk c hb_a 25 ga ∗ tk c hb_a 28 ga ∗ tk c hb_b 20 gb ∗ tk c hb_b 23 gb ∗ tk c hb_b 26 gb ∗ tk c hb_b 29 gb ∗ tk c hb_d 21 gd ∗ tk c hb_d 24 gd ∗ tk c hb_d 27 gd ∗ tk c hb_d 30 gd)

set_option sl_exec.dmaWindow true in
/-- What the body leaves in the result's buffer, WITH the proof that from the operands held (the scalar and vector inputs
    whole, the four HBM operands by their copies' read shares), the counters at zero and nothing owed, the body runs to its
    return and hands everything back: inputs unchanged, the result at the witness, scratch at something, counters at zero. -/
def kernelRun (c : Dev nD)
    (M0 : Memref sig .tc .smem S1x16x4 .f32) (h0 : M0.IsWhole)
    (M1 : Memref sig .tc .smem S1x4x4 .f32) (h1 : M1.IsWhole)
    (M4 : Memref sig .tc .vmem S4x512 .f32) (h4 : M4.IsWhole)
    (M6 : Memref sig .tc .vmem S4x512 .f32) (h6 : M6.IsWhole)
    (M8 : Memref sig .tc .vmem S4x16 .f32) (h8 : M8.IsWhole)
    (M9 : Memref sig .tc .vmem S8x2x128 .f32) (h9 : M9.IsWhole)
    (M10 : Memref sig .tc .vmem S8x128 .f32) (h10 : M10.IsWhole)
    (M11 : Memref sig .tc .vmem S8x128x1 .f32) (h11 : M11.IsWhole)
    (M12 : Memref sig .tc .vmem S8x1 .f32) (h12 : M12.IsWhole)
    (M13 : Memref sig .tc .smem S1x64x4 .f32) (h13 : M13.IsWhole)
    (M14 : Memref sig .tc .smem S1x4x2 .f32) (h14 : M14.IsWhole)
    (M15 : Memref sig .tc .smem S1x2x1 .f32) (h15 : M15.IsWhole)
    (M16 : Memref sig .tc .smem S1x8x4 .f32) (h16 : M16.IsWhole)
    (M17 : Memref sig .tc .smem S1x8x2 .f32) (h17 : M17.IsWhole)
    (M18 : Memref sig .tc .vmem S512x2 .f32) (h18 : M18.IsWhole)
    (f0 : Bf (F := F) c M0) (f1 : Bf (F := F) c M1) (f4 : Bf (F := F) c M4) (f6 : Bf (F := F) c M6) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17)
    (gx : Bf (F := F) c hb_x) (ga : Bf (F := F) c hb_a) (gb : Bf (F := F) c hb_b) (gd : Bf (F := F) c hb_d) :
    { L : Bf (F := F) c sc19 → Bf (F := F) c sc20 → Bf (F := F) c sc21 → Bf (F := F) c sc22 → Bf (F := F) c M18 //
      ∀ (f18 : Bf (F := F) c M18) (f19 : Bf (F := F) c sc19) (f20 : Bf (F := F) c sc20) (f21 : Bf (F := F) c sc21) (f22 : Bf (F := F) c sc22)
        (W : Waits sig Unit) (Q : PUnit → sProp 𝕄),
        iprop(pt c M0 f0 ∗ pt c M1 f1 ∗ pt c M4 f4 ∗ pt c M6 f6 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
          ∗ pt c M18 f18 ∗ pt c sc19 f19 ∗ pt c sc20 f20 ∗ pt c sc21 f21 ∗ pt c sc22 f22
          ∗ toks c gx ga gb gd ∗ sems0 c ∗ owes (c : Thread nD τ) 0 W
          ∗ (iprop(pt c M0 f0 ∗ pt c M1 f1 ∗ pt c M4 f4 ∗ pt c M6 f6 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
              ∗ pt c M18 (L f19 f20 f21 f22) ∗ (∃ f, pt c sc19 f) ∗ (∃ f, pt c sc20 f) ∗ (∃ f, pt c sc21 f) ∗ (∃ f, pt c sc22 f)
              ∗ toks c gx ga gb gd ∗ sems0 c ∗ ∃ W', owes (c : Thread nD τ) 0 W')
              -∗ Q ⟨⟩))
        ⊢ wp frame (wpE (defs₀ (F := F)) Variants.none c none) Set.univ
            (cc0__fused_kernel M0 h0 M1 h1 hb_x (Memref.isWhole_whole _) hb_a (Memref.isWhole_whole _) M4 h4 hb_b (Memref.isWhole_whole _) M6 h6 hb_d (Memref.isWhole_whole _) M8 h8 M9 h9 M10 h10 M11 h11 M12 h12 M13 h13 M14 h14 M15 h15 M16 h16 M17 h17 M18 h18 sc19 (Memref.isWhole_whole _) sc20 (Memref.isWhole_whole _) sc21 (Memref.isWhole_whole _) sc22 (Memref.isWhole_whole _) cc0_scratch4 cc0_scratch5) Q } := by
  refine ⟨?_, fun f18 f19 f20 f21 f22 W Q => ?run⟩
  case run =>
    iintro ⟨H0, H1, H4, H6, H8, H9, H10, H11, H12, H13, H14, H15, H16, H17, H18, H19, H20, H21, H22,
      ⟨T15, T16, T17, T18, T19, T22, T25, T28, T20, T23, T26, T29, T21, T24, T27, T30⟩, ⟨Z15, Z16, Z17, Z18, Z19, Z20, Z21, Z22, Z23, Z24, Z25, Z26, Z27, Z28, Z29, Z30⟩, HO, Hk⟩
    sl_exec_parts! (disch := first | exact chk1 .. | exact chk2 .. | exact chk3 .. | exact chk4 .. | exact chk5 .. | exact chk6 .. | exact chk7 .. | exact chk8 ..)
    sl_step
    iapply Hk
    isplitl [H0]; · iexact H0
    isplitl [H1]; · iexact H1
    isplitl [H4]; · iexact H4
    isplitl [H6]; · iexact H6
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [T15 T16 T17 T18 T19 T22 T25 T28 T20 T23 T26 T29 T21 T24 T27 T30]
    · isplitl [T15]; · iexact T15
      isplitl [T16]; · iexact T16
      isplitl [T17]; · iexact T17
      isplitl [T18]; · iexact T18
      isplitl [T19]; · iexact T19
      isplitl [T22]; · iexact T22
      isplitl [T25]; · iexact T25
      isplitl [T28]; · iexact T28
      isplitl [T20]; · iexact T20
      isplitl [T23]; · iexact T23
      isplitl [T26]; · iexact T26
      isplitl [T29]; · iexact T29
      isplitl [T21]; · iexact T21
      isplitl [T24]; · iexact T24
      isplitl [T27]; · iexact T27
      iexact T30
    isplitl [Z15 Z16 Z17 Z18 Z19 Z20 Z21 Z22 Z23 Z24 Z25 Z26 Z27 Z28 Z29 Z30]
    · isplitl [Z15]; · iexact Z15
      isplitl [Z16]; · iexact Z16
      isplitl [Z17]; · iexact Z17
      isplitl [Z18]; · iexact Z18
      isplitl [Z19]; · iexact Z19
      isplitl [Z20]; · iexact Z20
      isplitl [Z21]; · iexact Z21
      isplitl [Z22]; · iexact Z22
      isplitl [Z23]; · iexact Z23
      isplitl [Z24]; · iexact Z24
      isplitl [Z25]; · iexact Z25
      isplitl [Z26]; · iexact Z26
      isplitl [Z27]; · iexact Z27
      isplitl [Z28]; · iexact Z28
      isplitl [Z29]; · iexact Z29
      iexact Z30
    iexists _; iexact HO

end Cert.KernelIdeal.Hand

end
-- ==== Proof.KernelIdeal.Indep.lean ====
/-
  What the body leaves in the result does not depend on what the four scratch buffers held at the start: each of the
  sixteen blocks it reads out of them is the block a copy wrote.
-/
module

public import proofs.«01_k».proof.Proof.Slots
public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- A block of the first scratch, its leading unit axis restored. -/
abbrev up_x (w : Vec F S512x784 .f32) : Vec F S1x512x784 .f32 := fun x => w ((Shape.reshapeEquiv squeezes_S1x512x784_S512x784.numel_eq).symm x)
/-- A block of the second scratch, its leading unit axis restored. -/
abbrev up_a (w : Vec F S784x512 .f32) : Vec F S1x784x512 .f32 := fun x => w ((Shape.reshapeEquiv squeezes_S1x784x512_S784x512.numel_eq).symm x)
/-- A block of the third scratch, its leading unit axis restored. -/
abbrev up_b (w : Vec F S512x512 .f32) : Vec F S1x512x512 .f32 := fun x => w ((Shape.reshapeEquiv squeezes_S1x512x512_S512x512.numel_eq).symm x)
/-- A block of the fourth scratch, its leading unit axis restored. -/
abbrev up_d (w : Vec F S512x16 .f32) : Vec F S1x512x16 .f32 := fun x => w ((Shape.reshapeEquiv squeezes_S1x512x16_S512x16.numel_eq).symm x)

section reads

variable (c : Dev nD) (M0 : Memref sig .tc .smem S1x16x4 .f32) (M1 : Memref sig .tc .smem S1x4x4 .f32)
  (f0 : Bf (F := F) c M0) (f1 : Bf (F := F) c M1)
  (gx : Bf (F := F) c hb_x) (ga : Bf (F := F) c hb_a) (gb : Bf (F := F) c hb_b) (gd : Bf (F := F) c hb_d)
  (f19 : Bf (F := F) c sc19) (f20 : Bf (F := F) c sc20) (f21 : Bf (F := F) c sc21) (f22 : Bf (F := F) c sc22)

/-- The first block read out of the first scratch is the first copy's. -/
theorem v428_eq : kernelRun.sl.v428 c M0 f0 gx f19 = up_x (kernelRun.sl.dma80 c M0 f0 gx) :=
  Slots.read4 _ 0 _ _ _ _ _ _ _ _ _ _ _ _ _ _
/-- The second block read out of the first scratch is the second copy's. -/
theorem v499_eq : kernelRun.sl.v499 c M0 f0 gx f19 = up_x (kernelRun.sl.dma80_4 c M0 f0 gx) :=
  Slots.read4 _ 1 _ _ _ _ _ _ _ _ _ _ _ _ _ _
/-- The third block read out of the first scratch is the third copy's. -/
theorem v570_eq : kernelRun.sl.v570 c M0 f0 gx f19 = up_x (kernelRun.sl.dma80_8 c M0 f0 gx) :=
  Slots.read4 _ 2 _ _ _ _ _ _ _ _ _ _ _ _ _ _
/-- The fourth block read out of the first scratch is the fourth copy's. -/
theorem v641_eq : kernelRun.sl.v641 c M0 f0 gx f19 = up_x (kernelRun.sl.dma80_12 c M0 f0 gx) :=
  Slots.read4 _ 3 _ _ _ _ _ _ _ _ _ _ _ _ _ _
/-- The first block read out of the second scratch is the first copy's. -/
theorem v431_eq : kernelRun.sl.v431 c M1 f1 ga f20 = up_a (kernelRun.sl.dma80_1 c M1 f1 ga) :=
  Slots.read4 _ 0 _ _ _ _ _ _ _ _ _ _ _ _ _ _
/-- The second block read out of the second scratch is the second copy's. -/
theorem v502_eq : kernelRun.sl.v502 c M1 f1 ga f20 = up_a (kernelRun.sl.dma80_5 c M1 f1 ga) :=
  Slots.read4 _ 1 _ _ _ _ _ _ _ _ _ _ _ _ _ _
/-- The third block read out of the second scratch is the third copy's. -/
theorem v573_eq : kernelRun.sl.v573 c M1 f1 ga f20 = up_a (kernelRun.sl.dma80_9 c M1 f1 ga) :=
  Slots.read4 _ 2 _ _ _ _ _ _ _ _ _ _ _ _ _ _
/-- The fourth block read out of the second scratch is the fourth copy's. -/
theorem v644_eq : kernelRun.sl.v644 c M1 f1 ga f20 = up_a (kernelRun.sl.dma80_13 c M1 f1 ga) :=
  Slots.read4 _ 3 _ _ _ _ _ _ _ _ _ _ _ _ _ _
/-- The first block read out of the third scratch is the first copy's. -/
theorem v440_eq : kernelRun.sl.v440 c M1 f1 gb f21 = up_b (kernelRun.sl.dma80_2 c M1 f1 gb) :=
  Slots.read4 _ 0 _ _ _ _ _ _ _ _ _ _ _ _ _ _
/-- The second block read out of the third scratch is the second copy's. -/
theorem v511_eq : kernelRun.sl.v511 c M1 f1 gb f21 = up_b (kernelRun.sl.dma80_6 c M1 f1 gb) :=
  Slots.read4 _ 1 _ _ _ _ _ _ _ _ _ _ _ _ _ _
/-- The third block read out of the third scratch is the third copy's. -/
theorem v582_eq : kernelRun.sl.v582 c M1 f1 gb f21 = up_b (kernelRun.sl.dma80_10 c M1 f1 gb) :=
  Slots.read4 _ 2 _ _ _ _ _ _ _ _ _ _ _ _ _ _
/-- The fourth block read out of the third scratch is the fourth copy's. -/
theorem v653_eq : kernelRun.sl.v653 c M1 f1 gb f21 = up_b (kernelRun.sl.dma80_14 c M1 f1 gb) :=
  Slots.read4 _ 3 _ _ _ _ _ _ _ _ _ _ _ _ _ _
/-- The first block read out of the fourth scratch is the first copy's. -/
theorem v449_eq : kernelRun.sl.v449 c M1 f1 gd f22 = up_d (kernelRun.sl.dma80_3 c M1 f1 gd) :=
  Slots.read4 _ 0 _ _ _ _ _ _ _ _ _ _ _ _ _ _
/-- The second block read out of the fourth scratch is the second copy's. -/
theorem v520_eq : kernelRun.sl.v520 c M1 f1 gd f22 = up_d (kernelRun.sl.dma80_7 c M1 f1 gd) :=
  Slots.read4 _ 1 _ _ _ _ _ _ _ _ _ _ _ _ _ _
/-- The third block read out of the fourth scratch is the third copy's. -/
theorem v591_eq : kernelRun.sl.v591 c M1 f1 gd f22 = up_d (kernelRun.sl.dma80_11 c M1 f1 gd) :=
  Slots.read4 _ 2 _ _ _ _ _ _ _ _ _ _ _ _ _ _
/-- The fourth block read out of the fourth scratch is the fourth copy's. -/
theorem v662_eq : kernelRun.sl.v662 c M1 f1 gd f22 = up_d (kernelRun.sl.dma80_15 c M1 f1 gd) :=
  Slots.read4 _ 3 _ _ _ _ _ _ _ _ _ _ _ _ _ _

end reads

variable (c : Dev nD) (M0 : Memref sig .tc .smem S1x16x4 .f32) (M1 : Memref sig .tc .smem S1x4x4 .f32)
  (M4 : Memref sig .tc .vmem S4x512 .f32) (M6 : Memref sig .tc .vmem S4x512 .f32) (M8 : Memref sig .tc .vmem S4x16 .f32)
  (f0 : Bf (F := F) c M0) (f1 : Bf (F := F) c M1) (f4 : Bf (F := F) c M4) (f6 : Bf (F := F) c M6) (f8 : Bf (F := F) c M8)
  (gx : Bf (F := F) c hb_x) (ga : Bf (F := F) c hb_a) (gb : Bf (F := F) c hb_b) (gd : Bf (F := F) c hb_d)
  (f19 e19 : Bf (F := F) c sc19) (f20 e20 : Bf (F := F) c sc20) (f21 e21 : Bf (F := F) c sc21) (f22 e22 : Bf (F := F) c sc22)

/-- The first stage's result does not depend on what the scratch held. -/
theorem stage1_indep : kernelRun.sl.r_114 c M0 M1 M4 M6 M8 f0 f1 f4 f6 f8 gx ga gb gd f19 f20 f21 f22
    = kernelRun.sl.r_114 c M0 M1 M4 M6 M8 f0 f1 f4 f6 f8 gx ga gb gd e19 e20 e21 e22 := by
  simp only [kernelRun.sl.r_94, kernelRun.sl.r_100, kernelRun.sl.r_105, kernelRun.sl.r_109, kernelRun.sl.r_110, kernelRun.sl.r_114,
    v428_eq, v499_eq, v570_eq, v641_eq, v431_eq, v502_eq, v573_eq, v644_eq, v440_eq, v511_eq, v582_eq, v653_eq, v449_eq, v520_eq, v591_eq, v662_eq]

/-- Nor does what the body leaves in the result's buffer. -/
theorem result_indep (M9 : Memref sig .tc .vmem S8x2x128 .f32) (M10 : Memref sig .tc .vmem S8x128 .f32) (M11 : Memref sig .tc .vmem S8x128x1 .f32)
    (M12 : Memref sig .tc .vmem S8x1 .f32) (M13 : Memref sig .tc .smem S1x64x4 .f32) (M14 : Memref sig .tc .smem S1x4x2 .f32)
    (M15 : Memref sig .tc .smem S1x2x1 .f32) (M16 : Memref sig .tc .smem S1x8x4 .f32) (M17 : Memref sig .tc .smem S1x8x2 .f32)
    (f9 : Bf (F := F) c M9) (f10 : Bf (F := F) c M10) (f11 : Bf (F := F) c M11) (f12 : Bf (F := F) c M12) (f13 : Bf (F := F) c M13)
    (f14 : Bf (F := F) c M14) (f15 : Bf (F := F) c M15) (f16 : Bf (F := F) c M16) (f17 : Bf (F := F) c M17) :
    kernelRun.sl.H18_1 c M0 M1 M4 M6 M8 M9 M10 M11 M12 M13 M14 M15 M16 M17 f0 f1 f4 f6 f8 f9 f10 f11 f12 f13 f14 f15 f16 f17 gx ga gb gd f19 f20 f21 f22
      = kernelRun.sl.H18_1 c M0 M1 M4 M6 M8 M9 M10 M11 M12 M13 M14 M15 M16 M17 f0 f1 f4 f6 f8 f9 f10 f11 f12 f13 f14 f15 f16 f17 gx ga gb gd e19 e20 e21 e22 := by
  simp only [kernelRun.sl.H18_1, kernelRun.sl.r_546, kernelRun.sl.r_533, kernelRun.sl.r_586, kernelRun.sl.r_559, kernelRun.sl.r_572, kernelRun.sl.r_606, kernelRun.sl.r_554, kernelRun.sl.r_577, kernelRun.sl.r_517, kernelRun.sl.r_593, kernelRun.sl.r_555, kernelRun.sl.r_519, kernelRun.sl.r_576, kernelRun.sl.r_569, kernelRun.sl.r_560, kernelRun.sl.r_518, kernelRun.sl.r_534, kernelRun.sl.r_535, kernelRun.sl.r_553, kernelRun.sl.r_589, kernelRun.sl.r_594, kernelRun.sl.r_603,
    stage1_indep c M0 M1 M4 M6 M8 f0 f1 f4 f6 f8 gx ga gb gd f19 e19 f20 e20 f21 e21 f22 e22]

end Cert.KernelIdeal.Hand

end
-- ==== Proof.KernelIdeal.Run.lean ====
/-
  The launch: the kernel's own sixteen semaphore cells and the four operands left in HBM as the invariant, what each
  window's staging buffer holds around the body, the body's triple at the pipeline's own buffers, and the run of the
  whole program.
-/
module

public import proofs.«01_k».proof.Proof.Gen.KernelIdeal.Points
public import proofs.«01_k».proof.Proof.KernelIdeal.Indep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own semaphores and the operands it copies from -/

/-- The sixteen cells of the two semaphore arrays. -/
abbrev osem0 : Fin 16 → SemLoc sig := fun j =>
  (![SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30] : Fin 16 → SemLoc sig) j

theorem ownSemFacts0 : Pipeline.OwnSemFacts spec0 osem0 := by decide

/-- The kernel's semaphores at zero, cell by cell. -/
theorem ownSems00_eq (c : Dev nD) :
    (Pipeline.ownSems0 (Ix := Unit) (Name := ℕ) (U := Pipeline.UD sig nD τ) (Lvl := ℕ) (Val := Elt F) (τ := τ) osem0 c : sProp 𝕄)
      = sems0 c := by
  rw [Pipeline.ownSems0_eq_of_list c osem0 [0, 1, 2, 3, 4, 5, 6, 7, 8, 9, 10, 11, 12, 13, 14, 15] (by decide) (by decide)]; rfl

/-- The four operands left in HBM. -/
def H0 : Finset (Ref sig .tc) := {main_v0, main_arg1, main_arg3, main_arg5}

theorem H0_sub : H0 ⊆ Pipeline.restRefs sig spec0 := by decide

/-- The four operands whole, one by one. -/
theorem hbmPts0_eq (c : Dev nD) :
    (bigSep H0 (fun b => ((c : Thread nD τ).loc b) ↦{fullShare} V m c b) : sProp 𝕄)
      = iprop(pt c hb_x (V m c main_v0) ∗ pt c hb_a (V m c main_arg1) ∗ pt c hb_b (V m c main_arg3) ∗ pt c hb_d (V m c main_arg5)) := by
  rw [BI.bigSep_eq_bigSepL_of_eq [main_v0, main_arg1, main_arg3, main_arg5] (by decide) (by decide)]; rfl

/-- The invariant around the body: scratch at anything, the generator register, the semaphores at zero, the four operands. -/
theorem PhiD0_eq (c : Dev nD) :
    (Pipeline.ΦD osem0 spec0 H0 (V m) c : sProp 𝕄)
      = iprop(iprop((∃ f, pt c sc19 f) ∗ (∃ f, pt c sc20 f) ∗ (∃ f, pt c sc21 f) ∗ (∃ f, pt c sc22 f)) ∗ (∃ r, prngReg c r)
          ∗ sems0 c
          ∗ iprop(pt c hb_x (V m c main_v0) ∗ pt c hb_a (V m c main_arg1) ∗ pt c hb_b (V m c main_arg3) ∗ pt c hb_d (V m c main_arg5))) := by
  rw [Pipeline.ΦD_eq, scopedRest0_eq, ownSems00_eq, hbmPts0_eq]

/-- What is left of a buffer held whole once the read shares numbered `a`, `b`, `d`, `e` are taken out. -/
def left (c : Dev nD) {sp : Space} {S : Shape} {e : EltTy} (M : Memref sig .tc sp S e) (f : Bf (F := F) c M) (a b d e' : ℕ) : sProp 𝕄 :=
  iprop((M.view.loc (c : Thread nD τ) ↦{Transfers.shareDrop fullShare 31} f)
    ∗ bigSep (Finset.range 31 \ {a, b, d, e'}) (fun i => tk c M i f))

/-- A buffer held whole is four of its read shares and what is left. -/
theorem deal4 (c : Dev nD) {sp : Space} {S : Shape} {e : EltTy} (M : Memref sig .tc sp S e) (f : Bf (F := F) c M) (a b d e' : ℕ)
    (hs : ({a, b, d, e'} : Finset ℕ) ⊆ Finset.range 31) (hn : [a, b, d, e'].Nodup) :
    (pt c M f : sProp 𝕄) ⊣⊢ iprop((tk c M a f ∗ tk c M b f ∗ tk c M d f ∗ tk c M e' f) ∗ left c M f a b d e') := by
  have h1 := Transfers.pointsTo_toks_range (Ix := Unit) (Name := ℕ) (U := Pipeline.UD sig nD τ) (Lvl := ℕ)
    (ℓ := M.view.loc (c : Thread nD τ)) (S := Finset.univ) (f := f) fullShare 31
  have h2 : (bigSep (Finset.range 31) (fun i => tk c M i f) : sProp 𝕄)
      = iprop((tk c M a f ∗ tk c M b f ∗ tk c M d f ∗ tk c M e' f) ∗ bigSep (Finset.range 31 \ {a, b, d, e'}) (fun i => tk c M i f)) := by
    rw [BI.bigSep_sdiff_split hs, BI.bigSep_eq_bigSepL_of_eq (S := {a, b, d, e'}) [a, b, d, e'] (by simp) hn]; rfl
  unfold left
  rw [h2] at h1
  constructor
  · refine h1.1.trans ?_
    iintro ⟨Hd, Ht, Hr⟩
    isplitl [Ht]; · iexact Ht
    isplitl [Hd]; · iexact Hd
    iexact Hr
  · refine BIBase.Entails.trans ?_ h1.2
    iintro ⟨Ht, Hd, Hr⟩
    isplitl [Hd]; · iexact Hd
    isplitl [Ht]; · iexact Ht
    iexact Hr

/-! ## What the body leaves -/

/-- What the run leaves in the result's buffer is the same whatever the scratch held. -/
theorem kernelRun_indep (c : Dev nD) (M0 : Memref sig .tc .smem S1x16x4 .f32) (h0 : M0.IsWhole) (M1 : Memref sig .tc .smem S1x4x4 .f32) (h1 : M1.IsWhole) (M4 : Memref sig .tc .vmem S4x512 .f32) (h4 : M4.IsWhole) (M6 : Memref sig .tc .vmem S4x512 .f32) (h6 : M6.IsWhole) (M8 : Memref sig .tc .vmem S4x16 .f32) (h8 : M8.IsWhole) (M9 : Memref sig .tc .vmem S8x2x128 .f32) (h9 : M9.IsWhole) (M10 : Memref sig .tc .vmem S8x128 .f32) (h10 : M10.IsWhole) (M11 : Memref sig .tc .vmem S8x128x1 .f32) (h11 : M11.IsWhole) (M12 : Memref sig .tc .vmem S8x1 .f32) (h12 : M12.IsWhole) (M13 : Memref sig .tc .smem S1x64x4 .f32) (h13 : M13.IsWhole) (M14 : Memref sig .tc .smem S1x4x2 .f32) (h14 : M14.IsWhole) (M15 : Memref sig .tc .smem S1x2x1 .f32) (h15 : M15.IsWhole) (M16 : Memref sig .tc .smem S1x8x4 .f32) (h16 : M16.IsWhole) (M17 : Memref sig .tc .smem S1x8x2 .f32) (h17 : M17.IsWhole) (M18 : Memref sig .tc .vmem S512x2 .f32) (h18 : M18.IsWhole) (f0 : Bf (F := F) c M0) (f1 : Bf (F := F) c M1) (f4 : Bf (F := F) c M4) (f6 : Bf (F := F) c M6) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17)
    (gx : Bf (F := F) c hb_x) (ga : Bf (F := F) c hb_a) (gb : Bf (F := F) c hb_b) (gd : Bf (F := F) c hb_d)
    (f19 e19 : Bf (F := F) c sc19) (f20 e20 : Bf (F := F) c sc20) (f21 e21 : Bf (F := F) c sc21) (f22 e22 : Bf (F := F) c sc22) :
    (kernelRun c M0 h0 M1 h1 M4 h4 M6 h6 M8 h8 M9 h9 M10 h10 M11 h11 M12 h12 M13 h13 M14 h14 M15 h15 M16 h16 M17 h17 M18 h18 f0 f1 f4 f6 f8 f9 f10 f11 f12 f13 f14 f15 f16 f17 gx ga gb gd).1 f19 f20 f21 f22 = (kernelRun c M0 h0 M1 h1 M4 h4 M6 h6 M8 h8 M9 h9 M10 h10 M11 h11 M12 h12 M13 h13 M14 h14 M15 h15 M16 h16 M17 h17 M18 h18 f0 f1 f4 f6 f8 f9 f10 f11 f12 f13 f14 f15 f16 f17 gx ga gb gd).1 e19 e20 e21 e22 :=
  congrArg (M18.view.writes (Elt F) M18.view.junk) (result_indep ..)

/-- What the body leaves in the result's buffer at a point, the inputs at their blocks, as raw contents. -/
def rawOut (c : Dev nD) (t : Fin cfg0.N) : Bf (F := F) c (st0_14 t) :=
  (kernelRun c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0) (st0_11 t) (hstage0_11 0) (st0_12 t) (hstage0_12 0) (st0_13 t) (hstage0_13 0) (st0_14 t) (hstage0_14 0)
    ((hstage0_0 0).unread (iblk m c 0 t)) ((hstage0_1 0).unread (iblk m c 1 t)) ((hstage0_2 0).unread (iblk m c 2 t)) ((hstage0_3 0).unread (iblk m c 3 t)) ((hstage0_4 0).unread (iblk m c 4 t)) ((hstage0_5 0).unread (iblk m c 5 t)) ((hstage0_6 0).unread (iblk m c 6 t)) ((hstage0_7 0).unread (iblk m c 7 t)) ((hstage0_8 0).unread (iblk m c 8 t)) ((hstage0_9 0).unread (iblk m c 9 t)) ((hstage0_10 0).unread (iblk m c 10 t)) ((hstage0_11 0).unread (iblk m c 11 t)) ((hstage0_12 0).unread (iblk m c 12 t)) ((hstage0_13 0).unread (iblk m c 13 t))
    (V m c main_v0) (V m c main_arg1) (V m c main_arg3) (V m c main_arg5)).1 sc19.view.junk sc20.view.junk sc21.view.junk sc22.view.junk

/-- The same as the values read there. -/
def outAt (c : Dev nD) (t : Fin cfg0.N) : Vec F S512x2 .f32 := (st0_14 t).view.read (Elt F) (rawOut m c t)

/-- What each window's buffer holds after the body: an input its block, the result what the body left. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

/-- The result's buffer after the body. -/
theorem after0_14 (c : Dev nD) (t : Fin cfg0.N) : (dats m 0 c).after 14 t = outAt m c t := by dsimp only [dats]

/-! Each input window's buffer holds its block, before the body and after it. -/

theorem before0_0 (c : Dev nD) (t : Fin cfg0.N) (d) : (dats (F := F) m 0 c).before 0 t d = iblk m c 0 t :=
  ((dats m 0 c).before_in_eq_fetched 0 rfl (fun _ => rfl) (fun _ _ _ => rfl) (fun _ => rfl) t d).trans rfl
theorem after0_0 (c : Dev nD) (t : Fin cfg0.N) : (dats (F := F) m 0 c).after 0 t = iblk m c 0 t := rfl
theorem before0_1 (c : Dev nD) (t : Fin cfg0.N) (d) : (dats (F := F) m 0 c).before 1 t d = iblk m c 1 t :=
  ((dats m 0 c).before_in_eq_fetched 1 rfl (fun _ => rfl) (fun _ _ _ => rfl) (fun _ => rfl) t d).trans rfl
theorem after0_1 (c : Dev nD) (t : Fin cfg0.N) : (dats (F := F) m 0 c).after 1 t = iblk m c 1 t := rfl
theorem before0_2 (c : Dev nD) (t : Fin cfg0.N) (d) : (dats (F := F) m 0 c).before 2 t d = iblk m c 2 t :=
  ((dats m 0 c).before_in_eq_fetched 2 rfl (fun _ => rfl) (fun _ _ _ => rfl) (fun _ => rfl) t d).trans rfl
theorem after0_2 (c : Dev nD) (t : Fin cfg0.N) : (dats (F := F) m 0 c).after 2 t = iblk m c 2 t := rfl
theorem before0_3 (c : Dev nD) (t : Fin cfg0.N) (d) : (dats (F := F) m 0 c).before 3 t d = iblk m c 3 t :=
  ((dats m 0 c).before_in_eq_fetched 3 rfl (fun _ => rfl) (fun _ _ _ => rfl) (fun _ => rfl) t d).trans rfl
theorem after0_3 (c : Dev nD) (t : Fin cfg0.N) : (dats (F := F) m 0 c).after 3 t = iblk m c 3 t := rfl
theorem before0_4 (c : Dev nD) (t : Fin cfg0.N) (d) : (dats (F := F) m 0 c).before 4 t d = iblk m c 4 t :=
  ((dats m 0 c).before_in_eq_fetched 4 rfl (fun _ => rfl) (fun _ _ _ => rfl) (fun _ => rfl) t d).trans rfl
theorem after0_4 (c : Dev nD) (t : Fin cfg0.N) : (dats (F := F) m 0 c).after 4 t = iblk m c 4 t := rfl
theorem before0_5 (c : Dev nD) (t : Fin cfg0.N) (d) : (dats (F := F) m 0 c).before 5 t d = iblk m c 5 t :=
  ((dats m 0 c).before_in_eq_fetched 5 rfl (fun _ => rfl) (fun _ _ _ => rfl) (fun _ => rfl) t d).trans rfl
theorem after0_5 (c : Dev nD) (t : Fin cfg0.N) : (dats (F := F) m 0 c).after 5 t = iblk m c 5 t := rfl
theorem before0_6 (c : Dev nD) (t : Fin cfg0.N) (d) : (dats (F := F) m 0 c).before 6 t d = iblk m c 6 t :=
  ((dats m 0 c).before_in_eq_fetched 6 rfl (fun _ => rfl) (fun _ _ _ => rfl) (fun _ => rfl) t d).trans rfl
theorem after0_6 (c : Dev nD) (t : Fin cfg0.N) : (dats (F := F) m 0 c).after 6 t = iblk m c 6 t := rfl
theorem before0_7 (c : Dev nD) (t : Fin cfg0.N) (d) : (dats (F := F) m 0 c).before 7 t d = iblk m c 7 t :=
  ((dats m 0 c).before_in_eq_fetched 7 rfl (fun _ => rfl) (fun _ _ _ => rfl) (fun _ => rfl) t d).trans rfl
theorem after0_7 (c : Dev nD) (t : Fin cfg0.N) : (dats (F := F) m 0 c).after 7 t = iblk m c 7 t := rfl
theorem before0_8 (c : Dev nD) (t : Fin cfg0.N) (d) : (dats (F := F) m 0 c).before 8 t d = iblk m c 8 t :=
  ((dats m 0 c).before_in_eq_fetched 8 rfl (fun _ => rfl) (fun _ _ _ => rfl) (fun _ => rfl) t d).trans rfl
theorem after0_8 (c : Dev nD) (t : Fin cfg0.N) : (dats (F := F) m 0 c).after 8 t = iblk m c 8 t := rfl
theorem before0_9 (c : Dev nD) (t : Fin cfg0.N) (d) : (dats (F := F) m 0 c).before 9 t d = iblk m c 9 t :=
  ((dats m 0 c).before_in_eq_fetched 9 rfl (fun _ => rfl) (fun _ _ _ => rfl) (fun _ => rfl) t d).trans rfl
theorem after0_9 (c : Dev nD) (t : Fin cfg0.N) : (dats (F := F) m 0 c).after 9 t = iblk m c 9 t := rfl
theorem before0_10 (c : Dev nD) (t : Fin cfg0.N) (d) : (dats (F := F) m 0 c).before 10 t d = iblk m c 10 t :=
  ((dats m 0 c).before_in_eq_fetched 10 rfl (fun _ => rfl) (fun _ _ _ => rfl) (fun _ => rfl) t d).trans rfl
theorem after0_10 (c : Dev nD) (t : Fin cfg0.N) : (dats (F := F) m 0 c).after 10 t = iblk m c 10 t := rfl
theorem before0_11 (c : Dev nD) (t : Fin cfg0.N) (d) : (dats (F := F) m 0 c).before 11 t d = iblk m c 11 t :=
  ((dats m 0 c).before_in_eq_fetched 11 rfl (fun _ => rfl) (fun _ _ _ => rfl) (fun _ => rfl) t d).trans rfl
theorem after0_11 (c : Dev nD) (t : Fin cfg0.N) : (dats (F := F) m 0 c).after 11 t = iblk m c 11 t := rfl
theorem before0_12 (c : Dev nD) (t : Fin cfg0.N) (d) : (dats (F := F) m 0 c).before 12 t d = iblk m c 12 t :=
  ((dats m 0 c).before_in_eq_fetched 12 rfl (fun _ => rfl) (fun _ _ _ => rfl) (fun _ => rfl) t d).trans rfl
theorem after0_12 (c : Dev nD) (t : Fin cfg0.N) : (dats (F := F) m 0 c).after 12 t = iblk m c 12 t := rfl
theorem before0_13 (c : Dev nD) (t : Fin cfg0.N) (d) : (dats (F := F) m 0 c).before 13 t d = iblk m c 13 t :=
  ((dats m 0 c).before_in_eq_fetched 13 rfl (fun _ => rfl) (fun _ _ _ => rfl) (fun _ => rfl) t d).trans rfl
theorem after0_13 (c : Dev nD) (t : Fin cfg0.N) : (dats (F := F) m 0 c).after 13 t = iblk m c 13 t := rfl

/-- A whole buffer owned at the values `X` is held at the contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  iintro ⟨%f, %hf, H⟩
  rw [h.eq_unread hf, h.set_eq_univ]
  iexact H

/-- A whole buffer held at some contents is owned at the values they read. -/
theorem pt_owns (c : Dev nD) {sp : Space} {S : Shape} {e : EltTy} (M : Memref sig .tc sp S e) (h : M.IsWhole) (f : Bf (F := F) c M) :
    (pt c M f : sProp 𝕄) ⊢ owns (c : Thread nD τ) M fullShare (M.view.read (Elt F) f) := by
  unfold owns
  iintro H
  iexists f
  isplitr; · ipureintro; rfl
  rw [h.set_eq_univ]
  iexact H

/-- The contents that read `X`, owned. -/
theorem pt_owns_unread (c : Dev nD) {sp : Space} {S : Shape} {e : EltTy} (M : Memref sig .tc sp S e) (h : M.IsWhole) (X : S.Idx → Elt F e) :
    (pt c M (h.unread X) : sProp 𝕄) ⊢ owns (c : Thread nD τ) M fullShare X :=
  (pt_owns c M h (h.unread X)).trans (by rw [h.read_unread])

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t))

set_option maxHeartbeats 2000000 in
/-- The body at a point: the operands' read shares dealt, the run, the shares joined again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  simp only [before0_0, before0_1, before0_2, before0_3, before0_4, before0_5, before0_6, before0_7, before0_8, before0_9, before0_10, before0_11, before0_12, before0_13, after0_0, after0_1, after0_2, after0_3, after0_4, after0_5, after0_6, after0_7, after0_8, after0_9, after0_10, after0_11, after0_12, after0_13, after0_14]
  iintro ⟨⟨⟨⟨%f19, S19⟩, ⟨%f20, S20⟩, ⟨%f21, S21⟩, ⟨%f22, S22⟩⟩, Hg, Hz, Hx, Ha, Hb, Hd⟩, ⟨%W, %hW, HO⟩, ⟨%d0, C0⟩, ⟨%d1, C1⟩, ⟨%d2, C2⟩, ⟨%d3, C3⟩, ⟨%d4, C4⟩, ⟨%d5, C5⟩, ⟨%d6, C6⟩, ⟨%d7, C7⟩, ⟨%d8, C8⟩, ⟨%d9, C9⟩, ⟨%d10, C10⟩, ⟨%d11, C11⟩, ⟨%d12, C12⟩, ⟨%d13, C13⟩, ⟨%d14, C14⟩⟩
  ihave C14 := (owns_pt c (st0_14 t) (hstage0_14 0) _) $$ C14
  ihave C0 := (owns_pt c (st0_0 t) (hstage0_0 0) _) $$ C0
  ihave C1 := (owns_pt c (st0_1 t) (hstage0_1 0) _) $$ C1
  ihave C2 := (owns_pt c (st0_2 t) (hstage0_2 0) _) $$ C2
  ihave C3 := (owns_pt c (st0_3 t) (hstage0_3 0) _) $$ C3
  ihave C4 := (owns_pt c (st0_4 t) (hstage0_4 0) _) $$ C4
  ihave C5 := (owns_pt c (st0_5 t) (hstage0_5 0) _) $$ C5
  ihave C6 := (owns_pt c (st0_6 t) (hstage0_6 0) _) $$ C6
  ihave C7 := (owns_pt c (st0_7 t) (hstage0_7 0) _) $$ C7
  ihave C8 := (owns_pt c (st0_8 t) (hstage0_8 0) _) $$ C8
  ihave C9 := (owns_pt c (st0_9 t) (hstage0_9 0) _) $$ C9
  ihave C10 := (owns_pt c (st0_10 t) (hstage0_10 0) _) $$ C10
  ihave C11 := (owns_pt c (st0_11 t) (hstage0_11 0) _) $$ C11
  ihave C12 := (owns_pt c (st0_12 t) (hstage0_12 0) _) $$ C12
  ihave C13 := (owns_pt c (st0_13 t) (hstage0_13 0) _) $$ C13
  ihave Hx := (deal4 c hb_x (V m c main_v0) 15 16 17 18 (by decide) (by decide)).1 $$ Hx
  icases Hx with ⟨⟨T15, T16, T17, T18⟩, Lx⟩
  ihave Ha := (deal4 c hb_a (V m c main_arg1) 19 22 25 28 (by decide) (by decide)).1 $$ Ha
  icases Ha with ⟨⟨T19, T22, T25, T28⟩, La⟩
  ihave Hb := (deal4 c hb_b (V m c main_arg3) 20 23 26 29 (by decide) (by decide)).1 $$ Hb
  icases Hb with ⟨⟨T20, T23, T26, T29⟩, Lb⟩
  ihave Hd := (deal4 c hb_d (V m c main_arg5) 21 24 27 30 (by decide) (by decide)).1 $$ Hd
  icases Hd with ⟨⟨T21, T24, T27, T30⟩, Ld⟩
  iapply ((kernelRun c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0) (st0_11 t) (hstage0_11 0) (st0_12 t) (hstage0_12 0) (st0_13 t) (hstage0_13 0) (st0_14 t) (hstage0_14 0)
    ((hstage0_0 0).unread (iblk m c 0 t)) ((hstage0_1 0).unread (iblk m c 1 t)) ((hstage0_2 0).unread (iblk m c 2 t)) ((hstage0_3 0).unread (iblk m c 3 t)) ((hstage0_4 0).unread (iblk m c 4 t)) ((hstage0_5 0).unread (iblk m c 5 t)) ((hstage0_6 0).unread (iblk m c 6 t)) ((hstage0_7 0).unread (iblk m c 7 t)) ((hstage0_8 0).unread (iblk m c 8 t)) ((hstage0_9 0).unread (iblk m c 9 t)) ((hstage0_10 0).unread (iblk m c 10 t)) ((hstage0_11 0).unread (iblk m c 11 t)) ((hstage0_12 0).unread (iblk m c 12 t)) ((hstage0_13 0).unread (iblk m c 13 t))
    (V m c main_v0) (V m c main_arg1) (V m c main_arg3) (V m c main_arg5)).2 _ f19 f20 f21 f22 W _)
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [S19]; · iexact S19
  isplitl [S20]; · iexact S20
  isplitl [S21]; · iexact S21
  isplitl [S22]; · iexact S22
  isplitl [T15 T16 T17 T18 T19 T22 T25 T28 T20 T23 T26 T29 T21 T24 T27 T30]
  · isplitl [T15]; · iexact T15
    isplitl [T16]; · iexact T16
    isplitl [T17]; · iexact T17
    isplitl [T18]; · iexact T18
    isplitl [T19]; · iexact T19
    isplitl [T22]; · iexact T22
    isplitl [T25]; · iexact T25
    isplitl [T28]; · iexact T28
    isplitl [T20]; · iexact T20
    isplitl [T23]; · iexact T23
    isplitl [T26]; · iexact T26
    isplitl [T29]; · iexact T29
    isplitl [T21]; · iexact T21
    isplitl [T24]; · iexact T24
    isplitl [T27]; · iexact T27
    iexact T30
  isplitl [Hz]; · iexact Hz
  isplitl [HO]; · iexact HO
  iintro ⟨C0, C1, C2, C3, C4, C5, C6, C7, C8, C9, C10, C11, C12, C13, C14, S19, S20, S21, S22, ⟨T15, T16, T17, T18, T19, T22, T25, T28, T20, T23, T26, T29, T21, T24, T27, T30⟩, Hz, ⟨%W', HO⟩⟩
  ihave Hx := (deal4 c hb_x (V m c main_v0) 15 16 17 18 (by decide) (by decide)).2 $$ [T15 T16 T17 T18 Lx]
  · isplitr [Lx]
    · isplitl [T15]; · iexact T15
      isplitl [T16]; · iexact T16
      isplitl [T17]; · iexact T17
      iexact T18
    iexact Lx
  ihave Ha := (deal4 c hb_a (V m c main_arg1) 19 22 25 28 (by decide) (by decide)).2 $$ [T19 T22 T25 T28 La]
  · isplitr [La]
    · isplitl [T19]; · iexact T19
      isplitl [T22]; · iexact T22
      isplitl [T25]; · iexact T25
      iexact T28
    iexact La
  ihave Hb := (deal4 c hb_b (V m c main_arg3) 20 23 26 29 (by decide) (by decide)).2 $$ [T20 T23 T26 T29 Lb]
  · isplitr [Lb]
    · isplitl [T20]; · iexact T20
      isplitl [T23]; · iexact T23
      isplitl [T26]; · iexact T26
      iexact T29
    iexact Lb
  ihave Hd := (deal4 c hb_d (V m c main_arg5) 21 24 27 30 (by decide) (by decide)).2 $$ [T21 T24 T27 T30 Ld]
  · isplitr [Ld]
    · isplitl [T21]; · iexact T21
      isplitl [T24]; · iexact T24
      isplitl [T27]; · iexact T27
      iexact T30
    iexact Ld
  ihave C0 := (pt_owns_unread c (st0_0 t) (hstage0_0 0) _) $$ C0
  ihave C1 := (pt_owns_unread c (st0_1 t) (hstage0_1 0) _) $$ C1
  ihave C2 := (pt_owns_unread c (st0_2 t) (hstage0_2 0) _) $$ C2
  ihave C3 := (pt_owns_unread c (st0_3 t) (hstage0_3 0) _) $$ C3
  ihave C4 := (pt_owns_unread c (st0_4 t) (hstage0_4 0) _) $$ C4
  ihave C5 := (pt_owns_unread c (st0_5 t) (hstage0_5 0) _) $$ C5
  ihave C6 := (pt_owns_unread c (st0_6 t) (hstage0_6 0) _) $$ C6
  ihave C7 := (pt_owns_unread c (st0_7 t) (hstage0_7 0) _) $$ C7
  ihave C8 := (pt_owns_unread c (st0_8 t) (hstage0_8 0) _) $$ C8
  ihave C9 := (pt_owns_unread c (st0_9 t) (hstage0_9 0) _) $$ C9
  ihave C10 := (pt_owns_unread c (st0_10 t) (hstage0_10 0) _) $$ C10
  ihave C11 := (pt_owns_unread c (st0_11 t) (hstage0_11 0) _) $$ C11
  ihave C12 := (pt_owns_unread c (st0_12 t) (hstage0_12 0) _) $$ C12
  ihave C13 := (pt_owns_unread c (st0_13 t) (hstage0_13 0) _) $$ C13
  isplitl [S19 S20 S21 S22 Hg Hz Hx Ha Hb Hd]
  · isplitl [S19 S20 S21 S22]
    · isplitl [S19]; · iexact S19
      isplitl [S20]; · iexact S20
      isplitl [S21]; · iexact S21
      iexact S22
    isplitl [Hg]; · iexact Hg
    isplitl [Hz]; · iexact Hz
    isplitl [Hx]; · iexact Hx
    isplitl [Ha]; · iexact Ha
    isplitl [Hb]; · iexact Hb
    iexact Hd
  isplitl [HO]
  · iexists W'; isplitr; · ipureintro; exact fun _ _ => Or.inl trivial
    iexact HO
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  rw [kernelRun_indep (e19 := sc19.view.junk) (e20 := sc20.view.junk) (e21 := sc21.view.junk) (e22 := sc22.view.junk)]
  ihave C14 := (pt_owns c (st0_14 t) (hstage0_14 0) _) $$ C14
  iexact C14

/-- The body table's row at the point is the body as the pipeline calls it. -/
theorem defs₀_row (t : Fin cfg0.N) : defs₀ (F := F) .tc cfg0.body (cfg0.bodyArgs t (cfg0.slots t)) = bodyAt0 t := by
  unfold defs₀; rw [Defs.onTc_tc]

/-- The pipeline's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The program up to the region: the host's reshape, then the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every execution terminates without a fault; at the end every window's array holds what the pipeline's write-backs
    leave in it, every other unscoped buffer what the region found, and every semaphore counter is zero. -/
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- After the run every argument holds what it held at the start. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 3).trans (((dats m 0 c).arrAt_in 3 rfl _).trans ((A_eq m c 3).trans (V_main_arg4 m c))),
    ((h c).2 main_arg5 (Pipeline.mem_restRefs_of main_arg5 (by decide) (by decide))).trans (V_main_arg5 m c),
    ((h c).1 4).trans (((dats m 0 c).arrAt_in 4 rfl _).trans ((A_eq m c 4).trans (V_main_arg6 m c))),
    ((h c).1 5).trans (((dats m 0 c).arrAt_in 5 rfl _).trans ((A_eq m c 5).trans (V_main_arg7 m c))),
    ((h c).1 6).trans (((dats m 0 c).arrAt_in 6 rfl _).trans ((A_eq m c 6).trans (V_main_arg8 m c))),
    ((h c).1 7).trans (((dats m 0 c).arrAt_in 7 rfl _).trans ((A_eq m c 7).trans (V_main_arg9 m c))),
    ((h c).1 8).trans (((dats m 0 c).arrAt_in 8 rfl _).trans ((A_eq m c 8).trans (V_main_arg10 m c))),
    ((h c).1 0).trans (((dats m 0 c).arrAt_in 0 rfl _).trans ((A_eq m c 0).trans (V_main_arg11 m c))),
    ((h c).1 9).trans (((dats m 0 c).arrAt_in 9 rfl _).trans ((A_eq m c 9).trans (V_main_arg12 m c))),
    ((h c).1 10).trans (((dats m 0 c).arrAt_in 10 rfl _).trans ((A_eq m c 10).trans (V_main_arg13 m c))),
    ((h c).1 11).trans (((dats m 0 c).arrAt_in 11 rfl _).trans ((A_eq m c 11).trans (V_main_arg14 m c))),
    ((h c).1 1).trans (((dats m 0 c).arrAt_in 1 rfl _).trans ((A_eq m c 1).trans (V_main_arg15 m c))),
    ((h c).1 12).trans (((dats m 0 c).arrAt_in 12 rfl _).trans ((A_eq m c 12).trans (V_main_arg16 m c))),
    ((h c).1 13).trans (((dats m 0 c).arrAt_in 13 rfl _).trans ((A_eq m c 13).trans (V_main_arg17 m c)))⟩

end Cert.KernelIdeal.Hand

end
-- ==== Proof.Scan.lean ====
/-
  The two scans over a column of logits that choose the routes: the first of the largest, and the first two of the
  largest. Each is described step by step as an inductive relation, so that a straight line of selects can be matched
  against it whatever its length.
-/
module

public import Idealize.ShloMosaic.PureOps
public import Idealize.ShloMosaic.Lib.ValueIdx

@[expose] public section

noncomputable section

namespace Cert.Scan

open Idealize.ShloMosaic

variable {F : FTy → Type} [FloatOps F] {n m : ℕ}

/-- The entry `(0, k, j)` of an array of one table. -/
def cell (X : Shape.Idx ⟨3, ![1, n, m]⟩ → F .f32) (j k : ℕ) : F .f32 :=
  if h : k < n ∧ j < m then X (fun a => match a with | 0 => ⟨0, Nat.one_pos⟩ | 1 => ⟨k, h.1⟩ | 2 => ⟨j, h.2⟩)
  else FloatOps.ofBits .f32 0#32

/-- After the entries `0 … k` of `v` the scan for the first of the largest holds the value and its place. -/
inductive Arg (v : ℕ → F .f32) : ℕ → F .f32 → BitVec 32 → Prop
  | start {w : F .f32} (hw : w = v 0) : Arg v 0 w 0#32
  | next {k : ℕ} {w bv : F .f32} {bi : BitVec 32} (h : Arg v k bv bi) (hw : w = v (k + 1)) :
      Arg v (k + 1) (Scalar.select (Scalar.cmpf .ogt w bv) w bv)
        (Scalar.select (Scalar.cmpf .ogt w bv) (BitVec.ofNat 32 (k + 1)) bi)

/-- After the entries `0 … k` of `v` the scan for the two largest holds the first value and its place and the second
    value and its place; at the start the second value is the constant `z` and its place the number `e`. -/
inductive Two (v : ℕ → F .f32) (z : F .f32) (e : BitVec 32) : ℕ → F .f32 → BitVec 32 → F .f32 → BitVec 32 → Prop
  | start {w : F .f32} (hw : w = v 0) : Two v z e 0 w 0#32 z e
  | next {k : ℕ} {w bv sv : F .f32} {bi si : BitVec 32} (h : Two v z e k bv bi sv si) (hw : w = v (k + 1)) :
      Two v z e (k + 1) (Scalar.select (Scalar.cmpf .ogt w bv) w bv)
        (Scalar.select (Scalar.cmpf .ogt w bv) (BitVec.ofNat 32 (k + 1)) bi)
        (Scalar.select (Scalar.cmpf .ogt w bv) bv
          (Scalar.select (Scalar.andi (Scalar.xori (Scalar.cmpf .ogt w bv) 1#1) (Scalar.cmpf .ogt w sv)) w sv))
        (Scalar.select (Scalar.cmpf .ogt w bv) bi
          (Scalar.select (Scalar.andi (Scalar.xori (Scalar.cmpf .ogt w bv) 1#1) (Scalar.cmpf .ogt w sv))
            (BitVec.ofNat 32 (k + 1)) si))

end Cert.Scan

end
-- ==== Proof.Choice.lean ====
/-
  What the two scans, and a stable sort, pick out of a column of extended reals: the first of the largest entries, and
  the first of the largest of the others. Each of the two is unique, and depends only on the order of the entries.
-/
module

public import proofs.«01_k».proof.Proof.Scan
public import Idealize.ShloMosaic.Lib.Pointwise

@[expose] public section

set_option maxRecDepth 16384

noncomputable section

namespace Cert.Scan

open Idealize.ShloMosaic

variable {n : ℕ}

/-- `a` is the place of the first of the largest entries. -/
def IsTop (v : Fin n → EReal) (a : Fin n) : Prop := (∀ j, v j ≤ v a) ∧ ∀ j, j < a → v j < v a

/-- `b` is the place of the first of the largest entries other than the one at `a`. -/
def IsNext (v : Fin n → EReal) (a b : Fin n) : Prop :=
  b ≠ a ∧ (∀ j, j ≠ a → v j ≤ v b) ∧ ∀ j, j ≠ a → j < b → v j < v b

/-- There is one first largest entry. -/
theorem IsTop.unique {v : Fin n → EReal} {a b : Fin n} (ha : IsTop v a) (hb : IsTop v b) : a = b := by
  rcases lt_trichotomy a b with h | h | h
  · exact absurd (hb.2 a h) (not_lt.2 (ha.1 b))
  · exact h
  · exact absurd (ha.2 b h) (not_lt.2 (hb.1 a))

/-- And one first largest of the others. -/
theorem IsNext.unique {v : Fin n → EReal} {a b c : Fin n} (hb : IsNext v a b) (hc : IsNext v a c) : b = c := by
  rcases lt_trichotomy b c with h | h | h
  · exact absurd (hc.2.2 b hb.1 h) (not_lt.2 (hb.2.1 c hc.1))
  · exact h
  · exact absurd (hb.2.2 c hc.1 h) (not_lt.2 (hc.2.1 b hb.1))

/-- Two columns order their entries alike. -/
def Alike (u v : Fin n → EReal) : Prop := ∀ j k, u j < u k ↔ v j < v k

/-- Then the first largest of one is that of the other. -/
theorem IsTop.congr {u v : Fin n → EReal} (h : Alike u v) {a : Fin n} (ha : IsTop u a) : IsTop v a :=
  ⟨fun j => not_lt.1 fun hj => absurd ((h a j).2 hj) (not_lt.2 (ha.1 j)), fun j hj => (h j a).1 (ha.2 j hj)⟩

/-- And the same for the first largest of the others. -/
theorem IsNext.congr {u v : Fin n → EReal} (h : Alike u v) {a b : Fin n} (hb : IsNext u a b) : IsNext v a b :=
  ⟨hb.1, fun j hj => not_lt.1 fun hjb => absurd ((h b j).2 hjb) (not_lt.2 (hb.2.1 j hj)), fun j hj hjb => (h j b).1 (hb.2.2 j hj hjb)⟩

/-- A comparison of extended reals, as the word it gives. -/
theorem cmp_eq (w b : EReal) : Scalar.cmpf (F := Ideal) (φ := .f32) .ogt w b = BitVec.ofBool (decide (b < w)) := rfl

/-- A choice by such a word. -/
theorem select_ofBool {α : Type} (p : Prop) [Decidable p] (x y : α) : Scalar.select (BitVec.ofBool (decide p)) x y = if p then x else y := by
  by_cases h : p <;> simp [h, Scalar.select]

/-- The scan's second condition: not larger than the first, and larger than the second. -/
theorem second_eq (p q : Prop) [Decidable p] [Decidable q] :
    Scalar.andi (Scalar.xori (BitVec.ofBool (decide p)) 1#1) (BitVec.ofBool (decide q)) = BitVec.ofBool (decide (¬ p ∧ q)) := by
  by_cases hp : p <;> by_cases hq : q <;> simp [hp, hq, Scalar.andi, Scalar.xori, IntOp.andi, IntOp.xori]

/-- What the first scan holds after the entries `0 … k`. -/
theorem Arg.spec {v : ℕ → Ideal .f32} {k : ℕ} {w : Ideal .f32} {i : BitVec 32} (h : Arg v k w i) :
    ∃ a, a ≤ k ∧ i = BitVec.ofNat 32 a ∧ w = v a ∧ (∀ j, j ≤ k → (v j : EReal) ≤ v a) ∧ ∀ j, j < a → (v j : EReal) < v a := by
  induction h with
  | start hw => exact ⟨0, le_rfl, rfl, hw, fun j hj => by rw [Nat.le_zero.1 hj], fun j hj => absurd hj (Nat.not_lt_zero j)⟩
  | @next k w bv bi _ hw ih =>
    obtain ⟨a, hak, rfl, rfl, h1, h2⟩ := ih
    subst hw
    rw [cmp_eq, select_ofBool, select_ofBool]
    by_cases hb : (v a : EReal) < v (k + 1)
    · rw [if_pos hb, if_pos hb]
      refine ⟨k + 1, le_rfl, rfl, rfl, fun j hj => ?_, fun j hj => (h1 j (by omega)).trans_lt hb⟩
      rcases Nat.lt_or_ge j (k + 1) with hjk | hjk
      · exact (h1 j (by omega)).trans hb.le
      · rw [show j = k + 1 by omega]
    · rw [if_neg hb, if_neg hb]
      refine ⟨a, by omega, rfl, rfl, fun j hj => ?_, h2⟩
      rcases Nat.lt_or_ge j (k + 1) with hjk | hjk
      · exact h1 j (by omega)
      · rw [show j = k + 1 by omega]; exact not_lt.1 hb

/-- What the second scan holds after the entries `0 … k`, when it starts below every entry. -/
theorem Two.spec {v : ℕ → Ideal .f32} {z : Ideal .f32} {e : BitVec 32} {k : ℕ} {w s : Ideal .f32} {i i' : BitVec 32} (h : Two v z e k w i s i')
    (hz : ∀ j, j ≤ k → (z : EReal) < v j) :
    ∃ a, a ≤ k ∧ i = BitVec.ofNat 32 a ∧ w = v a ∧ (∀ j, j ≤ k → (v j : EReal) ≤ v a) ∧ (∀ j, j < a → (v j : EReal) < v a)
      ∧ ((k = 0 ∧ s = z) ∨ ∃ b, b ≤ k ∧ b ≠ a ∧ i' = BitVec.ofNat 32 b ∧ s = v b ∧ (∀ j, j ≤ k → j ≠ a → (v j : EReal) ≤ v b)
        ∧ ∀ j, j ≠ a → j < b → (v j : EReal) < v b) := by
  induction h with
  | start hw =>
    exact ⟨0, le_rfl, rfl, hw, fun j hj => by rw [Nat.le_zero.1 hj], fun j hj => absurd hj (Nat.not_lt_zero j), .inl ⟨rfl, rfl⟩⟩
  | @next k w bv sv bi si _ hw ih =>
    obtain ⟨a, hak, rfl, rfl, h1, h2, h3⟩ := ih (fun j hj => hz j (by omega))
    subst hw
    rw [cmp_eq, cmp_eq, second_eq, select_ofBool, select_ofBool, select_ofBool, select_ofBool, select_ofBool, select_ofBool]
    by_cases hb : (v a : EReal) < v (k + 1)
    · rw [if_pos hb, if_pos hb, if_pos hb, if_pos hb]
      refine ⟨k + 1, le_rfl, rfl, rfl, fun j hj => ?_, fun j hj => (h1 j (by omega)).trans_lt hb,
        .inr ⟨a, by omega, by omega, rfl, rfl, fun j hj hjk => h1 j (by omega), fun j _ hj => h2 j hj⟩⟩
      rcases Nat.lt_or_ge j (k + 1) with hjk | hjk
      · exact (h1 j (by omega)).trans hb.le
      · rw [show j = k + 1 by omega]
    · rw [if_neg hb, if_neg hb, if_neg hb, if_neg hb]
      refine ⟨a, by omega, rfl, rfl, fun j hj => ?_, h2, .inr ?_⟩
      · rcases Nat.lt_or_ge j (k + 1) with hjk | hjk
        · exact h1 j (by omega)
        · rw [show j = k + 1 by omega]; exact not_lt.1 hb
      · rcases h3 with ⟨rfl, rfl⟩ | ⟨b, hbk, hba, rfl, rfl, h4, h5⟩
        · have hs := hz (0 + 1) le_rfl
          rw [if_pos ⟨hb, hs⟩, if_pos ⟨hb, hs⟩]
          refine ⟨0 + 1, le_rfl, by omega, rfl, rfl, fun j hj hja => ?_, fun j hja hj => absurd hja (by omega)⟩
          rw [show j = 0 + 1 by omega]
        · by_cases hs : (v b : EReal) < v (k + 1)
          · rw [if_pos ⟨hb, hs⟩, if_pos ⟨hb, hs⟩]
            refine ⟨k + 1, le_rfl, by omega, rfl, rfl, fun j hj hja => ?_, fun j hja hj => (h4 j (by omega) hja).trans_lt hs⟩
            rcases Nat.lt_or_ge j (k + 1) with hjk | hjk
            · exact (h4 j (by omega) hja).trans hs.le
            · rw [show j = k + 1 by omega]
          · rw [if_neg (fun h => hs h.2), if_neg (fun h => hs h.2)]
            refine ⟨b, by omega, hba, rfl, rfl, fun j hj hja => ?_, h5⟩
            rcases Nat.lt_or_ge j (k + 1) with hjk | hjk
            · exact h4 j (by omega) hja
            · rw [show j = k + 1 by omega]; exact not_lt.1 hs

/-- Column `j` of a table. -/
def colOf {m : ℕ} (X : Shape.Idx ⟨3, ![1, n, m]⟩ → EReal) (j : Fin m) (k : Fin n) : EReal := X (ix3 0 k j)

/-- An entry of a column read by number. -/
theorem cell_eq {m : ℕ} (X : Shape.Idx ⟨3, ![1, n, m]⟩ → EReal) (j : Fin m) (k : Fin n) : cell (F := Ideal) X j.val k.val = colOf X j k := by
  rw [cell, dif_pos ⟨k.isLt, j.isLt⟩, colOf]
  refine congrArg X (funext fun a => ?_)
  match a with
  | 0 => rfl
  | 1 => rfl
  | 2 => rfl

/-- The first scan over a whole column ends at its first largest entry. -/
theorem Arg.isTop {m : ℕ} {X : Shape.Idx ⟨3, ![1, n + 1, m]⟩ → EReal} {j : Fin m} {w : Ideal .f32} {i : BitVec 32}
    (h : Arg (cell (F := Ideal) X j.val) n w i) : ∃ a : Fin (n + 1), i = BitVec.ofNat 32 a.val ∧ IsTop (colOf X j) a := by
  obtain ⟨a, ha, hi, -, h1, h2⟩ := h.spec
  refine ⟨⟨a, Nat.lt_succ_of_le ha⟩, hi, fun k => ?_, fun k hk => ?_⟩
  · rw [← cell_eq, ← cell_eq]; exact h1 k.val (Nat.le_of_lt_succ k.isLt)
  · rw [← cell_eq, ← cell_eq]; exact h2 k.val hk

/-- The second scan over a whole column of finite numbers ends at its first largest entry and the first largest of the others. -/
theorem Two.isNext {m : ℕ} {X : Shape.Idx ⟨3, ![1, n + 1 + 1, m]⟩ → EReal} {j : Fin m} {w s z : Ideal .f32} {e i i' : BitVec 32}
    (h : Two (cell (F := Ideal) X j.val) z e (n + 1) w i s i') (hz : ∀ k, (z : EReal) < colOf X j k) :
    ∃ a b : Fin (n + 1 + 1), i = BitVec.ofNat 32 a.val ∧ i' = BitVec.ofNat 32 b.val ∧ IsTop (colOf X j) a ∧ IsNext (colOf X j) a b := by
  obtain ⟨a, ha, hi, -, h1, h2, h3⟩ := h.spec (fun k hk => by
    have := hz ⟨k, Nat.lt_succ_of_le hk⟩
    rwa [← cell_eq] at this)
  rcases h3 with ⟨h0, -⟩ | ⟨b, hb, hba, hi', -, h4, h5⟩
  · exact absurd h0 (Nat.succ_ne_zero n)
  refine ⟨⟨a, Nat.lt_succ_of_le ha⟩, ⟨b, Nat.lt_succ_of_le hb⟩, hi, hi', ⟨fun k => ?_, fun k hk => ?_⟩,
    fun e => hba (congrArg Fin.val e), fun k hk => ?_, fun k hk hkb => ?_⟩
  · rw [← cell_eq, ← cell_eq]; exact h1 k.val (Nat.le_of_lt_succ k.isLt)
  · rw [← cell_eq, ← cell_eq]; exact h2 k.val hk
  · rw [← cell_eq, ← cell_eq]; exact h4 k.val (Nat.le_of_lt_succ k.isLt) (fun e => hk (Fin.ext e))
  · rw [← cell_eq, ← cell_eq]; exact h5 k.val (fun e => hk (Fin.ext e)) hkb

/-- A stable sort of places by their entries, the larger first, starts with the first largest entry and goes on with the
    first largest of the others. -/
theorem sort_heads (v : Fin n → EReal) (l : List (Fin n)) (hl : l.Pairwise (· < ·)) :
    ∀ c t, stableSort (fun k k' => decide (v k' < v k)) l = c :: t →
      (c ∈ l ∧ ∀ j ∈ l, v j ≤ v c ∧ (j < c → v j < v c))
      ∧ ∀ b r, t = b :: r → b ∈ l ∧ b ≠ c ∧ ∀ j ∈ l, j ≠ c → v j ≤ v b ∧ (j < b → v j < v b) := by
  induction l with
  | nil => intro c t h; simp [stableSort] at h
  | cons a l ih =>
    intro c t h
    obtain ⟨hal, hl'⟩ := List.pairwise_cons.1 hl
    have hlen := length_stableSort (fun k k' => decide (v k' < v k)) l
    rw [stableSort] at h
    cases hs : stableSort (fun k k' => decide (v k' < v k)) l with
    | nil =>
      rw [hs] at h hlen
      obtain rfl : l = [] := List.length_eq_zero_iff.1 hlen.symm
      simp only [insertBefore, List.cons.injEq] at h
      obtain ⟨rfl, rfl⟩ := h
      exact ⟨⟨List.mem_singleton_self _, fun j hj => by rw [List.mem_singleton.1 hj]; exact ⟨le_rfl, fun h => absurd h (lt_irrefl _)⟩⟩,
        fun b r h => by simp at h⟩
    | cons d u =>
      obtain ⟨⟨hd, hdt⟩, hdn⟩ := ih hl' d u hs
      rw [hs, insertBefore] at h
      by_cases had : v a < v d
      · rw [if_pos (by simpa using had)] at h
        obtain ⟨rfl, rfl⟩ := List.cons.inj h
        refine ⟨⟨List.mem_cons_of_mem _ hd, fun j hj => ?_⟩, fun b r hbr => ?_⟩
        · rcases List.mem_cons.1 hj with rfl | hj
          · exact ⟨had.le, fun _ => had⟩
          · exact hdt j hj
        · cases u with
          | nil =>
            rw [hs] at hlen
            obtain ⟨x, rfl⟩ := List.length_eq_one_iff.1 hlen.symm
            simp only [insertBefore, List.cons.injEq] at hbr
            obtain ⟨rfl, rfl⟩ := hbr
            obtain rfl := List.mem_singleton.1 hd
            refine ⟨List.mem_cons_self, ne_of_lt (hal _ hd), fun j hj hjd => ?_⟩
            rcases List.mem_cons.1 hj with rfl | hj
            · exact ⟨le_rfl, fun h => absurd h (lt_irrefl _)⟩
            · exact absurd (List.mem_singleton.1 hj) hjd
          | cons e r' =>
            obtain ⟨he, hed, hen⟩ := hdn e r' rfl
            rw [insertBefore] at hbr
            by_cases hae : v a < v e
            · rw [if_pos (by simpa using hae)] at hbr
              obtain ⟨rfl, -⟩ := List.cons.inj hbr
              refine ⟨List.mem_cons_of_mem _ he, hed, fun j hj hjd => ?_⟩
              rcases List.mem_cons.1 hj with rfl | hj
              · exact ⟨hae.le, fun _ => hae⟩
              · exact hen j hj hjd
            · rw [if_neg (by simpa using hae)] at hbr
              obtain ⟨rfl, -⟩ := List.cons.inj hbr
              refine ⟨List.mem_cons_self, ne_of_lt (hal _ hd), fun j hj hjd => ?_⟩
              rcases List.mem_cons.1 hj with rfl | hj
              · exact ⟨le_rfl, fun h => absurd h (lt_irrefl _)⟩
              · exact ⟨(hen j hj hjd).1.trans (not_lt.1 hae), fun h => absurd h (not_lt.2 (hal j hj).le)⟩
      · rw [if_neg (by simpa using had)] at h
        obtain ⟨rfl, rfl⟩ := List.cons.inj h
        refine ⟨⟨List.mem_cons_self, fun j hj => ?_⟩, fun b r hbr => ?_⟩
        · rcases List.mem_cons.1 hj with rfl | hj
          · exact ⟨le_rfl, fun h => absurd h (lt_irrefl _)⟩
          · exact ⟨(hdt j hj).1.trans (not_lt.1 had), fun h => absurd h (not_lt.2 (hal j hj).le)⟩
        · obtain ⟨rfl, -⟩ := List.cons.inj hbr
          refine ⟨List.mem_cons_of_mem _ hd, (ne_of_lt (hal _ hd)).symm, fun j hj hja => ?_⟩
          rcases List.mem_cons.1 hj with rfl | hj
          · exact absurd rfl hja
          · exact hdt j hj

/-- The place a stable sort, the larger first, puts first. -/
theorem sortedFrom_top (v : Fin n → EReal) (h0 : 0 < n) : IsTop v (sortedFrom (fun k k' => decide (v k' < v k)) ⟨0, h0⟩) := by
  have hl : (sortPositions n (fun k k' => decide (v k' < v k))).length = n := length_sortPositions _ _
  cases hs : sortPositions n (fun k k' => decide (v k' < v k)) with
  | nil => rw [hs] at hl; exact absurd hl.symm (by simpa using h0.ne')
  | cons c t =>
    have hc : sortedFrom (fun k k' => decide (v k' < v k)) ⟨0, h0⟩ = c := by
      unfold sortedFrom; simp [hs]
    obtain ⟨⟨-, h1⟩, -⟩ := sort_heads v (List.finRange n) (List.pairwise_lt_finRange n) c t hs
    rw [hc]
    exact ⟨fun j => (h1 j (List.mem_finRange j)).1, fun j => (h1 j (List.mem_finRange j)).2⟩

/-- The place it puts second. -/
theorem sortedFrom_next (v : Fin n → EReal) (h1 : 1 < n) :
    IsNext v (sortedFrom (fun k k' => decide (v k' < v k)) ⟨0, by omega⟩) (sortedFrom (fun k k' => decide (v k' < v k)) ⟨1, h1⟩) := by
  have hl : (sortPositions n (fun k k' => decide (v k' < v k))).length = n := length_sortPositions _ _
  match hs : sortPositions n (fun k k' => decide (v k' < v k)) with
  | [] => rw [hs] at hl; simp at hl; omega
  | [c] => rw [hs] at hl; simp at hl; omega
  | c :: b :: t =>
    have hc : sortedFrom (fun k k' => decide (v k' < v k)) ⟨0, by omega⟩ = c := by
      unfold sortedFrom; simp [hs]
    have hb : sortedFrom (fun k k' => decide (v k' < v k)) ⟨1, h1⟩ = b := by
      unfold sortedFrom; simp [hs]
    obtain ⟨-, h2⟩ := sort_heads v (List.finRange n) (List.pairwise_lt_finRange n) c _ hs
    obtain ⟨-, h3, h4⟩ := h2 b t rfl
    rw [hc, hb]
    exact ⟨h3, fun j hj => (h4 j (List.mem_finRange j) hj).1, fun j hj => (h4 j (List.mem_finRange j) hj).2⟩

end Cert.Scan

end
-- ==== Proof.Pick.lean ====
/-
  The reference's choices, read over the extended reals: a softmax or a sigmoid of finite logits is finite and orders them
  as they stood, a sort's first two places are the first largest logit's and the first largest of the others', and a
  straight-through score is the indicator of the chosen place.
-/
module

public import proofs.«01_k».proof.Proof.Choice

@[expose] public section

set_option maxRecDepth 16384

noncomputable section

namespace Cert.Scan

open Idealize.ShloMosaic

/-- A finite extended real. -/
def Fine (x : EReal) : Prop := x ≠ ⊥ ∧ x ≠ ⊤

/-- It is a real number. -/
theorem Fine.real {x : EReal} (h : Fine x) : ∃ r : ℝ, x = (r : EReal) := ⟨x.toReal, (EReal.coe_toReal h.2 h.1).symm⟩

/-- A real number is finite. -/
theorem fine_coe (r : ℝ) : Fine (r : EReal) := ⟨EReal.coe_ne_bot r, EReal.coe_ne_top r⟩

/-- A number whose magnitude is below infinity is finite. -/
theorem fine_of_abs {x : EReal} (h : max x (-x) < ⊤) : Fine x :=
  ⟨fun e => by subst e; simp at h, fun e => by subst e; simp at h⟩

/-- Division by one. -/
theorem div_one_eq (x : EReal) : Ideal.div x 1 = x := by
  rw [Ideal.div, if_neg one_ne_zero, ← EReal.coe_one, ← EReal.coe_inv, inv_one, EReal.coe_one, mul_one]

/-- The pattern of minus infinity. -/
theorem low_eq : Ideal.ofBits FTy.f32 4286578688#32 = ⊥ := by
  simp [Ideal.ofBits, Ideal.ieee]

/-- The largest of some finite numbers, one at least, is finite. -/
theorem fold_fine {ι : Type} (s : Finset ι) (f : ι → EReal) (hf : ∀ i, Fine (f i)) {i : ι} (hi : i ∈ s) : Fine (s.fold max ⊥ f) := by
  constructor
  · have : f i ≤ s.fold max ⊥ f := Finset.le_fold_max (f i) |>.2 (.inr ⟨i, hi, le_rfl⟩)
    intro e
    rw [e] at this
    exact (hf i).1 (le_bot_iff.1 this)
  · have : s.fold max ⊥ f < ⊤ := Finset.fold_max_lt ⊤ |>.2 ⟨bot_lt_top, fun j _ => lt_top_iff_ne_top.2 (hf j).2⟩
    exact this.ne

/-- A softmax of finite logits, `M` taken off each, is finite and orders them as they stood. -/
theorem softmax_alike {n : ℕ} (e y : Fin n → EReal) (he : ∀ k, Fine (e k)) {M : EReal} (hM : Fine M)
    (hy : ∀ k, y k = Ideal.div (Ideal.exp (e k - M)) (∑ j, Ideal.exp (e j - M))) : (∀ k, Fine (y k)) ∧ Alike e y := by
  obtain ⟨m, rfl⟩ := hM.real
  choose r hr using fun k => (he k).real
  have hx : ∀ k, Ideal.exp (e k - (m : EReal)) = ((Real.exp (r k - m) : ℝ) : EReal) := fun k => by
    rw [hr k, ← EReal.coe_sub, Ideal.exp_coe]
  have hS : (∑ j, Ideal.exp (e j - (m : EReal))) = ((∑ j, Real.exp (r j - m) : ℝ) : EReal) := by
    simp only [hx]
    exact (map_sum (⟨⟨Real.toEReal, EReal.coe_zero⟩, EReal.coe_add⟩ : ℝ →+ EReal) _ _).symm
  have hpos : ∀ k : Fin n, (0 : ℝ) < ∑ j, Real.exp (r j - m) := fun k =>
    Finset.sum_pos (fun j _ => Real.exp_pos _) ⟨k, Finset.mem_univ k⟩
  have hyr : ∀ k, y k = ((Real.exp (r k - m) * (∑ j, Real.exp (r j - m))⁻¹ : ℝ) : EReal) := fun k => by
    rw [hy k, hS, hx k, Ideal.div, if_neg (by exact_mod_cast (hpos k).ne'), ← EReal.coe_inv, ← EReal.coe_mul]
  refine ⟨fun k => by rw [hyr k]; exact fine_coe _, fun j k => ?_⟩
  rw [hyr j, hyr k, hr j, hr k, EReal.coe_lt_coe_iff, EReal.coe_lt_coe_iff, mul_lt_mul_iff_left₀ (inv_pos.2 (hpos j)), Real.exp_lt_exp]
  constructor <;> intro h <;> linarith

/-- So is the sigmoid of finite logits. -/
theorem sigmoid_alike {n : ℕ} (e y : Fin n → EReal) (he : ∀ k, Fine (e k)) (hy : ∀ k, y k = Ideal.logistic (e k)) :
    (∀ k, Fine (y k)) ∧ Alike e y := by
  choose r hr using fun k => (he k).real
  have hyr : ∀ k, y k = (((1 + Real.exp (-r k))⁻¹ : ℝ) : EReal) := fun k => by rw [hy k, hr k, Ideal.logistic_coe]
  refine ⟨fun k => by rw [hyr k]; exact fine_coe _, fun j k => ?_⟩
  rw [hyr j, hyr k, hr j, hr k, EReal.coe_lt_coe_iff, EReal.coe_lt_coe_iff,
    inv_lt_inv₀ (by positivity) (by positivity), add_lt_add_iff_left, Real.exp_lt_exp, neg_lt_neg_iff]

/-- The indicator of a place, computed by comparing words. -/
theorem hot_word (a k : ℕ) (ha : a < 2 ^ 32) (hk : k < 2 ^ 32) :
    FloatOps.uitofp (F := Ideal) FTy.f32 (IntOp.cmpi CmpIPredicate.eq (BitVec.ofNat 32 a) (BitVec.ofNat 32 k)) = if k = a then 1 else 0 := by
  by_cases h : k = a
  · subst h; simp [IntOp.cmpi, FloatOps.uitofp]
  · have : BitVec.ofNat 32 a ≠ BitVec.ofNat 32 k := fun e => h (by
      have := congrArg BitVec.toNat e
      rw [BitVec.toNat_ofNat, BitVec.toNat_ofNat, Nat.mod_eq_of_lt ha, Nat.mod_eq_of_lt hk] at this
      exact this.symm)
    rw [if_neg h]
    simp [IntOp.cmpi, FloatOps.uitofp, this]

/-- A finite score plus the difference of the indicator from it is the indicator. -/
theorem straight {y : EReal} (hy : Fine y) (a k : ℕ) (ha : a < 2 ^ 32) (hk : k < 2 ^ 32) :
    y + (FloatOps.uitofp (F := Ideal) FTy.f32 (IntOp.cmpi CmpIPredicate.eq (BitVec.ofNat 32 a) (BitVec.ofNat 32 k)) - y)
      = if k = a then 1 else 0 := by
  obtain ⟨r, rfl⟩ := hy.real
  rw [hot_word a k ha hk]
  split_ifs
  · rw [← EReal.coe_one, ← EReal.coe_sub, ← EReal.coe_add]; congr 1; ring
  · rw [← EReal.coe_zero, ← EReal.coe_sub, ← EReal.coe_add]; congr 1; ring

/-- The same at a place of a column, the chosen place given as a word. -/
theorem straight_fin {y : EReal} (hy : Fine y) {n : ℕ} {w : BitVec 32} {a : Fin n} (hw : w = BitVec.ofNat 32 a.val) (hn : n ≤ 2 ^ 32) (k : Fin n) :
    y + (FloatOps.uitofp (F := Ideal) FTy.f32 (IntOp.cmpi CmpIPredicate.eq w (BitVec.ofNat 32 k.val)) - y) = if k = a then 1 else 0 := by
  rw [hw, straight hy _ _ (a.isLt.trans_le hn) (k.isLt.trans_le hn)]
  simp only [Fin.ext_iff]

/-- The places a top-`k` along the last axis gives are a stable sort's first `k`. -/
theorem topK_at {m n k : ℕ} (x : (⟨3, ![1, m, n]⟩ : Shape).Idx → EReal)
    (h : (⟨3, ![1, m, n]⟩ : Shape).Slices (fun _ => 0) ⟨3, ![1, m, k]⟩) (t : Fin m) (j : Fin k) (hj : j.val < n) :
    (Host.topK (s := ⟨3, ![1, m, n]⟩) ⟨3, ![1, m, k]⟩ 2 (FloatOps.cmpfTotal (F := Ideal) (φ := .f32) .gt) x h).2 (ix3 0 t j)
      = BitVec.ofNat 32 (sortedFrom (fun a b : Fin n => decide (x (ix3 0 t b) < x (ix3 0 t a))) ⟨j.val, hj⟩).val := by
  unfold Host.topK Host.sort2
  simp only [extractStridedSlice]
  rw [dif_pos (by decide : 2 < 3)]
  have hj' : (fun a : Fin 3 => (⟨0 + (ix3 (0 : Fin 1) t j (Fin.cast h.1.symm a)).val,
      Nat.lt_of_lt_of_le (Nat.add_lt_add_left (ix3 (0 : Fin 1) t j _).isLt _) (h.2 a)⟩ : Fin ((⟨3, ![1, m, n]⟩ : Shape).size a)))
      = ix3 (0 : Fin 1) t (⟨j.val, hj⟩ : Fin n) := by
    funext a
    match a with
    | 0 => rfl
    | 1 => exact Fin.ext (Nat.zero_add _)
    | 2 => exact Fin.ext (Nat.zero_add _)
  have hal : ∀ c : Fin n, Shape.Idx.along (s := ⟨3, ![1, m, n]⟩) (ix3 (0 : Fin 1) t (⟨j.val, hj⟩ : Fin n)) (2 : Fin 3) c = ix3 (0 : Fin 1) t c := fun c => by
    funext a
    match a with
    | 0 => rfl
    | 1 => rfl
    | 2 => rfl
  have hb : ∀ a b : Fin n, (FloatOps.cmpfTotal (F := Ideal) (φ := .f32) CmpDirection.gt (x (ix3 0 t a)) (x (ix3 0 t b)) == 1#1)
      = decide (x (ix3 0 t b) < x (ix3 0 t a)) := fun a b => by
    have : FloatOps.cmpfTotal (F := Ideal) (φ := .f32) CmpDirection.gt (x (ix3 0 t a)) (x (ix3 0 t b))
        = BitVec.ofBool (decide (x (ix3 0 t b) < x (ix3 0 t a))) := rfl
    rw [this]
    by_cases hab : x (ix3 0 t b) < x (ix3 0 t a) <;> simp [hab]
  refine (congrArg (fun i : Shape.Idx ⟨3, ![1, m, n]⟩ => BitVec.ofNat 32 ((Shape.Idx.along (s := ⟨3, ![1, m, n]⟩) i (2 : Fin 3)
    (sortedFrom (fun c c' : Fin n => FloatOps.cmpfTotal (F := Ideal) (φ := .f32) CmpDirection.gt
      (x (Shape.Idx.along (s := ⟨3, ![1, m, n]⟩) i (2 : Fin 3) c)) (x (Shape.Idx.along (s := ⟨3, ![1, m, n]⟩) i (2 : Fin 3) c')) == 1#1) (i 2))) 2).val) hj').trans ?_
  simp only [hal, hb]
  rfl

/-- A softmax's top place along each column is the first largest logit's, and its scores are finite. -/
theorem soft_pick {n m : ℕ} (hn : 0 < n) {E Y : (⟨3, ![1, n, m]⟩ : Shape).Idx → EReal} (hE : ∀ k t, Fine (E (ix3 0 k t))) {M : Fin m → EReal}
    (hM : ∀ t, Fine (M t)) (hY : ∀ k t, Y (ix3 0 k t) = Ideal.div (Ideal.exp (E (ix3 0 k t) - M t)) (∑ j, Ideal.exp (E (ix3 0 j t) - M t)))
    {x : (⟨3, ![1, m, n]⟩ : Shape).Idx → EReal} (hx : ∀ k t, x (ix3 0 t k) = Y (ix3 0 k t))
    (h : (⟨3, ![1, m, n]⟩ : Shape).Slices (fun _ => 0) ⟨3, ![1, m, 1]⟩) :
    (∀ k t, Fine (Y (ix3 0 k t))) ∧ ∃ a : Fin m → Fin n, (∀ t, IsTop (colOf E t) (a t))
      ∧ ∀ t, (Host.topK (s := ⟨3, ![1, m, n]⟩) ⟨3, ![1, m, 1]⟩ 2 (FloatOps.cmpfTotal (F := Ideal) (φ := .f32) .gt) x h).2 (ix3 0 t 0)
        = BitVec.ofNat 32 (a t).val := by
  have key := fun t => softmax_alike (fun k => E (ix3 0 k t)) (fun k => x (ix3 0 t k)) (fun k => hE k t) (hM t) (fun k => (hx k t).trans (hY k t))
  refine ⟨fun k t => by rw [← hx]; exact (key t).1 k, fun t => sortedFrom (fun a b : Fin n => decide (x (ix3 0 t b) < x (ix3 0 t a))) ⟨0, hn⟩,
    fun t => ?_, fun t => topK_at x h t 0 hn⟩
  exact (sortedFrom_top (fun k => x (ix3 0 t k)) hn).congr fun j k => ((key t).2 j k).symm

/-- A sigmoid's top two places along each column are the first largest logit's and the first largest of the others', and
    its scores are finite. -/
theorem sigmoid_pick {n m : ℕ} (hn : 1 < n) {E Y : (⟨3, ![1, n, m]⟩ : Shape).Idx → EReal} (hE : ∀ k t, Fine (E (ix3 0 k t)))
    (hY : ∀ k t, Y (ix3 0 k t) = Ideal.logistic (E (ix3 0 k t))) {x : (⟨3, ![1, m, n]⟩ : Shape).Idx → EReal} (hx : ∀ k t, x (ix3 0 t k) = Y (ix3 0 k t))
    (h : (⟨3, ![1, m, n]⟩ : Shape).Slices (fun _ => 0) ⟨3, ![1, m, 2]⟩) :
    (∀ k t, Fine (Y (ix3 0 k t))) ∧ ∃ a s : Fin m → Fin n, (∀ t, IsTop (colOf E t) (a t)) ∧ (∀ t, IsNext (colOf E t) (a t) (s t))
      ∧ (∀ t, (Host.topK (s := ⟨3, ![1, m, n]⟩) ⟨3, ![1, m, 2]⟩ 2 (FloatOps.cmpfTotal (F := Ideal) (φ := .f32) .gt) x h).2 (ix3 0 t 0)
        = BitVec.ofNat 32 (a t).val)
      ∧ ∀ t, (Host.topK (s := ⟨3, ![1, m, n]⟩) ⟨3, ![1, m, 2]⟩ 2 (FloatOps.cmpfTotal (F := Ideal) (φ := .f32) .gt) x h).2 (ix3 0 t 1)
        = BitVec.ofNat 32 (s t).val := by
  have key := fun t => sigmoid_alike (fun k => E (ix3 0 k t)) (fun k => x (ix3 0 t k)) (fun k => hE k t) (fun k => (hx k t).trans (hY k t))
  have alike : ∀ t, Alike (fun k => x (ix3 0 t k)) (colOf E t) := fun t j k => ((key t).2 j k).symm
  exact ⟨fun k t => by rw [← hx]; exact (key t).1 k, fun t => sortedFrom (fun a b : Fin n => decide (x (ix3 0 t b) < x (ix3 0 t a))) ⟨0, by omega⟩,
    fun t => sortedFrom (fun a b : Fin n => decide (x (ix3 0 t b) < x (ix3 0 t a))) ⟨1, hn⟩,
    fun t => (sortedFrom_top (fun k => x (ix3 0 t k)) (by omega)).congr (alike t),
    fun t => (sortedFrom_next (fun k => x (ix3 0 t k)) hn).congr (alike t), fun t => topK_at x h t 0 (by show 0 < n; omega), fun t => topK_at x h t 1 hn⟩

end Cert.Scan

end
-- ==== Proof.Spec.lean ====
/-
  The function both programs compute, once the routes are chosen: the outputs of the four image networks side by side,
  of the four modules over chosen pairs of them, of the two modules over chosen pairs of those, and the sigmoid of two
  chosen columns of that.
-/
module

public import Idealize.ShloMosaic.Lib.Pointwise

@[expose] public section

noncomputable section

namespace Cert.Spec

open Idealize.ShloMosaic

/-- The weights and inputs. -/
structure Data where
  x : (⟨3, ![512, 16, 784]⟩ : Shape).Idx → EReal
  W1 : (⟨3, ![4, 784, 512]⟩ : Shape).Idx → EReal
  b1 : (⟨2, ![4, 512]⟩ : Shape).Idx → EReal
  W2 : (⟨3, ![4, 512, 512]⟩ : Shape).Idx → EReal
  b2 : (⟨2, ![4, 512]⟩ : Shape).Idx → EReal
  W3 : (⟨3, ![4, 512, 16]⟩ : Shape).Idx → EReal
  b3 : (⟨2, ![4, 16]⟩ : Shape).Idx → EReal
  w1 : (⟨3, ![8, 2, 128]⟩ : Shape).Idx → EReal
  c1 : (⟨2, ![8, 128]⟩ : Shape).Idx → EReal
  w2 : (⟨3, ![8, 128, 1]⟩ : Shape).Idx → EReal
  c2 : (⟨2, ![8, 1]⟩ : Shape).Idx → EReal

/-- The chosen routes: for each slot of a stage its inputs and its module. -/
structure Routes where
  ch : Fin 4 → Fin 16
  md : Fin 4 → Fin 4
  a1 : Fin 4 → Fin 64
  s1 : Fin 4 → Fin 64
  m1 : Fin 4 → Fin 8
  a2 : Fin 2 → Fin 4
  s2 : Fin 2 → Fin 4
  m2 : Fin 2 → Fin 8
  a3 : Fin 2
  s3 : Fin 2

variable (D : Data) (R : Routes)

/-- Image network `m` on channel `c` of image `b`: its output `q`. -/
def img (c : Fin 16) (m : Fin 4) (b : Fin 512) (q : Fin 16) : EReal :=
  ∑ k : Fin 512, max (∑ j : Fin 512, max (∑ p : Fin 784, D.x (ix3 b c p) * D.W1 (ix3 m p j) + D.b1 (ix2 m j)) 0 * D.W2 (ix3 m j k)
      + D.b2 (ix2 m k)) 0 * D.W3 (ix3 m k q) + D.b3 (ix2 m q)

/-- Module `m` on the pair `(u, v)`. -/
def mlp (m : Fin 8) (u v : EReal) : EReal :=
  ∑ k : Fin 128, max (u * D.w1 (ix3 m 0 k) + v * D.w1 (ix3 m 1 k) + D.c1 (ix2 m k)) 0 * D.w2 (ix3 m k 0) + D.c2 (ix2 m 0)

/-- The first stage's column `i`: output `i mod 16` of slot `i / 16`. -/
def one (b : Fin 512) (i : Fin 64) : EReal :=
  img D (R.ch ⟨i.val / 16, by omega⟩) (R.md ⟨i.val / 16, by omega⟩) b ⟨i.val % 16, Nat.mod_lt _ (by decide)⟩

/-- The second stage's column `t`. -/
def two (b : Fin 512) (t : Fin 4) : EReal := mlp D (R.m1 t) (one D R b (R.a1 t)) (one D R b (R.s1 t))

/-- The third stage's column `t`. -/
def three (b : Fin 512) (t : Fin 2) : EReal := mlp D (R.m2 t) (two D R b (R.a2 t)) (two D R b (R.s2 t))

/-- The result. -/
def out (b : Fin 512) (t : Fin 2) : EReal := Ideal.logistic (three D R b (if t.val < 1 then R.a3 else R.s3))

end Cert.Spec

end
-- ==== Proof.Routes.lean ====
/-
  The routes a set of logits chooses: each slot's channel, image network and module at the first largest logit of its column,
  each pair of inputs at the first largest and the first largest of the others. A set of logits chooses one set of routes.
-/
module

public import proofs.«01_k».proof.Proof.Pick
public import proofs.«01_k».proof.Proof.Spec

@[expose] public section

noncomputable section

namespace Cert.Spec

open Idealize.ShloMosaic Cert.Scan

/-- The logits. -/
structure Logits where
  ie0 : (⟨3, ![1, 16, 4]⟩ : Shape).Idx → EReal
  ie1 : (⟨3, ![1, 64, 4]⟩ : Shape).Idx → EReal
  ie2 : (⟨3, ![1, 4, 2]⟩ : Shape).Idx → EReal
  ie3 : (⟨3, ![1, 2, 1]⟩ : Shape).Idx → EReal
  le0 : (⟨3, ![1, 4, 4]⟩ : Shape).Idx → EReal
  le1 : (⟨3, ![1, 8, 4]⟩ : Shape).Idx → EReal
  le2 : (⟨3, ![1, 8, 2]⟩ : Shape).Idx → EReal

/-- Every logit is finite. -/
structure Logits.Finite (L : Logits) : Prop where
  ie0 : ∀ i, Fine (L.ie0 i)
  ie1 : ∀ i, Fine (L.ie1 i)
  ie2 : ∀ i, Fine (L.ie2 i)
  ie3 : ∀ i, Fine (L.ie3 i)
  le0 : ∀ i, Fine (L.le0 i)
  le1 : ∀ i, Fine (L.le1 i)
  le2 : ∀ i, Fine (L.le2 i)

/-- The logits choose these routes. -/
structure Picks (L : Logits) (R : Routes) : Prop where
  ch : ∀ t, IsTop (colOf L.ie0 t) (R.ch t)
  md : ∀ t, IsTop (colOf L.le0 t) (R.md t)
  a1 : ∀ t, IsTop (colOf L.ie1 t) (R.a1 t)
  s1 : ∀ t, IsNext (colOf L.ie1 t) (R.a1 t) (R.s1 t)
  m1 : ∀ t, IsTop (colOf L.le1 t) (R.m1 t)
  a2 : ∀ t, IsTop (colOf L.ie2 t) (R.a2 t)
  s2 : ∀ t, IsNext (colOf L.ie2 t) (R.a2 t) (R.s2 t)
  m2 : ∀ t, IsTop (colOf L.le2 t) (R.m2 t)
  a3 : IsTop (colOf L.ie3 0) R.a3
  s3 : IsNext (colOf L.ie3 0) R.a3 R.s3

/-- They choose one set of routes. -/
theorem Picks.unique {L : Logits} {R R' : Routes} (h : Picks L R) (h' : Picks L R') : R = R' := by
  obtain ⟨ch, md, a1, s1, m1, a2, s2, m2, a3, s3⟩ := R
  obtain ⟨ch', md', a1', s1', m1', a2', s2', m2', a3', s3'⟩ := R'
  obtain rfl : ch = ch' := funext fun t => (h.ch t).unique (h'.ch t)
  obtain rfl : md = md' := funext fun t => (h.md t).unique (h'.md t)
  obtain rfl : a1 = a1' := funext fun t => (h.a1 t).unique (h'.a1 t)
  obtain rfl : s1 = s1' := funext fun t => (h.s1 t).unique (h'.s1 t)
  obtain rfl : m1 = m1' := funext fun t => (h.m1 t).unique (h'.m1 t)
  obtain rfl : a2 = a2' := funext fun t => (h.a2 t).unique (h'.a2 t)
  obtain rfl : s2 = s2' := funext fun t => (h.s2 t).unique (h'.s2 t)
  obtain rfl : m2 = m2' := funext fun t => (h.m2 t).unique (h'.m2 t)
  obtain rfl : a3 = a3' := h.a3.unique h'.a3
  obtain rfl : s3 = s3' := h.s3.unique h'.s3
  rfl

end Cert.Spec

end
-- ==== Proof.KernelIdeal.Blocks.lean ====
/-
  The vector part of the body, told as five functions of the numbers the scans chose, and what each computes at an index
  over the extended reals.
-/
module

public import proofs.«01_k».proof.Proof.Spec
public import proofs.«01_k».proof.Proof.Gen.KernelIdeal
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe

section functions

variable {F : FTy → Type} [FloatOps F]

/-- The column with a one at place `i` of four. -/
abbrev hot4 (i : BitVec 32) : FVec F S4x1 .f32 :=
  sitofp .f32 (extui 32 (cmpi .eq (iota .tc S4x1 32 [0] iota_S4x1_d0_w32) (broadcast S4x1 i)) natLt_1_32)
/-- The column with a one at place `i` of sixty-four. -/
abbrev hot64 (i : BitVec 32) : FVec F S64x1 .f32 :=
  sitofp .f32 (extui 32 (cmpi .eq (iota .tc S64x1 32 [0] iota_S64x1_d0_w32) (broadcast S64x1 i)) natLt_1_32)
/-- The column with a one at place `i` of eight. -/
abbrev hot8 (i : BitVec 32) : FVec F S8x1 .f32 :=
  sitofp .f32 (extui 32 (cmpi .eq (iota .tc S8x1 32 [0] iota_S8x1_d0_w32) (broadcast S8x1 i)) natLt_1_32)
/-- The column with a one at place `i` of two. -/
abbrev hot2 (i : BitVec 32) : FVec F S2x1 .f32 :=
  sitofp .f32 (extui 32 (cmpi .eq (iota .tc S2x1 32 [0] iota_S2x1_d0_w32) (broadcast S2x1 i)) natLt_1_32)

/-- One image network: the biases are rows `i` of their tables. -/
def img (B1 B2 : Vec F S4x512 .f32) (B3 : Vec F S4x16 .f32) (i : BitVec 32) (x : Vec F S1x512x784 .f32) (a : Vec F S1x784x512 .f32)
    (b : Vec F S1x512x512 .f32) (d : Vec F S1x512x16 .f32) : FVec F S512x16 .f32 :=
  k0_pay70 (k0_pay67 i B1) (k0_pay67 i B2) (k0_pay69 (hot4 i) B3) x a b d

/-- The four networks' outputs side by side. -/
def wide (y0 y1 y2 y3 : FVec F S512x16 .f32) : FVec F S512x64 .f32 :=
  concatenate S512x64 1 [⟨S512x16, y0⟩, ⟨S512x16, y1⟩, ⟨S512x16, y2⟩, ⟨S512x16, y3⟩] concatenates_S512x16_S512x16_S512x16_S512x16_S512x64_d1

/-- Eight chosen columns of the first stage. -/
def mix (X : FVec F S512x64 .f32) (i0 i1 i2 i3 i4 i5 i6 i7 : BitVec 32) : FVec F S512x8 .f32 :=
  matmul dot_S512x64_S64x8_S512x8_1_0_0_1_n_n none X
    (concatenate S64x8 1 [⟨S64x1, hot64 i0⟩, ⟨S64x1, hot64 i1⟩, ⟨S64x1, hot64 i2⟩, ⟨S64x1, hot64 i3⟩, ⟨S64x1, hot64 i4⟩, ⟨S64x1, hot64 i5⟩,
      ⟨S64x1, hot64 i6⟩, ⟨S64x1, hot64 i7⟩] concatenates_S64x1_S64x1_S64x1_S64x1_S64x1_S64x1_S64x1_S64x1_S64x8_d1)
    (constant S512x8 .f32 0x00000000#32)

/-- Module `i` on a pair of columns. -/
def mlp (W1 : Vec F S8x2x128 .f32) (B1 : Vec F S8x128 .f32) (W2 : Vec F S8x128x1 .f32) (B2 : Vec F S8x1 .f32) (u v : FVec F S512x1 .f32)
    (i : BitVec 32) : FVec F S512x1 .f32 :=
  have t : FVec F S8x1x1 .f32 := shapeCast S8x1x1 (hot8 i) shapeCasts_S8x1_S8x1x1
  have w1 : FVec F S2x128 .f32 := multiReduction .add [0] S2x128 (mulf W1 (broadcastTo S8x2x128 t broadcasts_S8x1x1_S8x2x128)) 0x00000000#32
    reduces_S8x2x128_S2x128 (.inl rfl) rfl
  have b1 : FVec F S1x128 .f32 := shapeCast S1x128 (multiReduction .add [0] S128 (mulf B1 (broadcastTo S8x128 (hot8 i) broadcasts_S8x1_S8x128))
    0x00000000#32 reduces_S8x128_S128 (.inl rfl) rfl) shapeCasts_S128_S1x128
  have w2 : FVec F S128x1 .f32 := multiReduction .add [0] S128x1 (mulf W2 (broadcastTo S8x128x1 t broadcasts_S8x1x1_S8x128x1)) 0x00000000#32
    reduces_S8x128x1_S128x1 (.inl rfl) rfl
  have b2 : FVec F S1x1 .f32 := shapeCast S1x1 (multiReduction .add [0] S1 (mulf B2 (hot8 i)) 0x00000000#32 reduces_S8x1_S1 (.inl rfl) rfl)
    shapeCasts_S1_S1x1
  have p : FVec F S512x128 .f32 := mulf (broadcastTo S512x128 u broadcasts_S512x1_S512x128)
    (broadcastTo S512x128 (extractStridedSlice S1x128 ![0, 0] w1 slices_S2x128_o0_0_S1x128) broadcasts_S1x128_S512x128)
  have q : FVec F S512x128 .f32 := mulf (broadcastTo S512x128 v broadcasts_S512x1_S512x128)
    (broadcastTo S512x128 (extractStridedSlice S1x128 ![1, 0] w1 slices_S2x128_o1_0_S1x128) broadcasts_S1x128_S512x128)
  have h : FVec F S512x128 .f32 := maximumf (addf (addf p q) (broadcastTo S512x128 b1 broadcasts_S1x128_S512x128))
    (broadcast S512x128 (Scalar.ofBits .f32 0x00000000#32 : F .f32))
  addf (matmul dot_S512x128_S128x1_S512x1_1_0_0_1_n_n none h w2 (constant S512x1 .f32 0x00000000#32))
    (broadcastTo S512x1 b2 broadcasts_S1x1_S512x1)

/-- Column `i` of four. -/
def col4 (X : FVec F S512x4 .f32) (i : BitVec 32) : FVec F S512x1 .f32 :=
  shapeCast S512x1 (multiReduction .add [1] S512 (mulf X (broadcastTo S512x4 (shapeCast S1x4 (hot4 i) shapeCasts_S4x1_S1x4) broadcasts_S1x4_S512x4))
    0x00000000#32 reduces_S512x4_S512 (.inl rfl) rfl) shapeCasts_S512_S512x1

/-- Four columns side by side. -/
def join4 (y0 y1 y2 y3 : FVec F S512x1 .f32) : FVec F S512x4 .f32 :=
  concatenate S512x4 1 [⟨S512x1, y0⟩, ⟨S512x1, y1⟩, ⟨S512x1, y2⟩, ⟨S512x1, y3⟩] concatenates_S512x1_S512x1_S512x1_S512x1_S512x4_d1

/-- Two columns side by side. -/
def join2 (y0 y1 : FVec F S512x1 .f32) : FVec F S512x2 .f32 :=
  concatenate S512x2 1 [⟨S512x1, y0⟩, ⟨S512x1, y1⟩] concatenates_S512x1_S512x1_S512x2_d1

/-- The sigmoid of columns `i` and `j` of two. -/
def fin2 (X : FVec F S512x2 .f32) (i j : BitVec 32) : FVec F S512x2 .f32 :=
  k0_pay1 X j (shapeCast S1x2 (hot2 i) shapeCasts_S2x1_S1x2)

end functions

/-- An entry of a one-hot column over the extended reals. -/
theorem hot_entry (k a : ℕ) (hk : k < 2 ^ 32) (ha : a < 2 ^ 32) :
    FloatOps.sitofp (F := Ideal) .f32 (BitVec.setWidth 32 (IntOp.cmpi .eq (BitVec.ofNat 32 k) (BitVec.ofNat 32 a))) = if k = a then (1 : EReal) else 0 := by
  by_cases hka : k = a
  · subst hka
    simp [IntOp.cmpi, FloatOps.sitofp]
  · have hne : (BitVec.ofNat 32 k == BitVec.ofNat 32 a) = false := by
      rw [beq_eq_false_iff_ne]
      intro h
      have := congrArg BitVec.toNat h
      rw [BitVec.toNat_ofNat, BitVec.toNat_ofNat, Nat.mod_eq_of_lt hk, Nat.mod_eq_of_lt ha] at this
      exact hka this
    simp [IntOp.cmpi, FloatOps.sitofp, hka, hne]

/-- A sum against a one-hot column is the entry it points at, whatever the entries are. -/
theorem sum_hot {n : ℕ} (hn : n ≤ 2 ^ 32) (f : Fin n → EReal) (a : Fin n) :
    ∑ k : Fin n, f k * FloatOps.sitofp (F := Ideal) .f32 (BitVec.setWidth 32 (IntOp.cmpi .eq (BitVec.ofNat 32 k.val) (BitVec.ofNat 32 a.val))) = f a := by
  rw [Finset.sum_eq_single a]
  · rw [hot_entry _ _ (a.isLt.trans_le hn) (a.isLt.trans_le hn), if_pos rfl]; exact mul_one _
  · intro k _ hk
    rw [hot_entry _ _ (k.isLt.trans_le hn) (a.isLt.trans_le hn), if_neg (fun e => hk (Fin.ext e))]; exact mul_zero _
  · intro h; exact absurd (Finset.mem_univ a) h

/-- One image network at an index. -/
theorem img_apply (B1 B2 : Vec Ideal S4x512 .f32) (B3 : Vec Ideal S4x16 .f32) (m : Fin 4) (x : Vec Ideal S1x512x784 .f32)
    (a : Vec Ideal S1x784x512 .f32) (b : Vec Ideal S1x512x512 .f32) (d : Vec Ideal S1x512x16 .f32) (r : Fin 512) (q : Fin 16) :
    img B1 B2 B3 (BitVec.ofNat 32 m.val) x a b d (ix2 r q)
      = ∑ k : Fin 512, max (∑ j : Fin 512, max (∑ p : Fin 784, x (ix3 0 r p) * a (ix3 0 p j) + B1 (ix2 m j)) 0 * b (ix3 0 j k)
          + B2 (ix2 m k)) 0 * d (ix3 0 k q) + B3 (ix2 m q) := by
  have e : ∀ j : Fin 512, ∑ t : Fin 4, B1 (ix2 t j) * FloatOps.sitofp (F := Ideal) .f32 (BitVec.setWidth 32 (IntOp.cmpi .eq (BitVec.ofNat 32 t.val) (BitVec.ofNat 32 m.val)))
      = B1 (ix2 m j) := fun j => sum_hot (by decide) (fun t => B1 (ix2 t j)) m
  have e' : ∀ j : Fin 512, ∑ t : Fin 4, B2 (ix2 t j) * FloatOps.sitofp (F := Ideal) .f32 (BitVec.setWidth 32 (IntOp.cmpi .eq (BitVec.ofNat 32 t.val) (BitVec.ofNat 32 m.val)))
      = B2 (ix2 m j) := fun j => sum_hot (by decide) (fun t => B2 (ix2 t j)) m
  have e'' : ∀ j : Fin 16, ∑ t : Fin 4, B3 (ix2 t j) * FloatOps.sitofp (F := Ideal) .f32 (BitVec.setWidth 32 (IntOp.cmpi .eq (BitVec.ofNat 32 t.val) (BitVec.ofNat 32 m.val)))
      = B3 (ix2 m j) := fun j => sum_hot (by decide) (fun t => B3 (ix2 t j)) m
  pointwise [img, k0_pay66, k0_pay67, k0_pay69, k0_pay70]
  simp only [e, e', e'']

/-- The four networks' outputs at an index. -/
theorem wide_apply (y : Fin 4 → FVec Ideal S512x16 .f32) (r : Fin 512) (i : Fin 64) :
    wide (y 0) (y 1) (y 2) (y 3) (ix2 r i) = y ⟨i.val / 16, by omega⟩ (ix2 r ⟨i.val % 16, Nat.mod_lt _ (by decide)⟩) := by
  pointwise [wide]
  have key : ∀ (t : Fin 4) (w : Fin 16), i.val = 16 * t.val + w.val →
      y ⟨i.val / 16, by omega⟩ (ix2 r ⟨i.val % 16, Nat.mod_lt _ (by decide)⟩) = y t (ix2 r w) := by
    intro t w h
    have h1 : (⟨i.val / 16, by omega⟩ : Fin 4) = t := Fin.ext (by show i.val / 16 = t.val; omega)
    have h2 : (⟨i.val % 16, Nat.mod_lt _ (by decide)⟩ : Fin 16) = w := Fin.ext (by show i.val % 16 = w.val; omega)
    rw [h1, h2]
  by_cases h0 : i.val < 16
  · rw [dif_pos h0]; exact (key 0 _ (by simp)).symm
  rw [dif_neg h0]
  by_cases h1 : i.val - 16 < 16
  · rw [dif_pos h1]; exact (key 1 ⟨i.val - 16, h1⟩ (by show i.val = 16 * 1 + (i.val - 16); omega)).symm
  rw [dif_neg h1]
  by_cases h2 : i.val - 16 - 16 < 16
  · rw [dif_pos h2]; exact (key 2 ⟨i.val - 16 - 16, h2⟩ (by show i.val = 16 * 2 + (i.val - 16 - 16); omega)).symm
  rw [dif_neg h2]
  exact (key 3 ⟨i.val - 16 - 16 - 16, by omega⟩ (by show i.val = 16 * 3 + (i.val - 16 - 16 - 16); omega)).symm

/-- A chosen column of the first stage. -/
theorem mix_apply (X : FVec Ideal S512x64 .f32) (i : Fin 8 → Fin 64) (r : Fin 512) (q : Fin 8) :
    mix X (BitVec.ofNat 32 (i 0).val) (BitVec.ofNat 32 (i 1).val) (BitVec.ofNat 32 (i 2).val) (BitVec.ofNat 32 (i 3).val)
      (BitVec.ofNat 32 (i 4).val) (BitVec.ofNat 32 (i 5).val) (BitVec.ofNat 32 (i 6).val) (BitVec.ofNat 32 (i 7).val) (ix2 r q) = X (ix2 r (i q)) := by
  have e : ∀ t : Fin 8, ∑ k : Fin 64, X (ix2 r k) * FloatOps.sitofp (F := Ideal) .f32 (BitVec.setWidth 32 (IntOp.cmpi .eq (BitVec.ofNat 32 k.val) (BitVec.ofNat 32 (i t).val)))
      = X (ix2 r (i t)) := fun t => sum_hot (by decide) (fun k => X (ix2 r k)) (i t)
  pointwise [mix]
  fin_vals q with hq
  all_goals simp only [hq, Nat.reduceSub, Nat.reduceLT, ↓reduceDIte, e]
  all_goals exact congrArg (fun t => X (ix2 r (i t))) (Fin.ext hq.symm)

/-- A module at an index. -/
theorem mlp_apply (D : Cert.Spec.Data) (m : Fin 8) (u v : FVec Ideal S512x1 .f32) (r : Fin 512) (q : Fin 1) :
    mlp D.w1 D.c1 D.w2 D.c2 u v (BitVec.ofNat 32 m.val) (ix2 r q) = Cert.Spec.mlp D m (u (ix2 r 0)) (v (ix2 r 0)) := by
  have e : ∀ (t : Fin 2) (j : Fin 128), ∑ k : Fin 8, D.w1 (ix3 k t j) * FloatOps.sitofp (F := Ideal) .f32 (BitVec.setWidth 32 (IntOp.cmpi .eq (BitVec.ofNat 32 k.val) (BitVec.ofNat 32 m.val)))
      = D.w1 (ix3 m t j) := fun t j => sum_hot (by decide) (fun k => D.w1 (ix3 k t j)) m
  have e1 : ∀ (j : Fin 128), ∑ k : Fin 8, D.c1 (ix2 k j) * FloatOps.sitofp (F := Ideal) .f32 (BitVec.setWidth 32 (IntOp.cmpi .eq (BitVec.ofNat 32 k.val) (BitVec.ofNat 32 m.val)))
      = D.c1 (ix2 m j) := fun j => sum_hot (by decide) (fun k => D.c1 (ix2 k j)) m
  have e2 : ∀ (j : Fin 128), ∑ k : Fin 8, D.w2 (ix3 k j 0) * FloatOps.sitofp (F := Ideal) .f32 (BitVec.setWidth 32 (IntOp.cmpi .eq (BitVec.ofNat 32 k.val) (BitVec.ofNat 32 m.val)))
      = D.w2 (ix3 m j 0) := fun j => sum_hot (by decide) (fun k => D.w2 (ix3 k j 0)) m
  have e3 : ∑ k : Fin 8, D.c2 (ix2 k 0) * FloatOps.sitofp (F := Ideal) .f32 (BitVec.setWidth 32 (IntOp.cmpi .eq (BitVec.ofNat 32 k.val) (BitVec.ofNat 32 m.val)))
      = D.c2 (ix2 m 0) := sum_hot (by decide) (fun k => D.c2 (ix2 k 0)) m
  pointwise [mlp, Cert.Spec.mlp]
  simp only [e, e1, e2, e3]

/-- A chosen column of the second stage. -/
theorem col4_apply (X : FVec Ideal S512x4 .f32) (i : Fin 4) (r : Fin 512) (q : Fin 1) :
    col4 X (BitVec.ofNat 32 i.val) (ix2 r q) = X (ix2 r i) := by
  pointwise [col4]
  exact sum_hot (by decide) (fun k => X (ix2 r k)) i

/-- Four columns side by side, at an index. -/
theorem join4_apply (y : Fin 4 → FVec Ideal S512x1 .f32) (r : Fin 512) (i : Fin 4) :
    join4 (y 0) (y 1) (y 2) (y 3) (ix2 r i) = y i (ix2 r 0) := by
  pointwise [join4]
  fin_vals i with hi
  all_goals simp only [hi, Nat.reduceSub, Nat.reduceLT, ↓reduceDIte]
  all_goals exact congrArg (fun t => y t (ix2 r 0)) (Fin.ext hi.symm)

/-- Two columns side by side, at an index. -/
theorem join2_apply (y : Fin 2 → FVec Ideal S512x1 .f32) (r : Fin 512) (i : Fin 2) :
    join2 (y 0) (y 1) (ix2 r i) = y i (ix2 r 0) := by
  pointwise [join2]
  fin_vals i with hi
  all_goals simp only [hi, Nat.reduceSub, Nat.reduceLT, ↓reduceDIte]
  all_goals exact congrArg (fun t => y t (ix2 r 0)) (Fin.ext hi.symm)

/-- The result at an index. -/
theorem fin2_apply (X : FVec Ideal S512x2 .f32) (i j : Fin 2) (r : Fin 512) (q : Fin 2) :
    fin2 X (BitVec.ofNat 32 i.val) (BitVec.ofNat 32 j.val) (ix2 r q) = Ideal.logistic (X (ix2 r (if q.val < 1 then i else j))) := by
  have e : ∀ i : Fin 2, ∑ k : Fin 2, X (ix2 r k) * FloatOps.sitofp (F := Ideal) .f32 (BitVec.setWidth 32 (IntOp.cmpi .eq (BitVec.ofNat 32 k.val) (BitVec.ofNat 32 i.val)))
      = X (ix2 r i) := fun i => sum_hot (by decide) (fun k => X (ix2 r k)) i
  pointwise [fin2, k0_pay1]
  simp only [e]
  split_ifs <;> rfl

end Cert.KernelIdeal.Hand

end
-- ==== Proof.KernelIdeal.Scans.lean ====
/-
  Which columns and which modules the body chooses: each straight line of compares and selects is one of the two scans,
  over a column of the logits in the scalar memory. Beside each, the value of the body that uses its outcome.
-/
module

public import proofs.«01_k».proof.Proof.Scan
public import proofs.«01_k».proof.Proof.KernelIdeal.Blocks
public import proofs.«01_k».proof.Proof.KernelIdeal.Indep

@[expose] public section

set_option maxRecDepth 16384

noncomputable section

namespace Cert.KernelIdeal.Hand

open Cert.KernelIdeal Cert.KernelIdeal.Gen Cert.Scan
open Idealize.ShloMosaic Idealize.ShloMosaic.TcCoe

variable {F : FTy → Type} [FloatOps F]

/-- A scalar load of one entry of a table is that entry. -/
theorem read_cell {n m : ℕ} (c : Dev nD) (M : Memref sig .tc .smem ⟨3, ![1, n, m]⟩ .f32) (f : Bf (F := F) c M) (k j : ℕ)
    (hk : ∀ a, (![0, k, j] : Fin 3 → ℕ) a + S1x1x1.size a ≤ (⟨3, ![1, n, m]⟩ : Shape).size a) (h) :
    View.readAt (Elt F) M.view (Rect.unit (s := ⟨3, ![1, n, m]⟩) ![0, k, j] S1x1x1.size hk).toLoadRect f (Shape.Idx.first h)
      = cell (M.view.read (Elt F) f) j k := by
  have hn : k < n := hk 1
  have hm : j < m := hk 2
  rw [View.readAt_apply, cell, dif_pos ⟨hn, hm⟩]
  refine congrArg _ (funext fun a => Fin.ext ?_)
  match a with
  | 0 => rfl
  | 1 => show k + 1 * 0 = k; omega
  | 2 => show j + 1 * 0 = j; omega

/-- The value a scan for the second largest starts from. -/
abbrev low : F .f32 := FloatOps.ofBits .f32 0xFF800000#32

variable (c : Dev nD) (M0 : Memref sig .tc .smem S1x16x4 .f32) (M1 : Memref sig .tc .smem S1x4x4 .f32)
  (M4 : Memref sig .tc .vmem S4x512 .f32) (M6 : Memref sig .tc .vmem S4x512 .f32) (M8 : Memref sig .tc .vmem S4x16 .f32)
  (M9 : Memref sig .tc .vmem S8x2x128 .f32) (M10 : Memref sig .tc .vmem S8x128 .f32) (M11 : Memref sig .tc .vmem S8x128x1 .f32)
  (M12 : Memref sig .tc .vmem S8x1 .f32) (M13 : Memref sig .tc .smem S1x64x4 .f32) (M14 : Memref sig .tc .smem S1x4x2 .f32)
  (M15 : Memref sig .tc .smem S1x2x1 .f32) (M16 : Memref sig .tc .smem S1x8x4 .f32) (M17 : Memref sig .tc .smem S1x8x2 .f32)
  (f0 : Bf (F := F) c M0) (f1 : Bf (F := F) c M1) (f4 : Bf (F := F) c M4) (f6 : Bf (F := F) c M6) (f8 : Bf (F := F) c M8)
  (f9 : Bf (F := F) c M9) (f10 : Bf (F := F) c M10) (f11 : Bf (F := F) c M11) (f12 : Bf (F := F) c M12) (f13 : Bf (F := F) c M13)
  (f14 : Bf (F := F) c M14) (f15 : Bf (F := F) c M15) (f16 : Bf (F := F) c M16) (f17 : Bf (F := F) c M17)
  (gx : Bf (F := F) c hb_x) (ga : Bf (F := F) c hb_a) (gb : Bf (F := F) c hb_b) (gd : Bf (F := F) c hb_d)
  (f19 : Bf (F := F) c sc19) (f20 : Bf (F := F) c sc20) (f21 : Bf (F := F) c sc21) (f22 : Bf (F := F) c sc22)

/-- The first slot's channel. -/
theorem chan0 : ∃ i, k0_off1 (kernelRun.sl.v2 c M0 f0) (kernelRun.sl.v6 c M0 f0) (kernelRun.sl.v10 c M0 f0) (kernelRun.sl.v14 c M0 f0) (kernelRun.sl.v18 c M0 f0) (kernelRun.sl.v22 c M0 f0) (kernelRun.sl.v26 c M0 f0) (kernelRun.sl.v30 c M0 f0) (kernelRun.sl.v34 c M0 f0) (kernelRun.sl.v38 c M0 f0) (kernelRun.sl.v42 c M0 f0) (kernelRun.sl.v46 c M0 f0) (kernelRun.sl.v50 c M0 f0) (kernelRun.sl.v54 c M0 f0) (kernelRun.sl.v58 c M0 f0) = ![0, BitVec.toNat i, 0] ∧ ∃ w, Arg (cell (M0.view.read (Elt F) f0) 0) 15 w i := by
  apply Exists.intro
  refine And.intro rfl ?_
  apply Exists.intro
  iterate 15 refine Arg.next ?_ (read_cell c M0 f0 _ 0 (by decide) _)
  exact .start (read_cell c M0 f0 _ 0 (by decide) _)

/-- The second slot's channel. -/
theorem chan1 : ∃ i, k0_off5 (kernelRun.sl.v62 c M0 f0) (kernelRun.sl.v66 c M0 f0) (kernelRun.sl.v70 c M0 f0) (kernelRun.sl.v74 c M0 f0) (kernelRun.sl.v78 c M0 f0) (kernelRun.sl.v82 c M0 f0) (kernelRun.sl.v86 c M0 f0) (kernelRun.sl.v90 c M0 f0) (kernelRun.sl.v94 c M0 f0) (kernelRun.sl.v98 c M0 f0) (kernelRun.sl.v102 c M0 f0) (kernelRun.sl.v106 c M0 f0) (kernelRun.sl.v110 c M0 f0) (kernelRun.sl.v114 c M0 f0) (kernelRun.sl.v118 c M0 f0) = ![0, BitVec.toNat i, 0] ∧ ∃ w, Arg (cell (M0.view.read (Elt F) f0) 1) 15 w i := by
  apply Exists.intro
  refine And.intro rfl ?_
  apply Exists.intro
  iterate 15 refine Arg.next ?_ (read_cell c M0 f0 _ 1 (by decide) _)
  exact .start (read_cell c M0 f0 _ 1 (by decide) _)

/-- The third slot's channel. -/
theorem chan2 : ∃ i, k0_off9 (kernelRun.sl.v122 c M0 f0) (kernelRun.sl.v126 c M0 f0) (kernelRun.sl.v130 c M0 f0) (kernelRun.sl.v134 c M0 f0) (kernelRun.sl.v138 c M0 f0) (kernelRun.sl.v142 c M0 f0) (kernelRun.sl.v146 c M0 f0) (kernelRun.sl.v150 c M0 f0) (kernelRun.sl.v154 c M0 f0) (kernelRun.sl.v158 c M0 f0) (kernelRun.sl.v162 c M0 f0) (kernelRun.sl.v166 c M0 f0) (kernelRun.sl.v170 c M0 f0) (kernelRun.sl.v174 c M0 f0) (kernelRun.sl.v178 c M0 f0) = ![0, BitVec.toNat i, 0] ∧ ∃ w, Arg (cell (M0.view.read (Elt F) f0) 2) 15 w i := by
  apply Exists.intro
  refine And.intro rfl ?_
  apply Exists.intro
  iterate 15 refine Arg.next ?_ (read_cell c M0 f0 _ 2 (by decide) _)
  exact .start (read_cell c M0 f0 _ 2 (by decide) _)

/-- The fourth slot's channel. -/
theorem chan3 : ∃ i, k0_off13 (kernelRun.sl.v182 c M0 f0) (kernelRun.sl.v186 c M0 f0) (kernelRun.sl.v190 c M0 f0) (kernelRun.sl.v194 c M0 f0) (kernelRun.sl.v198 c M0 f0) (kernelRun.sl.v202 c M0 f0) (kernelRun.sl.v206 c M0 f0) (kernelRun.sl.v210 c M0 f0) (kernelRun.sl.v214 c M0 f0) (kernelRun.sl.v218 c M0 f0) (kernelRun.sl.v222 c M0 f0) (kernelRun.sl.v226 c M0 f0) (kernelRun.sl.v230 c M0 f0) (kernelRun.sl.v234 c M0 f0) (kernelRun.sl.v238 c M0 f0) = ![0, BitVec.toNat i, 0] ∧ ∃ w, Arg (cell (M0.view.read (Elt F) f0) 3) 15 w i := by
  apply Exists.intro
  refine And.intro rfl ?_
  apply Exists.intro
  iterate 15 refine Arg.next ?_ (read_cell c M0 f0 _ 3 (by decide) _)
  exact .start (read_cell c M0 f0 _ 3 (by decide) _)

/-- The first slot's network. -/
theorem net0 : ∃ w, Arg (cell (M1.view.read (Elt F) f1) 0) 3 w (kernelRun.sl.v251 c M1 f1) := by
  apply Exists.intro
  iterate 3 refine Arg.next ?_ (read_cell c M1 f1 _ 0 (by decide) _)
  exact .start (read_cell c M1 f1 _ 0 (by decide) _)

/-- The second slot's network. -/
theorem net1 : ∃ w, Arg (cell (M1.view.read (Elt F) f1) 1) 3 w (kernelRun.sl.v263 c M1 f1) := by
  apply Exists.intro
  iterate 3 refine Arg.next ?_ (read_cell c M1 f1 _ 1 (by decide) _)
  exact .start (read_cell c M1 f1 _ 1 (by decide) _)

/-- The third slot's network. -/
theorem net2 : ∃ w, Arg (cell (M1.view.read (Elt F) f1) 2) 3 w (kernelRun.sl.v275 c M1 f1) := by
  apply Exists.intro
  iterate 3 refine Arg.next ?_ (read_cell c M1 f1 _ 2 (by decide) _)
  exact .start (read_cell c M1 f1 _ 2 (by decide) _)

/-- The fourth slot's network. -/
theorem net3 : ∃ w, Arg (cell (M1.view.read (Elt F) f1) 3) 3 w (kernelRun.sl.v287 c M1 f1) := by
  apply Exists.intro
  iterate 3 refine Arg.next ?_ (read_cell c M1 f1 _ 3 (by decide) _)
  exact .start (read_cell c M1 f1 _ 3 (by decide) _)

/-- The first module's two columns. -/
theorem pair0 : ∃ w z, Two (cell (M13.view.read (Elt F) f13) 0) low 64#32 63 w (kernelRun.sl.v1363 c M13 f13) z (kernelRun.sl.v1362 c M13 f13) := by
  apply Exists.intro
  apply Exists.intro
  iterate 63 refine Two.next ?_ (read_cell c M13 f13 _ 0 (by decide) _)
  exact .start (read_cell c M13 f13 _ 0 (by decide) _)

/-- The second module's two columns. -/
theorem pair1 : ∃ w z, Two (cell (M13.view.read (Elt F) f13) 1) low 64#32 63 w (kernelRun.sl.v2054 c M13 f13) z (kernelRun.sl.v2053 c M13 f13) := by
  apply Exists.intro
  apply Exists.intro
  iterate 63 refine Two.next ?_ (read_cell c M13 f13 _ 1 (by decide) _)
  exact .start (read_cell c M13 f13 _ 1 (by decide) _)

/-- The third module's two columns. -/
theorem pair2 : ∃ w z, Two (cell (M13.view.read (Elt F) f13) 2) low 64#32 63 w (kernelRun.sl.v2745 c M13 f13) z (kernelRun.sl.v2744 c M13 f13) := by
  apply Exists.intro
  apply Exists.intro
  iterate 63 refine Two.next ?_ (read_cell c M13 f13 _ 2 (by decide) _)
  exact .start (read_cell c M13 f13 _ 2 (by decide) _)

/-- The fourth module's two columns, and the eight columns picked out of the first stage. -/
theorem pair3 : ∃ i j, (kernelRun.sl.r_517 c M0 M1 M4 M6 M8 M13 f0 f1 f4 f6 f8 f13 gx ga gb gd f19 f20 f21 f22) = mix (kernelRun.sl.r_114 c M0 M1 M4 M6 M8 f0 f1 f4 f6 f8 gx ga gb gd f19 f20 f21 f22) (kernelRun.sl.v1363 c M13 f13) (kernelRun.sl.v1362 c M13 f13) (kernelRun.sl.v2054 c M13 f13) (kernelRun.sl.v2053 c M13 f13) (kernelRun.sl.v2745 c M13 f13) (kernelRun.sl.v2744 c M13 f13) i j
    ∧ ∃ w z, Two (cell (M13.view.read (Elt F) f13) 3) low 64#32 63 w i z j := by
  apply Exists.intro
  apply Exists.intro
  refine And.intro rfl ?_
  apply Exists.intro
  apply Exists.intro
  iterate 63 refine Two.next ?_ (read_cell c M13 f13 _ 3 (by decide) _)
  exact .start (read_cell c M13 f13 _ 3 (by decide) _)

/-- The first module of the second stage. -/
theorem mod0 : ∃ i, (kernelRun.sl.r_533 c M0 M1 M4 M6 M8 M9 M10 M11 M12 M13 M16 f0 f1 f4 f6 f8 f9 f10 f11 f12 f13 f16 gx ga gb gd f19 f20 f21 f22) = mlp (kernelRun.sl.r_115 c M9 f9) (kernelRun.sl.r_116 c M10 f10) (kernelRun.sl.r_117 c M11 f11) (kernelRun.sl.r_118 c M12 f12) (kernelRun.sl.r_518 c M0 M1 M4 M6 M8 M13 f0 f1 f4 f6 f8 f13 gx ga gb gd f19 f20 f21 f22) (kernelRun.sl.r_519 c M0 M1 M4 M6 M8 M13 f0 f1 f4 f6 f8 f13 gx ga gb gd f19 f20 f21 f22) i ∧ ∃ w, Arg (cell (M16.view.read (Elt F) f16) 0) 7 w i := by
  apply Exists.intro
  refine And.intro rfl ?_
  apply Exists.intro
  iterate 7 refine Arg.next ?_ (read_cell c M16 f16 _ 0 (by decide) _)
  exact .start (read_cell c M16 f16 _ 0 (by decide) _)

/-- The second module of the second stage. -/
theorem mod1 : ∃ i, (kernelRun.sl.r_553 c M0 M1 M4 M6 M8 M9 M10 M11 M12 M13 M16 f0 f1 f4 f6 f8 f9 f10 f11 f12 f13 f16 gx ga gb gd f19 f20 f21 f22) = mlp (kernelRun.sl.r_115 c M9 f9) (kernelRun.sl.r_116 c M10 f10) (kernelRun.sl.r_117 c M11 f11) (kernelRun.sl.r_118 c M12 f12) (kernelRun.sl.r_534 c M0 M1 M4 M6 M8 M13 f0 f1 f4 f6 f8 f13 gx ga gb gd f19 f20 f21 f22) (kernelRun.sl.r_535 c M0 M1 M4 M6 M8 M13 f0 f1 f4 f6 f8 f13 gx ga gb gd f19 f20 f21 f22) i ∧ ∃ w, Arg (cell (M16.view.read (Elt F) f16) 1) 7 w i := by
  apply Exists.intro
  refine And.intro rfl ?_
  apply Exists.intro
  iterate 7 refine Arg.next ?_ (read_cell c M16 f16 _ 1 (by decide) _)
  exact .start (read_cell c M16 f16 _ 1 (by decide) _)

/-- The third module of the second stage. -/
theorem mod2 : ∃ i, (kernelRun.sl.r_559 c M0 M1 M4 M6 M8 M9 M10 M11 M12 M13 M16 f0 f1 f4 f6 f8 f9 f10 f11 f12 f13 f16 gx ga gb gd f19 f20 f21 f22) = mlp (kernelRun.sl.r_115 c M9 f9) (kernelRun.sl.r_116 c M10 f10) (kernelRun.sl.r_117 c M11 f11) (kernelRun.sl.r_118 c M12 f12) (kernelRun.sl.r_554 c M0 M1 M4 M6 M8 M13 f0 f1 f4 f6 f8 f13 gx ga gb gd f19 f20 f21 f22) (kernelRun.sl.r_555 c M0 M1 M4 M6 M8 M13 f0 f1 f4 f6 f8 f13 gx ga gb gd f19 f20 f21 f22) i ∧ ∃ w, Arg (cell (M16.view.read (Elt F) f16) 2) 7 w i := by
  apply Exists.intro
  refine And.intro rfl ?_
  apply Exists.intro
  iterate 7 refine Arg.next ?_ (read_cell c M16 f16 _ 2 (by decide) _)
  exact .start (read_cell c M16 f16 _ 2 (by decide) _)

/-- The fourth module of the second stage, and the four side by side. -/
theorem mod3 : ∃ i, (kernelRun.sl.r_572 c M0 M1 M4 M6 M8 M9 M10 M11 M12 M13 M16 f0 f1 f4 f6 f8 f9 f10 f11 f12 f13 f16 gx ga gb gd f19 f20 f21 f22) = join4 (kernelRun.sl.r_533 c M0 M1 M4 M6 M8 M9 M10 M11 M12 M13 M16 f0 f1 f4 f6 f8 f9 f10 f11 f12 f13 f16 gx ga gb gd f19 f20 f21 f22) (kernelRun.sl.r_553 c M0 M1 M4 M6 M8 M9 M10 M11 M12 M13 M16 f0 f1 f4 f6 f8 f9 f10 f11 f12 f13 f16 gx ga gb gd f19 f20 f21 f22) (kernelRun.sl.r_559 c M0 M1 M4 M6 M8 M9 M10 M11 M12 M13 M16 f0 f1 f4 f6 f8 f9 f10 f11 f12 f13 f16 gx ga gb gd f19 f20 f21 f22) (mlp (kernelRun.sl.r_115 c M9 f9) (kernelRun.sl.r_116 c M10 f10) (kernelRun.sl.r_117 c M11 f11) (kernelRun.sl.r_118 c M12 f12) (kernelRun.sl.r_560 c M0 M1 M4 M6 M8 M13 f0 f1 f4 f6 f8 f13 gx ga gb gd f19 f20 f21 f22) (kernelRun.sl.r_569 c M0 M1 M4 M6 M8 M13 f0 f1 f4 f6 f8 f13 gx ga gb gd f19 f20 f21 f22) i)
    ∧ ∃ w, Arg (cell (M16.view.read (Elt F) f16) 3) 7 w i := by
  apply Exists.intro
  refine And.intro rfl ?_
  apply Exists.intro
  iterate 7 refine Arg.next ?_ (read_cell c M16 f16 _ 3 (by decide) _)
  exact .start (read_cell c M16 f16 _ 3 (by decide) _)

/-- The two columns of the first module of the third stage. -/
theorem duo0 : ∃ i j, (kernelRun.sl.r_576 c M0 M1 M4 M6 M8 M9 M10 M11 M12 M13 M14 M16 f0 f1 f4 f6 f8 f9 f10 f11 f12 f13 f14 f16 gx ga gb gd f19 f20 f21 f22) = col4 (kernelRun.sl.r_572 c M0 M1 M4 M6 M8 M9 M10 M11 M12 M13 M16 f0 f1 f4 f6 f8 f9 f10 f11 f12 f13 f16 gx ga gb gd f19 f20 f21 f22) i ∧ (kernelRun.sl.r_586 c M0 M1 M4 M6 M8 M9 M10 M11 M12 M13 M14 M16 f0 f1 f4 f6 f8 f9 f10 f11 f12 f13 f14 f16 gx ga gb gd f19 f20 f21 f22) = col4 (kernelRun.sl.r_572 c M0 M1 M4 M6 M8 M9 M10 M11 M12 M13 M16 f0 f1 f4 f6 f8 f9 f10 f11 f12 f13 f16 gx ga gb gd f19 f20 f21 f22) j
    ∧ ∃ w z, Two (cell (M14.view.read (Elt F) f14) 0) low 4#32 3 w i z j := by
  apply Exists.intro
  apply Exists.intro
  refine And.intro rfl (And.intro rfl ?_)
  apply Exists.intro
  apply Exists.intro
  iterate 3 refine Two.next ?_ (read_cell c M14 f14 _ 0 (by decide) _)
  exact .start (read_cell c M14 f14 _ 0 (by decide) _)

/-- The two columns of the second module of the third stage. -/
theorem duo1 : ∃ i j, (kernelRun.sl.r_593 c M0 M1 M4 M6 M8 M9 M10 M11 M12 M13 M14 M16 f0 f1 f4 f6 f8 f9 f10 f11 f12 f13 f14 f16 gx ga gb gd f19 f20 f21 f22) = col4 (kernelRun.sl.r_572 c M0 M1 M4 M6 M8 M9 M10 M11 M12 M13 M16 f0 f1 f4 f6 f8 f9 f10 f11 f12 f13 f16 gx ga gb gd f19 f20 f21 f22) i ∧ (kernelRun.sl.r_603 c M0 M1 M4 M6 M8 M9 M10 M11 M12 M13 M14 M16 f0 f1 f4 f6 f8 f9 f10 f11 f12 f13 f14 f16 gx ga gb gd f19 f20 f21 f22) = col4 (kernelRun.sl.r_572 c M0 M1 M4 M6 M8 M9 M10 M11 M12 M13 M16 f0 f1 f4 f6 f8 f9 f10 f11 f12 f13 f16 gx ga gb gd f19 f20 f21 f22) j
    ∧ ∃ w z, Two (cell (M14.view.read (Elt F) f14) 1) low 4#32 3 w i z j := by
  apply Exists.intro
  apply Exists.intro
  refine And.intro rfl (And.intro rfl ?_)
  apply Exists.intro
  apply Exists.intro
  iterate 3 refine Two.next ?_ (read_cell c M14 f14 _ 1 (by decide) _)
  exact .start (read_cell c M14 f14 _ 1 (by decide) _)

/-- The first module of the third stage. -/
theorem last0 : ∃ i, (kernelRun.sl.r_589 c M0 M1 M4 M6 M8 M9 M10 M11 M12 M13 M14 M16 M17 f0 f1 f4 f6 f8 f9 f10 f11 f12 f13 f14 f16 f17 gx ga gb gd f19 f20 f21 f22) = mlp (kernelRun.sl.r_115 c M9 f9) (kernelRun.sl.r_116 c M10 f10) (kernelRun.sl.r_117 c M11 f11) (kernelRun.sl.r_118 c M12 f12) (kernelRun.sl.r_576 c M0 M1 M4 M6 M8 M9 M10 M11 M12 M13 M14 M16 f0 f1 f4 f6 f8 f9 f10 f11 f12 f13 f14 f16 gx ga gb gd f19 f20 f21 f22) (kernelRun.sl.r_586 c M0 M1 M4 M6 M8 M9 M10 M11 M12 M13 M14 M16 f0 f1 f4 f6 f8 f9 f10 f11 f12 f13 f14 f16 gx ga gb gd f19 f20 f21 f22) i ∧ ∃ w, Arg (cell (M17.view.read (Elt F) f17) 0) 7 w i := by
  apply Exists.intro
  refine And.intro rfl ?_
  apply Exists.intro
  iterate 7 refine Arg.next ?_ (read_cell c M17 f17 _ 0 (by decide) _)
  exact .start (read_cell c M17 f17 _ 0 (by decide) _)

/-- The second module of the third stage, and the two side by side. -/
theorem last1 : ∃ i, (kernelRun.sl.r_606 c M0 M1 M4 M6 M8 M9 M10 M11 M12 M13 M14 M16 M17 f0 f1 f4 f6 f8 f9 f10 f11 f12 f13 f14 f16 f17 gx ga gb gd f19 f20 f21 f22) = join2 (kernelRun.sl.r_589 c M0 M1 M4 M6 M8 M9 M10 M11 M12 M13 M14 M16 M17 f0 f1 f4 f6 f8 f9 f10 f11 f12 f13 f14 f16 f17 gx ga gb gd f19 f20 f21 f22) (mlp (kernelRun.sl.r_115 c M9 f9) (kernelRun.sl.r_116 c M10 f10) (kernelRun.sl.r_117 c M11 f11) (kernelRun.sl.r_118 c M12 f12) (kernelRun.sl.r_593 c M0 M1 M4 M6 M8 M9 M10 M11 M12 M13 M14 M16 f0 f1 f4 f6 f8 f9 f10 f11 f12 f13 f14 f16 gx ga gb gd f19 f20 f21 f22) (kernelRun.sl.r_603 c M0 M1 M4 M6 M8 M9 M10 M11 M12 M13 M14 M16 f0 f1 f4 f6 f8 f9 f10 f11 f12 f13 f14 f16 gx ga gb gd f19 f20 f21 f22) i) ∧ ∃ w, Arg (cell (M17.view.read (Elt F) f17) 1) 7 w i := by
  apply Exists.intro
  refine And.intro rfl ?_
  apply Exists.intro
  iterate 7 refine Arg.next ?_ (read_cell c M17 f17 _ 1 (by decide) _)
  exact .start (read_cell c M17 f17 _ 1 (by decide) _)

/-- The result's two columns. -/
theorem top : ∃ i j, k0_pay1 (kernelRun.sl.r_606 c M0 M1 M4 M6 M8 M9 M10 M11 M12 M13 M14 M16 M17 f0 f1 f4 f6 f8 f9 f10 f11 f12 f13 f14 f16 f17 gx ga gb gd f19 f20 f21 f22) (kernelRun.sl.v3976 c M15 f15) (kernelRun.sl.r_607 c M15 f15) = fin2 (kernelRun.sl.r_606 c M0 M1 M4 M6 M8 M9 M10 M11 M12 M13 M14 M16 M17 f0 f1 f4 f6 f8 f9 f10 f11 f12 f13 f14 f16 f17 gx ga gb gd f19 f20 f21 f22) i j
    ∧ ∃ w z, Two (cell (M15.view.read (Elt F) f15) 0) low 2#32 1 w i z j := by
  apply Exists.intro
  apply Exists.intro
  refine And.intro rfl ?_
  apply Exists.intro
  apply Exists.intro
  iterate 1 refine Two.next ?_ (read_cell c M15 f15 _ 0 (by decide) _)
  exact .start (read_cell c M15 f15 _ 0 (by decide) _)

end Cert.KernelIdeal.Hand

end
-- ==== Proof.KernelIdeal.Nets.lean ====
/-
  The four image networks in the body: each works on the blocks the copies brought, which are the channel and the weights
  the slot chose.
-/
module

public import proofs.«01_k».proof.Proof.Routes
public import proofs.«01_k».proof.Proof.KernelIdeal.Scans
public import Idealize.ShloMosaic.Lib.ValueLayout
public import Idealize.ShloMosaic.Lib.Pipeline.Value

@[expose] public section

set_option maxRecDepth 16384

noncomputable section

namespace Cert.KernelIdeal.Hand

open Cert.KernelIdeal Cert.KernelIdeal.Gen Cert.Scan
open Idealize.ShloMosaic Idealize.ShloMosaic.TcCoe

section copies

/-- An index of a matrix with a unit axis in front, with that axis dropped. -/
theorem drop_unit {a b : ℕ} (h : (⟨2, ![a, b]⟩ : Shape).numel = (⟨3, ![1, a, b]⟩ : Shape).numel) (x : Fin a) (y : Fin b) :
    (Shape.reshapeEquiv h).symm (ix3 (0 : Fin 1) x y) = ix2 x y := (Equiv.symm_apply_eq _).2 (ValueIdx.reshapeEquiv_ix2_1ab h x y).symm

/-- A load of one plane of an array is that plane. -/
theorem plane_read {n a b : ℕ} (c : Dev nD) (M : Memref sig .tc .hbm ⟨3, ![n, a, b]⟩ .f32) (g : Bf (F := Ideal) c M) (off : Fin 3 → ℕ)
    (h : ∀ t, off t + (⟨3, ![1, a, b]⟩ : Shape).size t ≤ (⟨3, ![n, a, b]⟩ : Shape).size t) (m : Fin n) (ho : off = ![m.val, 0, 0]) (x : Fin a) (y : Fin b) :
    M.view.readAt (Elt Ideal) (Rect.unit (s := ⟨3, ![n, a, b]⟩) off (⟨3, ![1, a, b]⟩ : Shape).size h).toLoadRect g (ix3 (0 : Fin 1) x y) = M.view.read (Elt Ideal) g (ix3 m x y) := by
  subst ho
  rw [View.readAt_apply]
  refine congrArg _ (funext fun t => Fin.ext ?_)
  match t with
  | 0 => show m.val + 1 * 0 = m.val; omega
  | 1 => show 0 + 1 * x.val = x.val; omega
  | 2 => show 0 + 1 * y.val = y.val; omega

/-- A load of one row of every plane of an array is that row. -/
theorem row_read {n a b : ℕ} (c : Dev nD) (M : Memref sig .tc .hbm ⟨3, ![a, n, b]⟩ .f32) (g : Bf (F := Ideal) c M) (off : Fin 3 → ℕ)
    (h : ∀ t, off t + (⟨3, ![a, 1, b]⟩ : Shape).size t ≤ (⟨3, ![a, n, b]⟩ : Shape).size t) (m : Fin n) (ho : off = ![0, m.val, 0]) (x : Fin a) (y : Fin b) :
    M.view.readAt (Elt Ideal) (Rect.unit (s := ⟨3, ![a, n, b]⟩) off (⟨3, ![a, 1, b]⟩ : Shape).size h).toLoadRect g (ix3 x (0 : Fin 1) y) = M.view.read (Elt Ideal) g (ix3 x m y) := by
  subst ho
  rw [View.readAt_apply]
  refine congrArg _ (funext fun t => Fin.ext ?_)
  match t with
  | 0 => show 0 + 1 * x.val = x.val; omega
  | 1 => show m.val + 1 * 0 = m.val; omega
  | 2 => show 0 + 1 * y.val = y.val; omega

/-- A load of the whole of a memref reads what the memref reads. -/
theorem whole_read {s : Shape} (c : Dev nD) (M : Memref sig .tc .vmem s .f32) (f : Bf (F := Ideal) c M) (off : Fin s.rank → ℕ) (ho : ∀ t, off t = 0)
    (h : ∀ t, off t + s.size t ≤ s.size t) :
    M.view.readAt (Elt Ideal) (Rect.unit off s.size h).toLoadRect f = M.view.read (Elt Ideal) f := by
  funext x
  rw [View.readAt_apply]
  refine congrArg _ (funext fun t => Fin.ext ?_)
  show off t + 1 * (x t).val = (x t).val
  rw [ho t]; omega

variable (c : Dev nD) (gx : Bf (F := Ideal) c hb_x) (ga : Bf (F := Ideal) c hb_a) (gb : Bf (F := Ideal) c hb_b) (gd : Bf (F := Ideal) c hb_d)

/-- A matrix whose middle unit axis is dropped. -/
theorem flat_mid {a b : ℕ} (X : Vec Ideal ⟨3, ![a, 1, b]⟩ .f32) (h : (⟨3, ![a, 1, b]⟩ : Shape).ShapeCasts ⟨2, ![a, b]⟩) (r : Fin a) (p : Fin b) :
    shapeCast ⟨2, ![a, b]⟩ X h (ix2 r p) = X (ix3 r 0 p) :=
  congrArg X (Shape.reshapeEquiv_eq_of_rowMajor _ (by
    rw [Shape.rowMajor_val_three, Shape.rowMajor_val_two]
    show ((r.val * 1 + 0) * b + p.val) = r.val * b + p.val
    simp only [Nat.mul_one, Nat.add_zero]))

/-- A matrix whose leading unit axis is dropped. -/
theorem flat_front {a b : ℕ} (X : Vec Ideal ⟨3, ![1, a, b]⟩ .f32) (h : (⟨3, ![1, a, b]⟩ : Shape).ShapeCasts ⟨2, ![a, b]⟩) (x : Fin a) (y : Fin b) :
    shapeCast ⟨2, ![a, b]⟩ X h (ix2 x y) = X (ix3 0 x y) :=
  congrArg X (ValueIdx.reshapeEquiv_ix2_1ab _ x y)

/-- A slice of one row of every plane, its unit axis dropped, reads that row. -/
theorem row_slice {n a b : ℕ} (M : Memref sig .tc .hbm ⟨3, ![a, n, b]⟩ .f32) (g : Bf (F := Ideal) c M) (off : Fin 3 → ℕ)
    (h : ∀ t, off t + (⟨3, ![a, 1, b]⟩ : Shape).size t ≤ (⟨3, ![a, n, b]⟩ : Shape).size t) (hr) (hs : (⟨3, ![a, 1, b]⟩ : Shape).Squeezes ⟨2, ![a, b]⟩)
    (m : Fin n) (ho : off = ![0, m.val, 0]) (x : Fin a) (y : Fin b) :
    View.read (Elt Ideal) ((M.slice (Rect.unit (s := ⟨3, ![a, n, b]⟩) off (⟨3, ![a, 1, b]⟩ : Shape).size h) hr).squeeze ⟨2, ![a, b]⟩ hs).view g (ix2 x y)
      = M.view.read (Elt Ideal) g (ix3 x m y) :=
  (flat_mid (M.view.readAt (Elt Ideal) (Rect.unit (s := ⟨3, ![a, n, b]⟩) off (⟨3, ![a, 1, b]⟩ : Shape).size h).toLoadRect g) hs.numel_eq x y).trans
    (row_read c M g off h m ho x y)

/-- A slice of one plane, its unit axis dropped, reads that plane. -/
theorem plane_slice {n a b : ℕ} (M : Memref sig .tc .hbm ⟨3, ![n, a, b]⟩ .f32) (g : Bf (F := Ideal) c M) (off : Fin 3 → ℕ)
    (h : ∀ t, off t + (⟨3, ![1, a, b]⟩ : Shape).size t ≤ (⟨3, ![n, a, b]⟩ : Shape).size t) (hr) (hs : (⟨3, ![1, a, b]⟩ : Shape).Squeezes ⟨2, ![a, b]⟩)
    (m : Fin n) (ho : off = ![m.val, 0, 0]) (x : Fin a) (y : Fin b) :
    View.read (Elt Ideal) ((M.slice (Rect.unit (s := ⟨3, ![n, a, b]⟩) off (⟨3, ![1, a, b]⟩ : Shape).size h) hr).squeeze ⟨2, ![a, b]⟩ hs).view g (ix2 x y)
      = M.view.read (Elt Ideal) g (ix3 m x y) :=
  (flat_front (M.view.readAt (Elt Ideal) (Rect.unit (s := ⟨3, ![n, a, b]⟩) off (⟨3, ![1, a, b]⟩ : Shape).size h).toLoadRect g) hs.numel_eq x y).trans
    (plane_read c M g off h m ho x y)

/-- A matrix given a unit axis in front, at an index. -/
theorem up_at {a b : ℕ} (h : (⟨2, ![a, b]⟩ : Shape).numel = (⟨3, ![1, a, b]⟩ : Shape).numel) (w : Vec Ideal ⟨2, ![a, b]⟩ .f32) (x : Fin a) (y : Fin b) :
    w ((Shape.reshapeEquiv h).symm (ix3 (0 : Fin 1) x y)) = w (ix2 x y) := congrArg w (drop_unit h x y)

/-- A copy of one channel brings that channel. -/
theorem x_read (off : Fin 3 → ℕ) (h : ∀ a, off a + S512x1x784.size a ≤ S512x16x784.size a) (hr) (hs : S512x1x784.Squeezes S512x784) (ch : Fin 16)
    (ho : off = ![0, ch.val, 0]) (r : Fin 512) (p : Fin 784) :
    up_x (ReadAs.same.apply (View.read (Elt Ideal) ((hb_x.slice (Rect.unit off S512x1x784.size h) hr).squeeze S512x784 hs).view gx)) (ix3 0 r p)
      = hb_x.view.read (Elt Ideal) gx (ix3 r ch p) :=
  (up_at _ _ r p).trans (row_slice c hb_x gx off h hr hs ch ho r p)

/-- A copy of one plane of the first weights brings that plane. -/
theorem a_read (off : Fin 3 → ℕ) (h : ∀ a, off a + S1x784x512.size a ≤ S4x784x512.size a) (hr) (hs : S1x784x512.Squeezes S784x512) (m : Fin 4)
    (ho : off = ![m.val, 0, 0]) (r : Fin 784) (p : Fin 512) :
    up_a (ReadAs.same.apply (View.read (Elt Ideal) ((hb_a.slice (Rect.unit off S1x784x512.size h) hr).squeeze S784x512 hs).view ga)) (ix3 0 r p)
      = hb_a.view.read (Elt Ideal) ga (ix3 m r p) :=
  (up_at _ _ r p).trans (plane_slice c hb_a ga off h hr hs m ho r p)

/-- A copy of one plane of the second weights brings that plane. -/
theorem b_read (off : Fin 3 → ℕ) (h : ∀ a, off a + S1x512x512.size a ≤ S4x512x512.size a) (hr) (hs : S1x512x512.Squeezes S512x512) (m : Fin 4)
    (ho : off = ![m.val, 0, 0]) (r : Fin 512) (p : Fin 512) :
    up_b (ReadAs.same.apply (View.read (Elt Ideal) ((hb_b.slice (Rect.unit off S1x512x512.size h) hr).squeeze S512x512 hs).view gb)) (ix3 0 r p)
      = hb_b.view.read (Elt Ideal) gb (ix3 m r p) :=
  (up_at _ _ r p).trans (plane_slice c hb_b gb off h hr hs m ho r p)

/-- A copy of one plane of the third weights brings that plane. -/
theorem d_read (off : Fin 3 → ℕ) (h : ∀ a, off a + S1x512x16.size a ≤ S4x512x16.size a) (hr) (hs : S1x512x16.Squeezes S512x16) (m : Fin 4)
    (ho : off = ![m.val, 0, 0]) (r : Fin 512) (p : Fin 16) :
    up_d (ReadAs.same.apply (View.read (Elt Ideal) ((hb_d.slice (Rect.unit off S1x512x16.size h) hr).squeeze S512x16 hs).view gd)) (ix3 0 r p)
      = hb_d.view.read (Elt Ideal) gd (ix3 m r p) :=
  (up_at _ _ r p).trans (plane_slice c hb_d gd off h hr hs m ho r p)

end copies

/-- An image network on the blocks of one channel and of one module's weights, its biases read whole. -/
theorem img_slot (D : Cert.Spec.Data) (ch : Fin 16) (m : Fin 4) {B1 B2 : Vec Ideal S4x512 .f32} {B3 : Vec Ideal S4x16 .f32} {i : BitVec 32}
    {x : Vec Ideal S1x512x784 .f32} {a : Vec Ideal S1x784x512 .f32} {b : Vec Ideal S1x512x512 .f32} {d : Vec Ideal S1x512x16 .f32}
    (hi : i = BitVec.ofNat 32 m.val) (h1 : B1 = D.b1) (h2 : B2 = D.b2) (h3 : B3 = D.b3) (hx : ∀ r p, x (ix3 0 r p) = D.x (ix3 r ch p))
    (ha : ∀ p j, a (ix3 0 p j) = D.W1 (ix3 m p j)) (hb : ∀ j k, b (ix3 0 j k) = D.W2 (ix3 m j k)) (hd : ∀ k q, d (ix3 0 k q) = D.W3 (ix3 m k q))
    (r : Fin 512) (q : Fin 16) : img B1 B2 B3 i x a b d (ix2 r q) = Cert.Spec.img D ch m r q := by
  rw [hi, img_apply, h1, h2, h3]
  simp only [hx, ha, hb, hd]
  rfl

/-- A word naming a module points the copies at the module's plane. -/
theorem plane_off {i : BitVec 32} {m : Fin 4} (h : i = BitVec.ofNat 32 m.val) : (![BitVec.toNat i, 0, 0] : Fin 3 → ℕ) = ![m.val, 0, 0] := by
  rw [h, BitVec.toNat_ofNat, Nat.mod_eq_of_lt (by omega)]

/-- A word naming a channel points the copies at the channel. -/
theorem row_off {i : BitVec 32} {m : Fin 16} (h : i = BitVec.ofNat 32 m.val) : (![0, BitVec.toNat i, 0] : Fin 3 → ℕ) = ![0, m.val, 0] := by
  rw [h, BitVec.toNat_ofNat, Nat.mod_eq_of_lt (by omega)]

section slots

variable (c : Dev nD) (M0 : Memref sig .tc .smem S1x16x4 .f32) (M1 : Memref sig .tc .smem S1x4x4 .f32)
  (M4 : Memref sig .tc .vmem S4x512 .f32) (M6 : Memref sig .tc .vmem S4x512 .f32) (M8 : Memref sig .tc .vmem S4x16 .f32)
  (M9 : Memref sig .tc .vmem S8x2x128 .f32) (M10 : Memref sig .tc .vmem S8x128 .f32) (M11 : Memref sig .tc .vmem S8x128x1 .f32)
  (M12 : Memref sig .tc .vmem S8x1 .f32) (M13 : Memref sig .tc .smem S1x64x4 .f32) (M14 : Memref sig .tc .smem S1x4x2 .f32)
  (M15 : Memref sig .tc .smem S1x2x1 .f32) (M16 : Memref sig .tc .smem S1x8x4 .f32) (M17 : Memref sig .tc .smem S1x8x2 .f32)
  (f0 : Bf (F := Ideal) c M0) (f1 : Bf (F := Ideal) c M1) (f4 : Bf (F := Ideal) c M4) (f6 : Bf (F := Ideal) c M6) (f8 : Bf (F := Ideal) c M8)
  (f9 : Bf (F := Ideal) c M9) (f10 : Bf (F := Ideal) c M10) (f11 : Bf (F := Ideal) c M11) (f12 : Bf (F := Ideal) c M12) (f13 : Bf (F := Ideal) c M13)
  (f14 : Bf (F := Ideal) c M14) (f15 : Bf (F := Ideal) c M15) (f16 : Bf (F := Ideal) c M16) (f17 : Bf (F := Ideal) c M17)
  (gx : Bf (F := Ideal) c hb_x) (ga : Bf (F := Ideal) c hb_a) (gb : Bf (F := Ideal) c hb_b) (gd : Bf (F := Ideal) c hb_d)
  (f19 : Bf (F := Ideal) c sc19) (f20 : Bf (F := Ideal) c sc20) (f21 : Bf (F := Ideal) c sc21) (f22 : Bf (F := Ideal) c sc22)

/-- The buffers' contents, as weights and inputs. -/
def bufData : Cert.Spec.Data where
  x := hb_x.view.read (Elt Ideal) gx
  W1 := hb_a.view.read (Elt Ideal) ga
  b1 := M4.view.read (Elt Ideal) f4
  W2 := hb_b.view.read (Elt Ideal) gb
  b2 := M6.view.read (Elt Ideal) f6
  W3 := hb_d.view.read (Elt Ideal) gd
  b3 := M8.view.read (Elt Ideal) f8
  w1 := M9.view.read (Elt Ideal) f9
  c1 := M10.view.read (Elt Ideal) f10
  w2 := M11.view.read (Elt Ideal) f11
  c2 := M12.view.read (Elt Ideal) f12

/-- The scalar memory's contents, as logits. -/
def bufLogits : Cert.Spec.Logits where
  ie0 := M0.view.read (Elt Ideal) f0
  ie1 := M13.view.read (Elt Ideal) f13
  ie2 := M14.view.read (Elt Ideal) f14
  ie3 := M15.view.read (Elt Ideal) f15
  le0 := M1.view.read (Elt Ideal) f1
  le1 := M16.view.read (Elt Ideal) f16
  le2 := M17.view.read (Elt Ideal) f17

/-- The networks' outputs side by side. -/
theorem r_114_eq : (kernelRun.sl.r_114 c M0 M1 M4 M6 M8 f0 f1 f4 f6 f8 gx ga gb gd f19 f20 f21 f22)
    = wide (kernelRun.sl.r_94 c M0 M1 M4 M6 M8 f0 f1 f4 f6 f8 gx ga gb gd f19 f20 f21 f22) (kernelRun.sl.r_100 c M0 M1 M4 M6 M8 f0 f1 f4 f6 f8 gx ga gb gd f19 f20 f21 f22) (kernelRun.sl.r_105 c M0 M1 M4 M6 M8 f0 f1 f4 f6 f8 gx ga gb gd f19 f20 f21 f22) (img (M4.view.readAt (Elt Ideal) (Rect.unit (s := S4x512) ![0, 0] S4x512.size inb_S4x512_S4x512_0_0).toLoadRect f4) (M6.view.readAt (Elt Ideal) (Rect.unit (s := S4x512) ![0, 0] S4x512.size inb_S4x512_S4x512_0_0).toLoadRect f6) (M8.view.readAt (Elt Ideal) (Rect.unit (s := S4x16) ![0, 0] S4x16.size inb_S4x16_S4x16_0_0).toLoadRect f8) (kernelRun.sl.v287 c M1 f1) (kernelRun.sl.v641 c M0 f0 gx f19) (kernelRun.sl.v644 c M1 f1 ga f20) (kernelRun.sl.v653 c M1 f1 gb f21) (kernelRun.sl.v662 c M1 f1 gd f22)) := rfl

/-- The first slot's network. -/
theorem slot0 (ch : Fin 16) (m : Fin 4) (hc : k0_off1 (kernelRun.sl.v2 c M0 f0) (kernelRun.sl.v6 c M0 f0) (kernelRun.sl.v10 c M0 f0) (kernelRun.sl.v14 c M0 f0) (kernelRun.sl.v18 c M0 f0) (kernelRun.sl.v22 c M0 f0) (kernelRun.sl.v26 c M0 f0) (kernelRun.sl.v30 c M0 f0) (kernelRun.sl.v34 c M0 f0) (kernelRun.sl.v38 c M0 f0) (kernelRun.sl.v42 c M0 f0) (kernelRun.sl.v46 c M0 f0) (kernelRun.sl.v50 c M0 f0) (kernelRun.sl.v54 c M0 f0) (kernelRun.sl.v58 c M0 f0) = ![0, ch.val, 0])
    (hm : (kernelRun.sl.v251 c M1 f1) = BitVec.ofNat 32 m.val) (r : Fin 512) (q : Fin 16) :
    ((kernelRun.sl.r_94 c M0 M1 M4 M6 M8 f0 f1 f4 f6 f8 gx ga gb gd f19 f20 f21 f22)) (ix2 r q) = Cert.Spec.img (bufData c M4 M6 M8 M9 M10 M11 M12 f4 f6 f8 f9 f10 f11 f12 gx ga gb gd) ch m r q :=
  img_slot (bufData c M4 M6 M8 M9 M10 M11 M12 f4 f6 f8 f9 f10 f11 f12 gx ga gb gd) ch m hm
    (whole_read c M4 f4 _ (fun t => match t with | 0 => rfl | 1 => rfl) _) (whole_read c M6 f6 _ (fun t => match t with | 0 => rfl | 1 => rfl) _)
    (whole_read c M8 f8 _ (fun t => match t with | 0 => rfl | 1 => rfl) _)
    (fun r p => (congrFun (v428_eq c M0 f0 gx f19) _).trans (x_read c gx _ _ _ _ ch hc r p))
    (fun p j => (congrFun (v431_eq c M1 f1 ga f20) _).trans (a_read c ga _ _ _ _ m (plane_off hm) p j))
    (fun j k => (congrFun (v440_eq c M1 f1 gb f21) _).trans (b_read c gb _ _ _ _ m (plane_off hm) j k))
    (fun k q => (congrFun (v449_eq c M1 f1 gd f22) _).trans (d_read c gd _ _ _ _ m (plane_off hm) k q)) r q

/-- The second slot's network. -/
theorem slot1 (ch : Fin 16) (m : Fin 4) (hc : k0_off5 (kernelRun.sl.v62 c M0 f0) (kernelRun.sl.v66 c M0 f0) (kernelRun.sl.v70 c M0 f0) (kernelRun.sl.v74 c M0 f0) (kernelRun.sl.v78 c M0 f0) (kernelRun.sl.v82 c M0 f0) (kernelRun.sl.v86 c M0 f0) (kernelRun.sl.v90 c M0 f0) (kernelRun.sl.v94 c M0 f0) (kernelRun.sl.v98 c M0 f0) (kernelRun.sl.v102 c M0 f0) (kernelRun.sl.v106 c M0 f0) (kernelRun.sl.v110 c M0 f0) (kernelRun.sl.v114 c M0 f0) (kernelRun.sl.v118 c M0 f0) = ![0, ch.val, 0])
    (hm : (kernelRun.sl.v263 c M1 f1) = BitVec.ofNat 32 m.val) (r : Fin 512) (q : Fin 16) :
    ((kernelRun.sl.r_100 c M0 M1 M4 M6 M8 f0 f1 f4 f6 f8 gx ga gb gd f19 f20 f21 f22)) (ix2 r q) = Cert.Spec.img (bufData c M4 M6 M8 M9 M10 M11 M12 f4 f6 f8 f9 f10 f11 f12 gx ga gb gd) ch m r q :=
  img_slot (bufData c M4 M6 M8 M9 M10 M11 M12 f4 f6 f8 f9 f10 f11 f12 gx ga gb gd) ch m hm
    (whole_read c M4 f4 _ (fun t => match t with | 0 => rfl | 1 => rfl) _) (whole_read c M6 f6 _ (fun t => match t with | 0 => rfl | 1 => rfl) _)
    (whole_read c M8 f8 _ (fun t => match t with | 0 => rfl | 1 => rfl) _)
    (fun r p => (congrFun (v499_eq c M0 f0 gx f19) _).trans (x_read c gx _ _ _ _ ch hc r p))
    (fun p j => (congrFun (v502_eq c M1 f1 ga f20) _).trans (a_read c ga _ _ _ _ m (plane_off hm) p j))
    (fun j k => (congrFun (v511_eq c M1 f1 gb f21) _).trans (b_read c gb _ _ _ _ m (plane_off hm) j k))
    (fun k q => (congrFun (v520_eq c M1 f1 gd f22) _).trans (d_read c gd _ _ _ _ m (plane_off hm) k q)) r q

/-- The third slot's network. -/
theorem slot2 (ch : Fin 16) (m : Fin 4) (hc : k0_off9 (kernelRun.sl.v122 c M0 f0) (kernelRun.sl.v126 c M0 f0) (kernelRun.sl.v130 c M0 f0) (kernelRun.sl.v134 c M0 f0) (kernelRun.sl.v138 c M0 f0) (kernelRun.sl.v142 c M0 f0) (kernelRun.sl.v146 c M0 f0) (kernelRun.sl.v150 c M0 f0) (kernelRun.sl.v154 c M0 f0) (kernelRun.sl.v158 c M0 f0) (kernelRun.sl.v162 c M0 f0) (kernelRun.sl.v166 c M0 f0) (kernelRun.sl.v170 c M0 f0) (kernelRun.sl.v174 c M0 f0) (kernelRun.sl.v178 c M0 f0) = ![0, ch.val, 0])
    (hm : (kernelRun.sl.v275 c M1 f1) = BitVec.ofNat 32 m.val) (r : Fin 512) (q : Fin 16) :
    ((kernelRun.sl.r_105 c M0 M1 M4 M6 M8 f0 f1 f4 f6 f8 gx ga gb gd f19 f20 f21 f22)) (ix2 r q) = Cert.Spec.img (bufData c M4 M6 M8 M9 M10 M11 M12 f4 f6 f8 f9 f10 f11 f12 gx ga gb gd) ch m r q :=
  img_slot (bufData c M4 M6 M8 M9 M10 M11 M12 f4 f6 f8 f9 f10 f11 f12 gx ga gb gd) ch m hm
    (whole_read c M4 f4 _ (fun t => match t with | 0 => rfl | 1 => rfl) _) (whole_read c M6 f6 _ (fun t => match t with | 0 => rfl | 1 => rfl) _)
    (whole_read c M8 f8 _ (fun t => match t with | 0 => rfl | 1 => rfl) _)
    (fun r p => (congrFun (v570_eq c M0 f0 gx f19) _).trans (x_read c gx _ _ _ _ ch hc r p))
    (fun p j => (congrFun (v573_eq c M1 f1 ga f20) _).trans (a_read c ga _ _ _ _ m (plane_off hm) p j))
    (fun j k => (congrFun (v582_eq c M1 f1 gb f21) _).trans (b_read c gb _ _ _ _ m (plane_off hm) j k))
    (fun k q => (congrFun (v591_eq c M1 f1 gd f22) _).trans (d_read c gd _ _ _ _ m (plane_off hm) k q)) r q

/-- The fourth slot's network. -/
theorem slot3 (ch : Fin 16) (m : Fin 4) (hc : k0_off13 (kernelRun.sl.v182 c M0 f0) (kernelRun.sl.v186 c M0 f0) (kernelRun.sl.v190 c M0 f0) (kernelRun.sl.v194 c M0 f0) (kernelRun.sl.v198 c M0 f0) (kernelRun.sl.v202 c M0 f0) (kernelRun.sl.v206 c M0 f0) (kernelRun.sl.v210 c M0 f0) (kernelRun.sl.v214 c M0 f0) (kernelRun.sl.v218 c M0 f0) (kernelRun.sl.v222 c M0 f0) (kernelRun.sl.v226 c M0 f0) (kernelRun.sl.v230 c M0 f0) (kernelRun.sl.v234 c M0 f0) (kernelRun.sl.v238 c M0 f0) = ![0, ch.val, 0])
    (hm : (kernelRun.sl.v287 c M1 f1) = BitVec.ofNat 32 m.val) (r : Fin 512) (q : Fin 16) :
    (img (M4.view.readAt (Elt Ideal) (Rect.unit (s := S4x512) ![0, 0] S4x512.size inb_S4x512_S4x512_0_0).toLoadRect f4) (M6.view.readAt (Elt Ideal) (Rect.unit (s := S4x512) ![0, 0] S4x512.size inb_S4x512_S4x512_0_0).toLoadRect f6) (M8.view.readAt (Elt Ideal) (Rect.unit (s := S4x16) ![0, 0] S4x16.size inb_S4x16_S4x16_0_0).toLoadRect f8) (kernelRun.sl.v287 c M1 f1) (kernelRun.sl.v641 c M0 f0 gx f19) (kernelRun.sl.v644 c M1 f1 ga f20) (kernelRun.sl.v653 c M1 f1 gb f21) (kernelRun.sl.v662 c M1 f1 gd f22)) (ix2 r q) = Cert.Spec.img (bufData c M4 M6 M8 M9 M10 M11 M12 f4 f6 f8 f9 f10 f11 f12 gx ga gb gd) ch m r q :=
  img_slot (bufData c M4 M6 M8 M9 M10 M11 M12 f4 f6 f8 f9 f10 f11 f12 gx ga gb gd) ch m hm
    (whole_read c M4 f4 _ (fun t => match t with | 0 => rfl | 1 => rfl) _) (whole_read c M6 f6 _ (fun t => match t with | 0 => rfl | 1 => rfl) _)
    (whole_read c M8 f8 _ (fun t => match t with | 0 => rfl | 1 => rfl) _)
    (fun r p => (congrFun (v641_eq c M0 f0 gx f19) _).trans (x_read c gx _ _ _ _ ch hc r p))
    (fun p j => (congrFun (v644_eq c M1 f1 ga f20) _).trans (a_read c ga _ _ _ _ m (plane_off hm) p j))
    (fun j k => (congrFun (v653_eq c M1 f1 gb f21) _).trans (b_read c gb _ _ _ _ m (plane_off hm) j k))
    (fun k q => (congrFun (v662_eq c M1 f1 gd f22) _).trans (d_read c gd _ _ _ _ m (plane_off hm) k q)) r q

end slots

end Cert.KernelIdeal.Hand

end
-- ==== Proof.KernelIdeal.Chain.lean ====
/-
  The stages of the body after the image networks: when the numbers the scans chose are the routes, each stage's vector is
  the function's.
-/
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe

/-- A column cut out of eight. -/
theorem cut_at (X : FVec Ideal S512x8 .f32) (k : Fin 8) (h : S512x8.Slices ![0, k.val] S512x1) (b : Fin 512) :
    extractStridedSlice S512x1 ![0, k.val] X h (ix2 b 0) = X (ix2 b k) := by
  refine congrArg X (funext fun a => Fin.ext ?_)
  match a with
  | 0 => exact Nat.zero_add _
  | 1 => rfl

/-- A module on a pair of columns, its weights read whole and its number a route. -/
theorem mlp_slot (D : Cert.Spec.Data) {W : Vec Ideal S8x2x128 .f32} {B : Vec Ideal S8x128 .f32} {V : Vec Ideal S8x128x1 .f32} {E : Vec Ideal S8x1 .f32}
    (hW : W = D.w1) (hB : B = D.c1) (hV : V = D.w2) (hE : E = D.c2) {i : BitVec 32} {m : Fin 8} (hi : i = BitVec.ofNat 32 m.val)
    {u v : FVec Ideal S512x1 .f32} {b : Fin 512} {x y : EReal} (hu : u (ix2 b 0) = x) (hv : v (ix2 b 0) = y) :
    mlp W B V E u v i (ix2 b 0) = Cert.Spec.mlp D m x y := by
  rw [hW, hB, hV, hE, hi, mlp_apply, hu, hv]

/-- The eight inputs of the second stage. -/
def ends (R : Cert.Spec.Routes) : Fin 8 → Fin 64 := ![R.a1 0, R.s1 0, R.a1 1, R.s1 1, R.a1 2, R.s1 2, R.a1 3, R.s1 3]

/-- The stages in order. -/
theorem chain (D : Cert.Spec.Data) (R : Cert.Spec.Routes) {W : Vec Ideal S8x2x128 .f32} {B : Vec Ideal S8x128 .f32} {V : Vec Ideal S8x128x1 .f32}
    {E : Vec Ideal S8x1 .f32} (hW : W = D.w1) (hB : B = D.c1) (hV : V = D.w2) (hE : E = D.c2)
    (y : Fin 4 → FVec Ideal S512x16 .f32) (k : Fin 8 → BitVec 32) (u v z : Fin 4 → FVec Ideal S512x1 .f32) (m : Fin 4 → BitVec 32)
    (p q x : Fin 2 → FVec Ideal S512x1 .f32) (i j n : Fin 2 → BitVec 32)
    {X2 : FVec Ideal S512x8 .f32} {X3 : FVec Ideal S512x4 .f32} {X4 o : FVec Ideal S512x2 .f32} {a s : BitVec 32}
    (hy : ∀ t b w, y t (ix2 b w) = Cert.Spec.img D (R.ch t) (R.md t) b w)
    (hX2 : X2 = mix (wide (y 0) (y 1) (y 2) (y 3)) (k 0) (k 1) (k 2) (k 3) (k 4) (k 5) (k 6) (k 7))
    (hk : ∀ t, k t = BitVec.ofNat 32 (ends R t).val)
    (hu : ∀ t b, u t (ix2 b 0) = X2 (ix2 b ((![0, 2, 4, 6] : Fin 4 → Fin 8) t)))
    (hv : ∀ t b, v t (ix2 b 0) = X2 (ix2 b ((![1, 3, 5, 7] : Fin 4 → Fin 8) t)))
    (hz : ∀ t, z t = mlp W B V E (u t) (v t) (m t)) (hm : ∀ t, m t = BitVec.ofNat 32 (R.m1 t).val)
    (hX3 : X3 = join4 (z 0) (z 1) (z 2) (z 3))
    (hp : ∀ t, p t = col4 X3 (i t)) (hi : ∀ t, i t = BitVec.ofNat 32 (R.a2 t).val)
    (hq : ∀ t, q t = col4 X3 (j t)) (hj : ∀ t, j t = BitVec.ofNat 32 (R.s2 t).val)
    (hx : ∀ t, x t = mlp W B V E (p t) (q t) (n t)) (hn : ∀ t, n t = BitVec.ofNat 32 (R.m2 t).val)
    (hX4 : X4 = join2 (x 0) (x 1))
    (ho : o = fin2 X4 a s) (ha : a = BitVec.ofNat 32 R.a3.val) (hs : s = BitVec.ofNat 32 R.s3.val) (b : Fin 512) (t : Fin 2) :
    o (ix2 b t) = Cert.Spec.out D R b t := by
  have one : ∀ w, X2 (ix2 b w) = Cert.Spec.one D R b (ends R w) := fun w => by
    rw [hX2, hk 0, hk 1, hk 2, hk 3, hk 4, hk 5, hk 6, hk 7, mix_apply, wide_apply, hy]; rfl
  have eu : ∀ t, u t (ix2 b 0) = Cert.Spec.one D R b (R.a1 t) := fun t => by
    rw [hu, one]
    match t with
    | 0 => rfl
    | 1 => rfl
    | 2 => rfl
    | 3 => rfl
  have ev : ∀ t, v t (ix2 b 0) = Cert.Spec.one D R b (R.s1 t) := fun t => by
    rw [hv, one]
    match t with
    | 0 => rfl
    | 1 => rfl
    | 2 => rfl
    | 3 => rfl
  have two : ∀ t, X3 (ix2 b t) = Cert.Spec.two D R b t := fun t => by
    rw [hX3, join4_apply, hz]; exact mlp_slot D hW hB hV hE (hm t) (eu t) (ev t)
  have three : ∀ t, X4 (ix2 b t) = Cert.Spec.three D R b t := fun t => by
    rw [hX4, join2_apply, hx]
    refine mlp_slot D hW hB hV hE (hn t) ?_ ?_
    · rw [hp, hi, col4_apply, two]
    · rw [hq, hj, col4_apply, two]
  rw [ho, ha, hs, fin2_apply, three]
  rfl

end Cert.KernelIdeal.Hand

end
-- ==== Proof.KernelIdeal.Value.lean ====
/-
  What the body stores: the function's result on the buffers' contents, at the routes their logits choose.
-/
module

public import proofs.«01_k».proof.Proof.KernelIdeal.Nets
public import proofs.«01_k».proof.Proof.KernelIdeal.Chain
public import proofs.«01_k».proof.Proof.Routes

@[expose] public section

set_option maxRecDepth 16384

noncomputable section

namespace Cert.KernelIdeal.Hand

open Cert.KernelIdeal Cert.KernelIdeal.Gen Cert.Scan
open Idealize.ShloMosaic Idealize.ShloMosaic.TcCoe

/-- The value the second scan starts from is below every finite number. -/
theorem low_lt {x : EReal} (h : Fine x) : (low (F := Ideal) : EReal) < x := by
  rw [show (low (F := Ideal) : EReal) = ⊥ from low_eq]
  exact bot_lt_iff_ne_bot.2 h.1

variable (c : Dev nD) (M0 : Memref sig .tc .smem S1x16x4 .f32) (M1 : Memref sig .tc .smem S1x4x4 .f32)
  (M4 : Memref sig .tc .vmem S4x512 .f32) (M6 : Memref sig .tc .vmem S4x512 .f32) (M8 : Memref sig .tc .vmem S4x16 .f32)
  (M9 : Memref sig .tc .vmem S8x2x128 .f32) (M10 : Memref sig .tc .vmem S8x128 .f32) (M11 : Memref sig .tc .vmem S8x128x1 .f32)
  (M12 : Memref sig .tc .vmem S8x1 .f32) (M13 : Memref sig .tc .smem S1x64x4 .f32) (M14 : Memref sig .tc .smem S1x4x2 .f32)
  (M15 : Memref sig .tc .smem S1x2x1 .f32) (M16 : Memref sig .tc .smem S1x8x4 .f32) (M17 : Memref sig .tc .smem S1x8x2 .f32)
  (f0 : Bf (F := Ideal) c M0) (f1 : Bf (F := Ideal) c M1) (f4 : Bf (F := Ideal) c M4) (f6 : Bf (F := Ideal) c M6) (f8 : Bf (F := Ideal) c M8)
  (f9 : Bf (F := Ideal) c M9) (f10 : Bf (F := Ideal) c M10) (f11 : Bf (F := Ideal) c M11) (f12 : Bf (F := Ideal) c M12) (f13 : Bf (F := Ideal) c M13)
  (f14 : Bf (F := Ideal) c M14) (f15 : Bf (F := Ideal) c M15) (f16 : Bf (F := Ideal) c M16) (f17 : Bf (F := Ideal) c M17)
  (gx : Bf (F := Ideal) c hb_x) (ga : Bf (F := Ideal) c hb_a) (gb : Bf (F := Ideal) c hb_b) (gd : Bf (F := Ideal) c hb_d)
  (f19 : Bf (F := Ideal) c sc19) (f20 : Bf (F := Ideal) c sc20) (f21 : Bf (F := Ideal) c sc21) (f22 : Bf (F := Ideal) c sc22)

set_option maxHeartbeats 1000000 in
/-- The block the body stores. -/
theorem stored (hL : Cert.Spec.Logits.Finite (bufLogits c M0 M1 M13 M14 M15 M16 M17 f0 f1 f13 f14 f15 f16 f17)) : ∃ R, Cert.Spec.Picks (bufLogits c M0 M1 M13 M14 M15 M16 M17 f0 f1 f13 f14 f15 f16 f17) R ∧ ∀ b t,
    (k0_pay1 (kernelRun.sl.r_606 c M0 M1 M4 M6 M8 M9 M10 M11 M12 M13 M14 M16 M17 f0 f1 f4 f6 f8 f9 f10 f11 f12 f13 f14 f16 f17 gx ga gb gd f19 f20 f21 f22) (kernelRun.sl.v3976 c M15 f15) (kernelRun.sl.r_607 c M15 f15)) (ix2 b t) = Cert.Spec.out (bufData c M4 M6 M8 M9 M10 M11 M12 f4 f6 f8 f9 f10 f11 f12 gx ga gb gd) R b t := by
  obtain ⟨_, oc0, wc0, hc0⟩ := chan0 c M0 f0
  obtain ⟨c0, ec0, tc0⟩ := hc0.isTop (X := M0.view.read (Elt Ideal) f0) (j := 0)
  rw [row_off ec0] at oc0
  obtain ⟨_, oc1, wc1, hc1⟩ := chan1 c M0 f0
  obtain ⟨c1, ec1, tc1⟩ := hc1.isTop (X := M0.view.read (Elt Ideal) f0) (j := 1)
  rw [row_off ec1] at oc1
  obtain ⟨_, oc2, wc2, hc2⟩ := chan2 c M0 f0
  obtain ⟨c2, ec2, tc2⟩ := hc2.isTop (X := M0.view.read (Elt Ideal) f0) (j := 2)
  rw [row_off ec2] at oc2
  obtain ⟨_, oc3, wc3, hc3⟩ := chan3 c M0 f0
  obtain ⟨c3, ec3, tc3⟩ := hc3.isTop (X := M0.view.read (Elt Ideal) f0) (j := 3)
  rw [row_off ec3] at oc3
  obtain ⟨wn0, hn0⟩ := net0 c M1 f1
  obtain ⟨n0, en0, tn0⟩ := hn0.isTop (X := M1.view.read (Elt Ideal) f1) (j := 0)
  obtain ⟨wn1, hn1⟩ := net1 c M1 f1
  obtain ⟨n1, en1, tn1⟩ := hn1.isTop (X := M1.view.read (Elt Ideal) f1) (j := 1)
  obtain ⟨wn2, hn2⟩ := net2 c M1 f1
  obtain ⟨n2, en2, tn2⟩ := hn2.isTop (X := M1.view.read (Elt Ideal) f1) (j := 2)
  obtain ⟨wn3, hn3⟩ := net3 c M1 f1
  obtain ⟨n3, en3, tn3⟩ := hn3.isTop (X := M1.view.read (Elt Ideal) f1) (j := 3)
  obtain ⟨wp0, zp0, hp0⟩ := pair0 c M13 f13
  obtain ⟨a0, s0, ea0, es0, ta0, ts0⟩ := hp0.isNext (X := M13.view.read (Elt Ideal) f13) (j := 0) (fun k => low_lt (hL.ie1 _))
  obtain ⟨wp1, zp1, hp1⟩ := pair1 c M13 f13
  obtain ⟨a1, s1, ea1, es1, ta1, ts1⟩ := hp1.isNext (X := M13.view.read (Elt Ideal) f13) (j := 1) (fun k => low_lt (hL.ie1 _))
  obtain ⟨wp2, zp2, hp2⟩ := pair2 c M13 f13
  obtain ⟨a2, s2, ea2, es2, ta2, ts2⟩ := hp2.isNext (X := M13.view.read (Elt Ideal) f13) (j := 2) (fun k => low_lt (hL.ie1 _))
  obtain ⟨kp3, kq3, e517, wp3, zp3, hp3⟩ := pair3 c M0 M1 M4 M6 M8 M13 f0 f1 f4 f6 f8 f13 gx ga gb gd f19 f20 f21 f22
  obtain ⟨a3, s3, ea3, es3, ta3, ts3⟩ := hp3.isNext (X := M13.view.read (Elt Ideal) f13) (j := 3) (fun k => low_lt (hL.ie1 _))
  obtain ⟨im0, em0, wm0, hm0⟩ := mod0 c M0 M1 M4 M6 M8 M9 M10 M11 M12 M13 M16 f0 f1 f4 f6 f8 f9 f10 f11 f12 f13 f16 gx ga gb gd f19 f20 f21 f22
  obtain ⟨m0, fm0, tm0⟩ := hm0.isTop (X := M16.view.read (Elt Ideal) f16) (j := 0)
  obtain ⟨im1, em1, wm1, hm1⟩ := mod1 c M0 M1 M4 M6 M8 M9 M10 M11 M12 M13 M16 f0 f1 f4 f6 f8 f9 f10 f11 f12 f13 f16 gx ga gb gd f19 f20 f21 f22
  obtain ⟨m1, fm1, tm1⟩ := hm1.isTop (X := M16.view.read (Elt Ideal) f16) (j := 1)
  obtain ⟨im2, em2, wm2, hm2⟩ := mod2 c M0 M1 M4 M6 M8 M9 M10 M11 M12 M13 M16 f0 f1 f4 f6 f8 f9 f10 f11 f12 f13 f16 gx ga gb gd f19 f20 f21 f22
  obtain ⟨m2, fm2, tm2⟩ := hm2.isTop (X := M16.view.read (Elt Ideal) f16) (j := 2)
  obtain ⟨im3, em3, wm3, hm3⟩ := mod3 c M0 M1 M4 M6 M8 M9 M10 M11 M12 M13 M16 f0 f1 f4 f6 f8 f9 f10 f11 f12 f13 f16 gx ga gb gd f19 f20 f21 f22
  obtain ⟨m3, fm3, tm3⟩ := hm3.isTop (X := M16.view.read (Elt Ideal) f16) (j := 3)
  obtain ⟨id0, jd0, ed0, gd0, wd0, zd0, hd0⟩ := duo0 c M0 M1 M4 M6 M8 M9 M10 M11 M12 M13 M14 M16 f0 f1 f4 f6 f8 f9 f10 f11 f12 f13 f14 f16 gx ga gb gd f19 f20 f21 f22
  obtain ⟨b0, r0, eb0, er0, tb0, tr0⟩ := hd0.isNext (X := M14.view.read (Elt Ideal) f14) (j := 0) (fun k => low_lt (hL.ie2 _))
  obtain ⟨id1, jd1, ed1, gd1, wd1, zd1, hd1⟩ := duo1 c M0 M1 M4 M6 M8 M9 M10 M11 M12 M13 M14 M16 f0 f1 f4 f6 f8 f9 f10 f11 f12 f13 f14 f16 gx ga gb gd f19 f20 f21 f22
  obtain ⟨b1, r1, eb1, er1, tb1, tr1⟩ := hd1.isNext (X := M14.view.read (Elt Ideal) f14) (j := 1) (fun k => low_lt (hL.ie2 _))
  obtain ⟨il0, el0, wl0, hl0⟩ := last0 c M0 M1 M4 M6 M8 M9 M10 M11 M12 M13 M14 M16 M17 f0 f1 f4 f6 f8 f9 f10 f11 f12 f13 f14 f16 f17 gx ga gb gd f19 f20 f21 f22
  obtain ⟨l0, fl0, tl0⟩ := hl0.isTop (X := M17.view.read (Elt Ideal) f17) (j := 0)
  obtain ⟨il1, el1, wl1, hl1⟩ := last1 c M0 M1 M4 M6 M8 M9 M10 M11 M12 M13 M14 M16 M17 f0 f1 f4 f6 f8 f9 f10 f11 f12 f13 f14 f16 f17 gx ga gb gd f19 f20 f21 f22
  obtain ⟨l1, fl1, tl1⟩ := hl1.isTop (X := M17.view.read (Elt Ideal) f17) (j := 1)
  obtain ⟨it, jt, eo, wt, zt, ht⟩ := top c M0 M1 M4 M6 M8 M9 M10 M11 M12 M13 M14 M15 M16 M17 f0 f1 f4 f6 f8 f9 f10 f11 f12 f13 f14 f15 f16 f17 gx ga gb gd f19 f20 f21 f22
  obtain ⟨x3, y3, ex, ey, tx, ty⟩ := ht.isNext (X := M15.view.read (Elt Ideal) f15) (j := 0) (fun k => low_lt (hL.ie3 _))
  refine ⟨⟨![c0, c1, c2, c3], ![n0, n1, n2, n3], ![a0, a1, a2, a3], ![s0, s1, s2, s3], ![m0, m1, m2, m3], ![b0, b1], ![r0, r1], ![l0, l1], x3, y3⟩,
    ⟨(fun t => match t with | 0 => tc0 | 1 => tc1 | 2 => tc2 | 3 => tc3), (fun t => match t with | 0 => tn0 | 1 => tn1 | 2 => tn2 | 3 => tn3), (fun t => match t with | 0 => ta0 | 1 => ta1 | 2 => ta2 | 3 => ta3),
      (fun t => match t with | 0 => ts0 | 1 => ts1 | 2 => ts2 | 3 => ts3), (fun t => match t with | 0 => tm0 | 1 => tm1 | 2 => tm2 | 3 => tm3), (fun t => match t with | 0 => tb0 | 1 => tb1),
      (fun t => match t with | 0 => tr0 | 1 => tr1), (fun t => match t with | 0 => tl0 | 1 => tl1), tx, ty⟩, fun b t => ?_⟩
  refine chain (bufData c M4 M6 M8 M9 M10 M11 M12 f4 f6 f8 f9 f10 f11 f12 gx ga gb gd) ⟨![c0, c1, c2, c3], ![n0, n1, n2, n3], ![a0, a1, a2, a3], ![s0, s1, s2, s3], ![m0, m1, m2, m3], ![b0, b1], ![r0, r1], ![l0, l1], x3, y3⟩ (W := (kernelRun.sl.r_115 c M9 f9)) (B := (kernelRun.sl.r_116 c M10 f10)) (V := (kernelRun.sl.r_117 c M11 f11)) (E := (kernelRun.sl.r_118 c M12 f12)) ?_ ?_ ?_ ?_
    ![(kernelRun.sl.r_94 c M0 M1 M4 M6 M8 f0 f1 f4 f6 f8 gx ga gb gd f19 f20 f21 f22), (kernelRun.sl.r_100 c M0 M1 M4 M6 M8 f0 f1 f4 f6 f8 gx ga gb gd f19 f20 f21 f22), (kernelRun.sl.r_105 c M0 M1 M4 M6 M8 f0 f1 f4 f6 f8 gx ga gb gd f19 f20 f21 f22), img (M4.view.readAt (Elt Ideal) (Rect.unit (s := S4x512) ![0, 0] S4x512.size inb_S4x512_S4x512_0_0).toLoadRect f4) (M6.view.readAt (Elt Ideal) (Rect.unit (s := S4x512) ![0, 0] S4x512.size inb_S4x512_S4x512_0_0).toLoadRect f6) (M8.view.readAt (Elt Ideal) (Rect.unit (s := S4x16) ![0, 0] S4x16.size inb_S4x16_S4x16_0_0).toLoadRect f8) (kernelRun.sl.v287 c M1 f1) (kernelRun.sl.v641 c M0 f0 gx f19) (kernelRun.sl.v644 c M1 f1 ga f20) (kernelRun.sl.v653 c M1 f1 gb f21) (kernelRun.sl.v662 c M1 f1 gd f22)]
    ![(kernelRun.sl.v1363 c M13 f13), (kernelRun.sl.v1362 c M13 f13), (kernelRun.sl.v2054 c M13 f13), (kernelRun.sl.v2053 c M13 f13), (kernelRun.sl.v2745 c M13 f13), (kernelRun.sl.v2744 c M13 f13), kp3, kq3]
    ![(kernelRun.sl.r_518 c M0 M1 M4 M6 M8 M13 f0 f1 f4 f6 f8 f13 gx ga gb gd f19 f20 f21 f22), (kernelRun.sl.r_534 c M0 M1 M4 M6 M8 M13 f0 f1 f4 f6 f8 f13 gx ga gb gd f19 f20 f21 f22), (kernelRun.sl.r_554 c M0 M1 M4 M6 M8 M13 f0 f1 f4 f6 f8 f13 gx ga gb gd f19 f20 f21 f22), (kernelRun.sl.r_560 c M0 M1 M4 M6 M8 M13 f0 f1 f4 f6 f8 f13 gx ga gb gd f19 f20 f21 f22)] ![(kernelRun.sl.r_519 c M0 M1 M4 M6 M8 M13 f0 f1 f4 f6 f8 f13 gx ga gb gd f19 f20 f21 f22), (kernelRun.sl.r_535 c M0 M1 M4 M6 M8 M13 f0 f1 f4 f6 f8 f13 gx ga gb gd f19 f20 f21 f22), (kernelRun.sl.r_555 c M0 M1 M4 M6 M8 M13 f0 f1 f4 f6 f8 f13 gx ga gb gd f19 f20 f21 f22), (kernelRun.sl.r_569 c M0 M1 M4 M6 M8 M13 f0 f1 f4 f6 f8 f13 gx ga gb gd f19 f20 f21 f22)]
    ![(kernelRun.sl.r_533 c M0 M1 M4 M6 M8 M9 M10 M11 M12 M13 M16 f0 f1 f4 f6 f8 f9 f10 f11 f12 f13 f16 gx ga gb gd f19 f20 f21 f22), (kernelRun.sl.r_553 c M0 M1 M4 M6 M8 M9 M10 M11 M12 M13 M16 f0 f1 f4 f6 f8 f9 f10 f11 f12 f13 f16 gx ga gb gd f19 f20 f21 f22), (kernelRun.sl.r_559 c M0 M1 M4 M6 M8 M9 M10 M11 M12 M13 M16 f0 f1 f4 f6 f8 f9 f10 f11 f12 f13 f16 gx ga gb gd f19 f20 f21 f22), _] ![im0, im1, im2, im3]
    ![(kernelRun.sl.r_576 c M0 M1 M4 M6 M8 M9 M10 M11 M12 M13 M14 M16 f0 f1 f4 f6 f8 f9 f10 f11 f12 f13 f14 f16 gx ga gb gd f19 f20 f21 f22), (kernelRun.sl.r_593 c M0 M1 M4 M6 M8 M9 M10 M11 M12 M13 M14 M16 f0 f1 f4 f6 f8 f9 f10 f11 f12 f13 f14 f16 gx ga gb gd f19 f20 f21 f22)] ![(kernelRun.sl.r_586 c M0 M1 M4 M6 M8 M9 M10 M11 M12 M13 M14 M16 f0 f1 f4 f6 f8 f9 f10 f11 f12 f13 f14 f16 gx ga gb gd f19 f20 f21 f22), (kernelRun.sl.r_603 c M0 M1 M4 M6 M8 M9 M10 M11 M12 M13 M14 M16 f0 f1 f4 f6 f8 f9 f10 f11 f12 f13 f14 f16 gx ga gb gd f19 f20 f21 f22)] ![(kernelRun.sl.r_589 c M0 M1 M4 M6 M8 M9 M10 M11 M12 M13 M14 M16 M17 f0 f1 f4 f6 f8 f9 f10 f11 f12 f13 f14 f16 f17 gx ga gb gd f19 f20 f21 f22), _] ![id0, id1] ![jd0, jd1] ![il0, il1]
    ?_ e517 ?_ ?_ ?_ ?_ (fun t => match t with | 0 => fm0 | 1 => fm1 | 2 => fm2 | 3 => fm3) em3 (fun t => match t with | 0 => ed0 | 1 => ed1) (fun t => match t with | 0 => eb0 | 1 => eb1) (fun t => match t with | 0 => gd0 | 1 => gd1) (fun t => match t with | 0 => er0 | 1 => er1) ?_ (fun t => match t with | 0 => fl0 | 1 => fl1) el1 eo ex ey b t
  · exact whole_read c M9 f9 _ (fun t => match t with | 0 => rfl | 1 => rfl | 2 => rfl) _
  · exact whole_read c M10 f10 _ (fun t => match t with | 0 => rfl | 1 => rfl) _
  · exact whole_read c M11 f11 _ (fun t => match t with | 0 => rfl | 1 => rfl | 2 => rfl) _
  · exact whole_read c M12 f12 _ (fun t => match t with | 0 => rfl | 1 => rfl) _
  · intro t b w
    match t with
    | 0 => exact slot0 c M0 M1 M4 M6 M8 M9 M10 M11 M12 f0 f1 f4 f6 f8 f9 f10 f11 f12 gx ga gb gd f19 f20 f21 f22 c0 n0 oc0 en0 b w
    | 1 => exact slot1 c M0 M1 M4 M6 M8 M9 M10 M11 M12 f0 f1 f4 f6 f8 f9 f10 f11 f12 gx ga gb gd f19 f20 f21 f22 c1 n1 oc1 en1 b w
    | 2 => exact slot2 c M0 M1 M4 M6 M8 M9 M10 M11 M12 f0 f1 f4 f6 f8 f9 f10 f11 f12 gx ga gb gd f19 f20 f21 f22 c2 n2 oc2 en2 b w
    | 3 => exact slot3 c M0 M1 M4 M6 M8 M9 M10 M11 M12 f0 f1 f4 f6 f8 f9 f10 f11 f12 gx ga gb gd f19 f20 f21 f22 c3 n3 oc3 en3 b w
  · intro t
    match t with
    | 0 => exact ea0
    | 1 => exact es0
    | 2 => exact ea1
    | 3 => exact es1
    | 4 => exact ea2
    | 5 => exact es2
    | 6 => exact ea3
    | 7 => exact es3
  · intro t b
    match t with
    | 0 => exact cut_at (kernelRun.sl.r_517 c M0 M1 M4 M6 M8 M13 f0 f1 f4 f6 f8 f13 gx ga gb gd f19 f20 f21 f22) 0 slices_S512x8_o0_0_S512x1 b
    | 1 => exact cut_at (kernelRun.sl.r_517 c M0 M1 M4 M6 M8 M13 f0 f1 f4 f6 f8 f13 gx ga gb gd f19 f20 f21 f22) 2 slices_S512x8_o0_2_S512x1 b
    | 2 => exact cut_at (kernelRun.sl.r_517 c M0 M1 M4 M6 M8 M13 f0 f1 f4 f6 f8 f13 gx ga gb gd f19 f20 f21 f22) 4 slices_S512x8_o0_4_S512x1 b
    | 3 => exact cut_at (kernelRun.sl.r_517 c M0 M1 M4 M6 M8 M13 f0 f1 f4 f6 f8 f13 gx ga gb gd f19 f20 f21 f22) 6 slices_S512x8_o0_6_S512x1 b
  · intro t b
    match t with
    | 0 => exact cut_at (kernelRun.sl.r_517 c M0 M1 M4 M6 M8 M13 f0 f1 f4 f6 f8 f13 gx ga gb gd f19 f20 f21 f22) 1 slices_S512x8_o0_1_S512x1 b
    | 1 => exact cut_at (kernelRun.sl.r_517 c M0 M1 M4 M6 M8 M13 f0 f1 f4 f6 f8 f13 gx ga gb gd f19 f20 f21 f22) 3 slices_S512x8_o0_3_S512x1 b
    | 2 => exact cut_at (kernelRun.sl.r_517 c M0 M1 M4 M6 M8 M13 f0 f1 f4 f6 f8 f13 gx ga gb gd f19 f20 f21 f22) 5 slices_S512x8_o0_5_S512x1 b
    | 3 => exact cut_at (kernelRun.sl.r_517 c M0 M1 M4 M6 M8 M13 f0 f1 f4 f6 f8 f13 gx ga gb gd f19 f20 f21 f22) 7 slices_S512x8_o0_7_S512x1 b
  · intro t
    match t with
    | 0 => exact em0
    | 1 => exact em1
    | 2 => exact em2
    | 3 => rfl
  · intro t
    match t with
    | 0 => exact el0
    | 1 => rfl

end Cert.KernelIdeal.Hand

end
-- ==== Proof.KernelIdeal.Final.lean ====
/-
  The kernel's final array: the function's result on the launch's arguments, at the routes their logits choose.
-/
module

public import proofs.«01_k».proof.Proof.KernelIdeal.Value
public import proofs.«01_k».proof.Proof.KernelIdeal.Run
public import Idealize.ShloMosaic.Lib.LaneScatter.Tiles
public import Idealize.ShloMosaic.Lib.Pipeline.Value

@[expose] public section

set_option maxRecDepth 16384

noncomputable section

namespace Cert.KernelIdeal.Hand

open Cert.KernelIdeal Cert.KernelIdeal.Gen Cert.Scan
open Idealize.ShloMosaic Idealize.ShloMosaic.TcCoe Idealize.ShloMosaic.Tactic

variable (m : (ℓ : Loc nD τ sig) → Buf (Elt Ideal) ℓ) (c : Dev nD)

/-- The one point of the grid. -/
def pt0 : Fin cfg0.N := ⟨0, by decide⟩

/-- The arguments that are not logits, as the launch holds them. -/
def argData : Cert.Spec.Data where
  x := shapeCast S512x16x784 (m ((c.tc : Thread nD τ).loc main_arg0) : Vec Ideal S512x16x28x28 .f32) shapeCasts_S512x16x28x28_S512x16x784
  W1 := (m ((c.tc : Thread nD τ).loc main_arg1) : Vec Ideal S4x784x512 .f32)
  b1 := (m ((c.tc : Thread nD τ).loc main_arg2) : Vec Ideal S4x512 .f32)
  W2 := (m ((c.tc : Thread nD τ).loc main_arg3) : Vec Ideal S4x512x512 .f32)
  b2 := (m ((c.tc : Thread nD τ).loc main_arg4) : Vec Ideal S4x512 .f32)
  W3 := (m ((c.tc : Thread nD τ).loc main_arg5) : Vec Ideal S4x512x16 .f32)
  b3 := (m ((c.tc : Thread nD τ).loc main_arg6) : Vec Ideal S4x16 .f32)
  w1 := (m ((c.tc : Thread nD τ).loc main_arg7) : Vec Ideal S8x2x128 .f32)
  c1 := (m ((c.tc : Thread nD τ).loc main_arg8) : Vec Ideal S8x128 .f32)
  w2 := (m ((c.tc : Thread nD τ).loc main_arg9) : Vec Ideal S8x128x1 .f32)
  c2 := (m ((c.tc : Thread nD τ).loc main_arg10) : Vec Ideal S8x1 .f32)

/-- The logits, as the launch holds them. -/
def argLogits : Cert.Spec.Logits where
  ie0 := (m ((c.tc : Thread nD τ).loc main_arg11) : Vec Ideal S1x16x4 .f32)
  ie1 := (m ((c.tc : Thread nD τ).loc main_arg12) : Vec Ideal S1x64x4 .f32)
  ie2 := (m ((c.tc : Thread nD τ).loc main_arg13) : Vec Ideal S1x4x2 .f32)
  ie3 := (m ((c.tc : Thread nD τ).loc main_arg14) : Vec Ideal S1x2x1 .f32)
  le0 := (m ((c.tc : Thread nD τ).loc main_arg15) : Vec Ideal S1x4x4 .f32)
  le1 := (m ((c.tc : Thread nD τ).loc main_arg16) : Vec Ideal S1x8x4 .f32)
  le2 := (m ((c.tc : Thread nD τ).loc main_arg17) : Vec Ideal S1x8x2 .f32)

/-- The image operand is the image argument with its two pixel axes made one. -/
theorem V_main_v0 : V m c main_v0
    = shapeCast S512x16x784 (m ((c.tc : Thread nD τ).loc main_arg0) : Vec Ideal S512x16x28x28 .f32) shapeCasts_S512x16x28x28_S512x16x784 := by
  show StableHlo.after hostOps0 _ (Proc.devRef .tc main_v0) = _
  after_results
  rfl

/-- A staging buffer that holds an array's block, the block the whole array, reads as the array was at launch. -/
theorem staged {sp : Space} {s : Shape} {e : EltTy} {M : Memref sig .tc sp s e} (h : M.IsWhole) {X Y Z : s.Idx → Elt Ideal e}
    (hX : X = Y) (hY : Y = Z) : M.view.read (Elt Ideal) (h.unread X) = Z :=
  (h.read_unread X).trans (hX.trans hY)

/-- The launch's arguments in the body's buffers, the logits left out. -/
theorem bufData_eq : bufData c (st0_2 pt0) (st0_3 pt0) (st0_4 pt0) (st0_5 pt0) (st0_6 pt0) (st0_7 pt0) (st0_8 pt0) ((hstage0_2 0).unread (iblk m c 2 pt0)) ((hstage0_3 0).unread (iblk m c 3 pt0)) ((hstage0_4 0).unread (iblk m c 4 pt0)) ((hstage0_5 0).unread (iblk m c 5 pt0)) ((hstage0_6 0).unread (iblk m c 6 pt0)) ((hstage0_7 0).unread (iblk m c 7 pt0)) ((hstage0_8 0).unread (iblk m c 8 pt0)) (V m c main_v0) (V m c main_arg1) (V m c main_arg3) (V m c main_arg5) = argData m c := by
  unfold bufData argData
  exact (Cert.Spec.Data.mk.injEq ..).mpr ⟨V_main_v0 m c, V_main_arg1 m c,
    (staged (hstage0_2 0) (Memref.read_access_unit_zero (Elt Ideal) main_arg2 (funext fun a => Nat.zero_mul _) _ _) (V_main_arg2 m c)),
    V_main_arg3 m c,
    (staged (hstage0_3 0) (Memref.read_access_unit_zero (Elt Ideal) main_arg4 (funext fun a => Nat.zero_mul _) _ _) (V_main_arg4 m c)),
    V_main_arg5 m c,
    (staged (hstage0_4 0) (Memref.read_access_unit_zero (Elt Ideal) main_arg6 (funext fun a => Nat.zero_mul _) _ _) (V_main_arg6 m c)),
    (staged (hstage0_5 0) (Memref.read_access_unit_zero (Elt Ideal) main_arg7 (funext fun a => Nat.zero_mul _) _ _) (V_main_arg7 m c)),
    (staged (hstage0_6 0) (Memref.read_access_unit_zero (Elt Ideal) main_arg8 (funext fun a => Nat.zero_mul _) _ _) (V_main_arg8 m c)),
    (staged (hstage0_7 0) (Memref.read_access_unit_zero (Elt Ideal) main_arg9 (funext fun a => Nat.zero_mul _) _ _) (V_main_arg9 m c)),
    (staged (hstage0_8 0) (Memref.read_access_unit_zero (Elt Ideal) main_arg10 (funext fun a => Nat.zero_mul _) _ _) (V_main_arg10 m c))⟩

/-- The logits in the body's buffers. -/
theorem bufLogits_eq : bufLogits c (st0_0 pt0) (st0_1 pt0) (st0_9 pt0) (st0_10 pt0) (st0_11 pt0) (st0_12 pt0) (st0_13 pt0) ((hstage0_0 0).unread (iblk m c 0 pt0)) ((hstage0_1 0).unread (iblk m c 1 pt0)) ((hstage0_9 0).unread (iblk m c 9 pt0)) ((hstage0_10 0).unread (iblk m c 10 pt0)) ((hstage0_11 0).unread (iblk m c 11 pt0)) ((hstage0_12 0).unread (iblk m c 12 pt0)) ((hstage0_13 0).unread (iblk m c 13 pt0)) = argLogits m c := by
  unfold bufLogits argLogits
  exact (Cert.Spec.Logits.mk.injEq ..).mpr ⟨
    (staged (hstage0_0 0) (Memref.read_access_unit_zero (Elt Ideal) main_arg11 (funext fun a => Nat.zero_mul _) _ _) (V_main_arg11 m c)),
    (staged (hstage0_9 0) (Memref.read_access_unit_zero (Elt Ideal) main_arg12 (funext fun a => Nat.zero_mul _) _ _) (V_main_arg12 m c)),
    (staged (hstage0_10 0) (Memref.read_access_unit_zero (Elt Ideal) main_arg13 (funext fun a => Nat.zero_mul _) _ _) (V_main_arg13 m c)),
    (staged (hstage0_11 0) (Memref.read_access_unit_zero (Elt Ideal) main_arg14 (funext fun a => Nat.zero_mul _) _ _) (V_main_arg14 m c)),
    (staged (hstage0_1 0) (Memref.read_access_unit_zero (Elt Ideal) main_arg15 (funext fun a => Nat.zero_mul _) _ _) (V_main_arg15 m c)),
    (staged (hstage0_12 0) (Memref.read_access_unit_zero (Elt Ideal) main_arg16 (funext fun a => Nat.zero_mul _) _ _) (V_main_arg16 m c)),
    (staged (hstage0_13 0) (Memref.read_access_unit_zero (Elt Ideal) main_arg17 (funext fun a => Nat.zero_mul _) _ _) (V_main_arg17 m c))⟩

/-- What the body leaves in the result's buffer reads as the one block it stores there. -/
theorem run_apply (c : Dev nD) (M0 : Memref sig .tc .smem S1x16x4 .f32) (h0 : M0.IsWhole) (M1 : Memref sig .tc .smem S1x4x4 .f32) (h1 : M1.IsWhole) (M4 : Memref sig .tc .vmem S4x512 .f32) (h4 : M4.IsWhole) (M6 : Memref sig .tc .vmem S4x512 .f32) (h6 : M6.IsWhole) (M8 : Memref sig .tc .vmem S4x16 .f32) (h8 : M8.IsWhole) (M9 : Memref sig .tc .vmem S8x2x128 .f32) (h9 : M9.IsWhole) (M10 : Memref sig .tc .vmem S8x128 .f32) (h10 : M10.IsWhole) (M11 : Memref sig .tc .vmem S8x128x1 .f32) (h11 : M11.IsWhole) (M12 : Memref sig .tc .vmem S8x1 .f32) (h12 : M12.IsWhole) (M13 : Memref sig .tc .smem S1x64x4 .f32) (h13 : M13.IsWhole) (M14 : Memref sig .tc .smem S1x4x2 .f32) (h14 : M14.IsWhole) (M15 : Memref sig .tc .smem S1x2x1 .f32) (h15 : M15.IsWhole) (M16 : Memref sig .tc .smem S1x8x4 .f32) (h16 : M16.IsWhole) (M17 : Memref sig .tc .smem S1x8x2 .f32) (h17 : M17.IsWhole) (M18 : Memref sig .tc .vmem S512x2 .f32) (h18 : M18.IsWhole) (f0 : Bf (F := Ideal) c M0) (f1 : Bf (F := Ideal) c M1) (f4 : Bf (F := Ideal) c M4) (f6 : Bf (F := Ideal) c M6) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f17 : Bf (F := Ideal) c M17)
    (gx : Bf (F := Ideal) c hb_x) (ga : Bf (F := Ideal) c hb_a) (gb : Bf (F := Ideal) c hb_b) (gd : Bf (F := Ideal) c hb_d)
    (f19 : Bf (F := Ideal) c sc19) (f20 : Bf (F := Ideal) c sc20) (f21 : Bf (F := Ideal) c sc21) (f22 : Bf (F := Ideal) c sc22) :
    M18.view.read (Elt Ideal) ((kernelRun c M0 h0 M1 h1 M4 h4 M6 h6 M8 h8 M9 h9 M10 h10 M11 h11 M12 h12 M13 h13 M14 h14 M15 h15 M16 h16 M17 h17 M18 h18 f0 f1 f4 f6 f8 f9 f10 f11 f12 f13 f14 f15 f16 f17 gx ga gb gd).1 f19 f20 f21 f22)
      = k0_pay1 (kernelRun.sl.r_606 c M0 M1 M4 M6 M8 M9 M10 M11 M12 M13 M14 M16 M17 f0 f1 f4 f6 f8 f9 f10 f11 f12 f13 f14 f16 f17 gx ga gb gd f19 f20 f21 f22) (kernelRun.sl.v3976 c M15 f15) (kernelRun.sl.r_607 c M15 f15) := by
  have e : (kernelRun c M0 h0 M1 h1 M4 h4 M6 h6 M8 h8 M9 h9 M10 h10 M11 h11 M12 h12 M13 h13 M14 h14 M15 h15 M16 h16 M17 h17 M18 h18 f0 f1 f4 f6 f8 f9 f10 f11 f12 f13 f14 f15 f16 f17 gx ga gb gd).1 f19 f20 f21 f22 = M18.view.writes (Elt Ideal) M18.view.junk (kernelRun.sl.H18_1 c M0 M1 M4 M6 M8 M9 M10 M11 M12 M13 M14 M15 M16 M17 f0 f1 f4 f6 f8 f9 f10 f11 f12 f13 f14 f15 f16 f17 gx ga gb gd f19 f20 f21 f22) := rfl
  rw [e, kernelRun.sl.H18_1]
  exact LaneScatter.read_whole_store M18.view _ (fun a => by fin_cases a <;> rfl) _ _

/-- The block the body leaves is the function of the launch, at the routes its logits choose. -/
theorem outAt_apply (hL : (argLogits m c).Finite) :
    ∃ R, Cert.Spec.Picks (argLogits m c) R ∧ ∀ b t, outAt m c pt0 (ix2 b t) = Cert.Spec.out (argData m c) R b t := by
  rw [← bufLogits_eq m c] at hL ⊢
  obtain ⟨R, hR, h⟩ := stored c (st0_0 pt0) (st0_1 pt0) (st0_2 pt0) (st0_3 pt0) (st0_4 pt0) (st0_5 pt0) (st0_6 pt0) (st0_7 pt0) (st0_8 pt0) (st0_9 pt0) (st0_10 pt0) (st0_11 pt0) (st0_12 pt0) (st0_13 pt0) ((hstage0_0 0).unread (iblk m c 0 pt0)) ((hstage0_1 0).unread (iblk m c 1 pt0)) ((hstage0_2 0).unread (iblk m c 2 pt0)) ((hstage0_3 0).unread (iblk m c 3 pt0)) ((hstage0_4 0).unread (iblk m c 4 pt0)) ((hstage0_5 0).unread (iblk m c 5 pt0)) ((hstage0_6 0).unread (iblk m c 6 pt0)) ((hstage0_7 0).unread (iblk m c 7 pt0)) ((hstage0_8 0).unread (iblk m c 8 pt0)) ((hstage0_9 0).unread (iblk m c 9 pt0)) ((hstage0_10 0).unread (iblk m c 10 pt0)) ((hstage0_11 0).unread (iblk m c 11 pt0)) ((hstage0_12 0).unread (iblk m c 12 pt0)) ((hstage0_13 0).unread (iblk m c 13 pt0)) (V m c main_v0) (V m c main_arg1) (V m c main_arg3) (V m c main_arg5) sc19.view.junk sc20.view.junk sc21.view.junk sc22.view.junk hL
  refine ⟨R, hR, fun b t => ?_⟩
  rw [bufData_eq m c] at h
  exact (congrFun (run_apply ..) (ix2 b t)).trans (h b t)

/-- The result's array once the grid is done is what the body left at its one point. -/
theorem arr_eq : (dats m 0 c).arrAt 14 cfg0.N = outAt m c pt0 := by
  have h : ((cfg0.win 14).blk pt0).view.read (Elt Ideal) ((dats m 0 c).arrAt 14 cfg0.N) = (dats m 0 c).flushed 14 pt0 :=
    (dats m 0 c).read_blk_arrAt_eq_flushed 14 (fun t t' _ _ hne => absurd (Fin.ext (by have h1 : t.val < 1 := t.isLt; have h2 : t'.val < 1 := t'.isLt; omega)) hne) cfg0.N pt0 pt0.isLt (by decide)
  exact ((Memref.read_access_unit_zero (Elt Ideal) main_v1 (funext fun a => Nat.zero_mul _) _ _).symm.trans h).trans (after0_14 m c pt0)

/-- The kernel's final array, entry by entry. -/
theorem final_apply {r : PUnit × MemSt nD τ sig (Elt Ideal)} (h : Pipeline.FramePost cfgs (dats m) 0 (V m) r) :
    r.2.mem ((c.tc : Thread nD τ).loc main_v1) = outAt m c pt0 :=
  ((h c).1 14).trans (arr_eq m c)

end Cert.KernelIdeal.Hand
-- ==== Proof.Finite.lean ====
/-
  What the precondition says: every logit is a finite number.
-/
module

public import proofs.«01_k».proof.Defs
public import proofs.«01_k».proof.Proof.Gen.Pre_embeddings_finite
public import proofs.«01_k».proof.Proof.KernelIdeal.Final
public import Idealize.ShloMosaic.Lib.ReduceAll

@[expose] public section

set_option maxRecDepth 16384

noncomputable section

namespace Cert.Scan

open Idealize.ShloMosaic

/-- Infinity's pattern. -/
theorem top_eq : Ideal.ofBits FTy.f32 0x7F800000#32 = ⊤ := by
  simp [Ideal.ofBits, Ideal.ieee]

/-- An array whose every magnitude compares below infinity holds finite numbers. -/
theorem fine_of_all {s : Shape} {axes : List (Fin s.rank)} (x : s.Idx → EReal)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi
      (cmpf .olt (Host.absf (F := Ideal) (φ := .f32) x) (broadcastInDim s ![] hb (constant ⟨0, ![]⟩ .f32 0x7F800000#32)))
      (constantI ⟨0, ![]⟩ 1 1#1) hr hu j = 1#1) (i : s.Idx) : Fine (x i) := by
  have hi := Host.reduce_andi_eq_one _ _ hr hu j h i (Subsingleton.elim _ _)
  apply fine_of_abs
  rw [← top_eq]
  change BitVec.ofBool (decide (max (x i) (-x i) < Ideal.ofBits FTy.f32 0x7F800000#32)) = 1#1 at hi
  by_contra hn
  rw [decide_eq_false hn] at hi
  exact absurd hi (by decide)

/-- Both sides of a conjunction that holds hold. -/
theorem both_of_andi {x y : (⟨0, ![]⟩ : Shape).Idx → BitVec 1} {j : (⟨0, ![]⟩ : Shape).Idx} (h : andi x y j = 1#1) : x j = 1#1 ∧ y j = 1#1 := by
  change x j &&& y j = 1#1 at h
  generalize x j = a at h ⊢
  generalize y j = b at h ⊢
  revert a b
  decide

end Cert.Scan

namespace Cert.KernelIdeal.Hand

open Idealize.ShloMosaic Idealize.ShloMosaic.TcCoe Cert.Scan Cert.KernelIdeal

/-- The precondition makes every logit of a launch finite. -/
theorem logits_finite (m : (ℓ : Loc nD τ sig) → Buf (Elt Ideal) ℓ)
    (h : Cert.Pre_KernelIdeal_embeddings_finite (hPre_embeddings_finite := Cert.Pre_embeddings_finite.Gen.facts) m) (c : Dev nD) :
    (argLogits m c).Finite := by
  have h6 := congrFun (h c) (fun a => Fin.elim0 a)
  obtain ⟨h5, e6⟩ := both_of_andi h6
  obtain ⟨h4, e5⟩ := both_of_andi h5
  obtain ⟨h3, e4⟩ := both_of_andi h4
  obtain ⟨h2, e3⟩ := both_of_andi h3
  obtain ⟨h1, e2⟩ := both_of_andi h2
  obtain ⟨e0, e1⟩ := both_of_andi h1
  exact ⟨fine_of_all _ _ _ _ _ e0, fine_of_all _ _ _ _ _ e1, fine_of_all _ _ _ _ _ e2, fine_of_all _ _ _ _ _ e3,
    fine_of_all _ _ _ _ _ e4, fine_of_all _ _ _ _ _ e5, fine_of_all _ _ _ _ _ e6⟩

end Cert.KernelIdeal.Hand
-- ==== Proof.ReferenceIdeal.Stages.lean ====
/-
  The reference's stages over the extended reals: against indicator scores each einsum over the choices picks the chosen
  input and the chosen module, and a stage's output is the chosen network's.
-/
module

public import proofs.«01_k».proof.Proof.Pick
public import proofs.«01_k».proof.Proof.Spec
public import proofs.«01_k».proof.Proof.Gen.ReferenceIdeal

@[expose] public section

set_option maxRecDepth 16384

noncomputable section

namespace Cert.ReferenceIdeal.Hand

open Cert.ReferenceIdeal Cert.ReferenceIdeal.Gen Idealize.ShloMosaic

variable {F : FTy → Type} [FloatOps F]

/-- The image stage, given its scores. -/
def stageOne (Hc : Vec F S16x4 .f32) (Hm : Vec F S4x4 .f32) (x : Vec F S512x16x784 .f32) (W1 : Vec F S4x784x512 .f32) (b1 : Vec F S4x512 .f32)
    (W2 : Vec F S4x512x512 .f32) (b2 : Vec F S4x512 .f32) (W3 : Vec F S4x512x16 .f32) (b3 : Vec F S4x16 .f32) : Vec F S512x64 .f32 :=
  shapeCast S512x64 (transpose S512x4x16 [1, 0, 2] (Host.dotGeneral dot_S4x4_S4x4x512x16_S4x512x16_0_1_n_23_1_0 none Hm (addf (transpose S4x4x512x16
    [2, 0, 3, 1] (Host.dotGeneral dot_S4x512x16_S4x4x512x512_S4x16x4x512_1_3_2_02_0_1 none W3 (maximumf (addf (transpose S4x4x512x512 [2, 0, 3, 1]
    (Host.dotGeneral dot_S4x512x512_S4x4x512x512_S4x512x4x512_1_3_2_02_0_1 none W2 (maximumf (addf (transpose S4x4x512x512 [2, 0, 3, 1]
    (Host.dotGeneral dot_S4x784x512_S4x512x784_S4x512x4x512_1_2_02_01_n_n none W1 (Host.dotGeneral dot_S16x4_S512x16x784_S4x512x784_0_1_1_02_n_n none
    Hc x)) transposes_S4x512x4x512_S4x4x512x512_2_0_3_1) (broadcastInDim S4x4x512x512 ![0, 1, 2, 3] bcast_S1x4x1x512_S4x4x512x512_0_1_2_3
    (broadcastInDim S1x4x1x512 ![1, 3] bcast_S4x512_S1x4x1x512_1_3 b1))) (broadcastInDim S4x4x512x512 ![] bcast_S_S4x4x512x512 (constant S_ .f32
    0x00000000#32)))) transposes_S4x512x4x512_S4x4x512x512_2_0_3_1) (broadcastInDim S4x4x512x512 ![0, 1, 2, 3] bcast_S1x4x1x512_S4x4x512x512_0_1_2_3
    (broadcastInDim S1x4x1x512 ![1, 3] bcast_S4x512_S1x4x1x512_1_3 b2))) (broadcastInDim S4x4x512x512 ![] bcast_S_S4x4x512x512 (constant S_ .f32
    0x00000000#32)))) transposes_S4x16x4x512_S4x4x512x16_2_0_3_1) (broadcastInDim S4x4x512x16 ![0, 1, 2, 3] bcast_S1x4x1x16_S4x4x512x16_0_1_2_3
    (broadcastInDim S1x4x1x16 ![1, 3] bcast_S4x16_S1x4x1x16_1_3 b3)))) transposes_S4x512x16_S512x4x16_1_0_2) shapeCasts_S512x4x16_S512x64

/-- The first stage of modules, given its scores. -/
def stageTwo (Hm : Vec F S8x4 .f32) (Ha Hs : Vec F S64x4 .f32) (X : Vec F S512x64 .f32) (w1 : Vec F S8x2x128 .f32) (c1 : Vec F S8x128 .f32)
    (w2 : Vec F S8x128x1 .f32) (c2 : Vec F S8x1 .f32) : Vec F S512x4 .f32 :=
  transpose S512x4 [1, 0] (Host.dotGeneral dot_S8x4_S512x4x8_S4x512_0_2_n_0_1_1 none Hm (addf (transpose S512x4x8 [1, 2, 0] (Host.dotGeneral
    dot_S8x128_S512x4x8x128_S8x512x4_1_3_n_01_0_2 none (shapeCast _ w2 shapeCasts_S8x128x1_S8x128) (maximumf (addf (Host.dotGeneral
    dot_S512x4x2_S8x2x128_S512x4x8x128_2_1_01_02_n_n none (concatenate S512x4x2 2 [⟨S512x4x1, (broadcastInDim S512x4x1 ![0, 1]
    bcast_S512x4_S512x4x1_0_1 (Host.dotGeneral dot_S512x64_S64x4_S512x4_1_0_0_1_n_n none X Ha))⟩, ⟨S512x4x1, (broadcastInDim S512x4x1 ![0, 1]
    bcast_S512x4_S512x4x1_0_1 (Host.dotGeneral dot_S512x64_S64x4_S512x4_1_0_0_1_n_n none X Hs))⟩] concatenates_S512x4x1_S512x4x1_S512x4x2_d2) w1)
    (broadcastInDim S512x4x8x128 ![0, 1, 2, 3] bcast_S1x1x8x128_S512x4x8x128_0_1_2_3 (broadcastInDim S1x1x8x128 ![2, 3] bcast_S8x128_S1x1x8x128_2_3
    c1))) (broadcastInDim S512x4x8x128 ![] bcast_S_S512x4x8x128 (constant S_ .f32 0x00000000#32)))) transposes_S8x512x4_S512x4x8_1_2_0)
    (broadcastInDim S512x4x8 ![0, 1, 2] bcast_S1x1x8_S512x4x8_0_1_2 (broadcastInDim S1x1x8 ![2] bcast_S8_S1x1x8_2 (shapeCast _ c2
    shapeCasts_S8x1_S8))))) transposes_S4x512_S512x4_1_0

/-- The second stage of modules, given its scores. -/
def stageThree (Hm : Vec F S8x2 .f32) (Ha Hs : Vec F S4x2 .f32) (X : Vec F S512x4 .f32) (w1 : Vec F S8x2x128 .f32) (c1 : Vec F S8x128 .f32)
    (w2 : Vec F S8x128x1 .f32) (c2 : Vec F S8x1 .f32) : Vec F S512x2 .f32 :=
  transpose S512x2 [1, 0] (Host.dotGeneral dot_S8x2_S512x2x8_S2x512_0_2_n_0_1_1 none Hm (addf (transpose S512x2x8 [1, 2, 0] (Host.dotGeneral
    dot_S8x128_S512x2x8x128_S8x512x2_1_3_n_01_0_2 none (shapeCast _ w2 shapeCasts_S8x128x1_S8x128) (maximumf (addf (Host.dotGeneral
    dot_S512x2x2_S8x2x128_S512x2x8x128_2_1_01_02_n_n none (concatenate S512x2x2 2 [⟨S512x2x1, (broadcastInDim S512x2x1 ![0, 1]
    bcast_S512x2_S512x2x1_0_1 (Host.dotGeneral dot_S512x4_S4x2_S512x2_1_0_0_1_n_n none X Ha))⟩, ⟨S512x2x1, (broadcastInDim S512x2x1 ![0, 1]
    bcast_S512x2_S512x2x1_0_1 (Host.dotGeneral dot_S512x4_S4x2_S512x2_1_0_0_1_n_n none X Hs))⟩] concatenates_S512x2x1_S512x2x1_S512x2x2_d2) w1)
    (broadcastInDim S512x2x8x128 ![0, 1, 2, 3] bcast_S1x1x8x128_S512x2x8x128_0_1_2_3 (broadcastInDim S1x1x8x128 ![2, 3] bcast_S8x128_S1x1x8x128_2_3
    c1))) (broadcastInDim S512x2x8x128 ![] bcast_S_S512x2x8x128 (constant S_ .f32 0x00000000#32)))) transposes_S8x512x2_S512x2x8_1_2_0)
    (broadcastInDim S512x2x8 ![0, 1, 2] bcast_S1x1x8_S512x2x8_0_1_2 (broadcastInDim S1x1x8 ![2] bcast_S8_S1x1x8_2 (shapeCast _ c2
    shapeCasts_S8x1_S8))))) transposes_S2x512_S512x2_1_0

/-- The readout, given its scores. -/
def readout (Ha Hs : Vec F S2x1 .f32) (X : Vec F S512x2 .f32) : Vec F S512x2 .f32 :=
  Host.divf (broadcastInDim S512x2 ![] bcast_S_S512x2 (constant S_ .f32 0x3F800000#32)) (addf (broadcastInDim S512x2 ![] bcast_S_S512x2 (constant S_
    .f32 0x3F800000#32)) (Host.exp (Host.negf (concatenate S512x2 1 [⟨S512x1, (Host.dotGeneral dot_S512x2_S2x1_S512x1_1_0_0_1_n_n none X Ha)⟩,
    ⟨S512x1, (Host.dotGeneral dot_S512x2_S2x1_S512x1_1_0_0_1_n_n none X Hs)⟩] concatenates_S512x1_S512x1_S512x2_d1))))

variable (D : Spec.Data) (R : Spec.Routes)

/-- A sum against an indicator, on the left, is the entry it points at, whatever the entries are. -/
theorem sum_ind {n : ℕ} (f : Fin n → EReal) (a : Fin n) : ∑ k : Fin n, (if k = a then (1 : EReal) else 0) * f k = f a := by
  rw [Finset.sum_eq_single a]
  · rw [if_pos rfl, one_mul]
  · intro k _ hk; rw [if_neg hk, zero_mul]
  · intro h; exact absurd (Finset.mem_univ a) h

/-- The same with the indicator on the right. -/
theorem sum_ind' {n : ℕ} (f : Fin n → EReal) (a : Fin n) : ∑ k : Fin n, f k * (if k = a then (1 : EReal) else 0) = f a := by
  rw [← sum_ind f a]
  exact Finset.sum_congr rfl fun k _ => mul_comm _ _

/-- The image stage. -/
theorem one_apply (Hc : Vec Ideal S16x4 .f32) (Hm : Vec Ideal S4x4 .f32) (hc : ∀ k t, Hc (ix2 k t) = if k = R.ch t then 1 else 0)
    (hm : ∀ k t, Hm (ix2 k t) = if k = R.md t then 1 else 0) (b : Fin 512) (i : Fin 64) :
    stageOne Hc Hm D.x D.W1 D.b1 D.W2 D.b2 D.W3 D.b3 (ix2 b i) = Spec.one D R b i := by
  pointwise [stageOne]
  simp only [hc, hm, sum_ind, Spec.one, Spec.img]
  refine congrArg₂ (· + ·) (Finset.sum_congr rfl fun k _ => ?_) rfl
  rw [mul_comm]
  refine congrArg₂ (· * ·) (congrArg₂ max (congrArg₂ (· + ·) (Finset.sum_congr rfl fun j _ => ?_) rfl) rfl) rfl
  rw [mul_comm]
  refine congrArg₂ (· * ·) (congrArg₂ max (congrArg₂ (· + ·) (Finset.sum_congr rfl fun p _ => ?_) rfl) rfl) rfl
  rw [mul_comm]

/-- The first stage of modules. -/
theorem two_apply (Hm : Vec Ideal S8x4 .f32) (Ha Hs : Vec Ideal S64x4 .f32) (X : Vec Ideal S512x64 .f32)
    (ha : ∀ k t, Ha (ix2 k t) = if k = R.a1 t then 1 else 0) (hs : ∀ k t, Hs (ix2 k t) = if k = R.s1 t then 1 else 0)
    (hm : ∀ k t, Hm (ix2 k t) = if k = R.m1 t then 1 else 0) (hX : ∀ b i, X (ix2 b i) = Spec.one D R b i) (b : Fin 512) (t : Fin 4) :
    stageTwo Hm Ha Hs X D.w1 D.c1 D.w2 D.c2 (ix2 b t) = Spec.two D R b t := by
  pointwise [stageTwo]
  simp only [ha, hs, hm, hX, sum_ind, sum_ind', Finset.univ_unique, Finset.sum_singleton, Spec.two, Spec.mlp, mul_comm]

/-- The second stage of modules. -/
theorem three_apply (Hm : Vec Ideal S8x2 .f32) (Ha Hs : Vec Ideal S4x2 .f32) (X : Vec Ideal S512x4 .f32)
    (ha : ∀ k t, Ha (ix2 k t) = if k = R.a2 t then 1 else 0) (hs : ∀ k t, Hs (ix2 k t) = if k = R.s2 t then 1 else 0)
    (hm : ∀ k t, Hm (ix2 k t) = if k = R.m2 t then 1 else 0) (hX : ∀ b i, X (ix2 b i) = Spec.two D R b i) (b : Fin 512) (t : Fin 2) :
    stageThree Hm Ha Hs X D.w1 D.c1 D.w2 D.c2 (ix2 b t) = Spec.three D R b t := by
  pointwise [stageThree]
  simp only [ha, hs, hm, hX, sum_ind, sum_ind', Finset.univ_unique, Finset.sum_singleton, Spec.three, Spec.mlp, mul_comm]

/-- The readout. -/
theorem out_apply (Ha Hs : Vec Ideal S2x1 .f32) (X : Vec Ideal S512x2 .f32)
    (ha : ∀ k t, Ha (ix2 k t) = if k = R.a3 then 1 else 0) (hs : ∀ k t, Hs (ix2 k t) = if k = R.s3 then 1 else 0)
    (hX : ∀ b i, X (ix2 b i) = Spec.three D R b i) (b : Fin 512) (t : Fin 2) :
    readout Ha Hs X (ix2 b t) = Spec.out D R b t := by
  pointwise [readout]
  simp only [ha, hs, hX, sum_ind', Spec.out, Ideal.logistic]
  by_cases h : t.val < 1
  · rw [dif_pos h, if_pos h]
  · rw [dif_neg h, if_neg h]

end Cert.ReferenceIdeal.Hand

end
-- ==== Proof.ReferenceIdeal.Value.lean ====
/-
  The reference's value: with finite logits its scores are the indicators of the routes the logits choose, so its result is
  the specified function along those routes.
-/
module

public import proofs.«01_k».proof.Proof.Routes
public import proofs.«01_k».proof.Proof.ReferenceIdeal.Stages
public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value Idealize.ShloMosaic Cert.Scan

section scores

variable {F : FTy → Type} [FloatOps F]

/-- The straight-through scores of 4 slots over 16 choices. -/
def score16x4 (Y : Vec F S1x16x4 .f32) (idx : IVec S1x4x1 32) : Vec F S16x4 .f32 :=
  shapeCast S16x4 (addf Y (subf (transpose S1x16x4 [0, 2, 1] (uitofp .f32 (cmpi .eq (broadcastInDim S1x4x16 ![0, 1, 2] bcast_S1x4x1_S1x4x16_0_1_2
    (broadcastInDim S1x4x1 ![0, 1] bcast_S1x4_S1x4x1_0_1 (shapeCast S1x4 idx shapeCasts_S1x4x1_S1x4))) (broadcastInDim S1x4x16 ![0, 1, 2]
    bcast_S1x1x16_S1x4x16_0_1_2 (iotaInDim S1x1x16 32 2)))) transposes_S1x4x16_S1x16x4_0_2_1) Y)) shapeCasts_S1x16x4_S16x4

/-- The straight-through scores of 4 slots over 4 choices. -/
def score4x4 (Y : Vec F S1x4x4 .f32) (idx : IVec S1x4x1 32) : Vec F S4x4 .f32 :=
  shapeCast S4x4 (addf Y (subf (transpose S1x4x4 [0, 2, 1] (uitofp .f32 (cmpi .eq (broadcastInDim S1x4x4 ![0, 1, 2] bcast_S1x4x1_S1x4x4_0_1_2
    (broadcastInDim S1x4x1 ![0, 1] bcast_S1x4_S1x4x1_0_1 (shapeCast S1x4 idx shapeCasts_S1x4x1_S1x4))) (broadcastInDim S1x4x4 ![0, 1, 2]
    bcast_S1x1x4_S1x4x4_0_1_2 (iotaInDim S1x1x4 32 2)))) transposes_S1x4x4_S1x4x4_0_2_1) Y)) shapeCasts_S1x4x4_S4x4

/-- The straight-through scores of 4 slots over 8 choices. -/
def score8x4 (Y : Vec F S1x8x4 .f32) (idx : IVec S1x4x1 32) : Vec F S8x4 .f32 :=
  shapeCast S8x4 (addf Y (subf (transpose S1x8x4 [0, 2, 1] (uitofp .f32 (cmpi .eq (broadcastInDim S1x4x8 ![0, 1, 2] bcast_S1x4x1_S1x4x8_0_1_2
    (broadcastInDim S1x4x1 ![0, 1] bcast_S1x4_S1x4x1_0_1 (shapeCast S1x4 idx shapeCasts_S1x4x1_S1x4))) (broadcastInDim S1x4x8 ![0, 1, 2]
    bcast_S1x1x8_S1x4x8_0_1_2 (iotaInDim S1x1x8 32 2)))) transposes_S1x4x8_S1x8x4_0_2_1) Y)) shapeCasts_S1x8x4_S8x4

/-- The straight-through scores of 2 slots over 8 choices. -/
def score8x2 (Y : Vec F S1x8x2 .f32) (idx : IVec S1x2x1 32) : Vec F S8x2 .f32 :=
  shapeCast S8x2 (addf Y (subf (transpose S1x8x2 [0, 2, 1] (uitofp .f32 (cmpi .eq (broadcastInDim S1x2x8 ![0, 1, 2] bcast_S1x2x1_S1x2x8_0_1_2
    (broadcastInDim S1x2x1 ![0, 1] bcast_S1x2_S1x2x1_0_1 (shapeCast S1x2 idx shapeCasts_S1x2x1_S1x2))) (broadcastInDim S1x2x8 ![0, 1, 2]
    bcast_S1x1x8_S1x2x8_0_1_2 (iotaInDim S1x1x8 32 2)))) transposes_S1x2x8_S1x8x2_0_2_1) Y)) shapeCasts_S1x8x2_S8x2

/-- The straight-through scores of 4 slots over 64 choices. -/
def score64x4 (Y : Vec F S1x64x4 .f32) (idx : IVec S1x4x1 32) : Vec F S64x4 .f32 :=
  shapeCast S64x4 (addf Y (subf (transpose S1x64x4 [0, 2, 1] (uitofp .f32 (cmpi .eq (broadcastInDim S1x4x64 ![0, 1, 2] bcast_S1x4x1_S1x4x64_0_1_2
    (broadcastInDim S1x4x1 ![0, 1] bcast_S1x4_S1x4x1_0_1 (shapeCast S1x4 idx shapeCasts_S1x4x1_S1x4))) (broadcastInDim S1x4x64 ![0, 1, 2]
    bcast_S1x1x64_S1x4x64_0_1_2 (iotaInDim S1x1x64 32 2)))) transposes_S1x4x64_S1x64x4_0_2_1) Y)) shapeCasts_S1x64x4_S64x4

/-- The straight-through scores of 2 slots over 4 choices. -/
def score4x2 (Y : Vec F S1x4x2 .f32) (idx : IVec S1x2x1 32) : Vec F S4x2 .f32 :=
  shapeCast S4x2 (addf Y (subf (transpose S1x4x2 [0, 2, 1] (uitofp .f32 (cmpi .eq (broadcastInDim S1x2x4 ![0, 1, 2] bcast_S1x2x1_S1x2x4_0_1_2
    (broadcastInDim S1x2x1 ![0, 1] bcast_S1x2_S1x2x1_0_1 (shapeCast S1x2 idx shapeCasts_S1x2x1_S1x2))) (broadcastInDim S1x2x4 ![0, 1, 2]
    bcast_S1x1x4_S1x2x4_0_1_2 (iotaInDim S1x1x4 32 2)))) transposes_S1x2x4_S1x4x2_0_2_1) Y)) shapeCasts_S1x4x2_S4x2

/-- The straight-through scores of 1 slots over 2 choices. -/
def score2x1 (Y : Vec F S1x2x1 .f32) (idx : IVec S1x1x1 32) : Vec F S2x1 .f32 :=
  shapeCast S2x1 (addf Y (subf (transpose S1x2x1 [0, 2, 1] (uitofp .f32 (cmpi .eq (broadcastInDim S1x1x2 ![0, 1, 2] bcast_S1x1x1_S1x1x2_0_1_2
    (broadcastInDim S1x1x1 ![0, 1] bcast_S1x1_S1x1x1_0_1 (shapeCast S1x1 idx shapeCasts_S1x1x1_S1x1))) (iotaInDim S1x1x2 32 2)))
    transposes_S1x1x2_S1x2x1_0_2_1) Y)) shapeCasts_S1x2x1_S2x1

end scores

/-- Of finite scores they are the indicator of the chosen place. -/
theorem score16x4_apply {Y : Vec Ideal S1x16x4 .f32} {idx : IVec S1x4x1 32} {a : Fin 4 → Fin 16} (hY : ∀ k t, Fine (Y (ix3 0 k t)))
    (hi : ∀ t, idx (ix3 0 t 0) = BitVec.ofNat 32 (a t).val) (k : Fin 16) (t : Fin 4) : score16x4 Y idx (ix2 k t) = if k = a t then 1 else 0 := by
  pointwise [score16x4]
  exact straight_fin (hY k t) (hi t) (by decide) k

/-- Of finite scores they are the indicator of the chosen place. -/
theorem score4x4_apply {Y : Vec Ideal S1x4x4 .f32} {idx : IVec S1x4x1 32} {a : Fin 4 → Fin 4} (hY : ∀ k t, Fine (Y (ix3 0 k t)))
    (hi : ∀ t, idx (ix3 0 t 0) = BitVec.ofNat 32 (a t).val) (k : Fin 4) (t : Fin 4) : score4x4 Y idx (ix2 k t) = if k = a t then 1 else 0 := by
  pointwise [score4x4]
  exact straight_fin (hY k t) (hi t) (by decide) k

/-- Of finite scores they are the indicator of the chosen place. -/
theorem score8x4_apply {Y : Vec Ideal S1x8x4 .f32} {idx : IVec S1x4x1 32} {a : Fin 4 → Fin 8} (hY : ∀ k t, Fine (Y (ix3 0 k t)))
    (hi : ∀ t, idx (ix3 0 t 0) = BitVec.ofNat 32 (a t).val) (k : Fin 8) (t : Fin 4) : score8x4 Y idx (ix2 k t) = if k = a t then 1 else 0 := by
  pointwise [score8x4]
  exact straight_fin (hY k t) (hi t) (by decide) k

/-- Of finite scores they are the indicator of the chosen place. -/
theorem score8x2_apply {Y : Vec Ideal S1x8x2 .f32} {idx : IVec S1x2x1 32} {a : Fin 2 → Fin 8} (hY : ∀ k t, Fine (Y (ix3 0 k t)))
    (hi : ∀ t, idx (ix3 0 t 0) = BitVec.ofNat 32 (a t).val) (k : Fin 8) (t : Fin 2) : score8x2 Y idx (ix2 k t) = if k = a t then 1 else 0 := by
  pointwise [score8x2]
  exact straight_fin (hY k t) (hi t) (by decide) k

/-- Of finite scores they are the indicator of the chosen place. -/
theorem score64x4_apply {Y : Vec Ideal S1x64x4 .f32} {idx : IVec S1x4x1 32} {a : Fin 4 → Fin 64} (hY : ∀ k t, Fine (Y (ix3 0 k t)))
    (hi : ∀ t, idx (ix3 0 t 0) = BitVec.ofNat 32 (a t).val) (k : Fin 64) (t : Fin 4) : score64x4 Y idx (ix2 k t) = if k = a t then 1 else 0 := by
  pointwise [score64x4]
  exact straight_fin (hY k t) (hi t) (by decide) k

/-- Of finite scores they are the indicator of the chosen place. -/
theorem score4x2_apply {Y : Vec Ideal S1x4x2 .f32} {idx : IVec S1x2x1 32} {a : Fin 2 → Fin 4} (hY : ∀ k t, Fine (Y (ix3 0 k t)))
    (hi : ∀ t, idx (ix3 0 t 0) = BitVec.ofNat 32 (a t).val) (k : Fin 4) (t : Fin 2) : score4x2 Y idx (ix2 k t) = if k = a t then 1 else 0 := by
  pointwise [score4x2]
  exact straight_fin (hY k t) (hi t) (by decide) k

/-- Of finite scores they are the indicator of the chosen place. -/
theorem score2x1_apply {Y : Vec Ideal S1x2x1 .f32} {idx : IVec S1x1x1 32} {a : Fin 1 → Fin 2} (hY : ∀ k t, Fine (Y (ix3 0 k t)))
    (hi : ∀ t, idx (ix3 0 t 0) = BitVec.ofNat 32 (a t).val) (k : Fin 2) (t : Fin 1) : score2x1 Y idx (ix2 k t) = if k = a t then 1 else 0 := by
  obtain rfl : t = 0 := Subsingleton.elim _ _
  pointwise [score2x1]
  exact straight_fin (hY k 0) (hi 0) (by decide) k

variable (V0 : Valuation τ sig (Elt Ideal))

/-- The arguments that are data. -/
def dataOf : Spec.Data where
  x := shapeCast S512x16x784 (V0 (Proc.devRef .tc main_arg0) : Vec Ideal S512x16x28x28 .f32) shapeCasts_S512x16x28x28_S512x16x784
  W1 := (V0 (Proc.devRef .tc main_arg1) : Vec Ideal S4x784x512 .f32)
  b1 := (V0 (Proc.devRef .tc main_arg2) : Vec Ideal S4x512 .f32)
  W2 := (V0 (Proc.devRef .tc main_arg3) : Vec Ideal S4x512x512 .f32)
  b2 := (V0 (Proc.devRef .tc main_arg4) : Vec Ideal S4x512 .f32)
  W3 := (V0 (Proc.devRef .tc main_arg5) : Vec Ideal S4x512x16 .f32)
  b3 := (V0 (Proc.devRef .tc main_arg6) : Vec Ideal S4x16 .f32)
  w1 := (V0 (Proc.devRef .tc main_arg7) : Vec Ideal S8x2x128 .f32)
  c1 := (V0 (Proc.devRef .tc main_arg8) : Vec Ideal S8x128 .f32)
  w2 := (V0 (Proc.devRef .tc main_arg9) : Vec Ideal S8x128x1 .f32)
  c2 := (V0 (Proc.devRef .tc main_arg10) : Vec Ideal S8x1 .f32)

/-- The arguments that are logits. -/
def logitsOf : Spec.Logits where
  ie0 := (V0 (Proc.devRef .tc main_arg11) : Vec Ideal S1x16x4 .f32)
  ie1 := (V0 (Proc.devRef .tc main_arg12) : Vec Ideal S1x64x4 .f32)
  ie2 := (V0 (Proc.devRef .tc main_arg13) : Vec Ideal S1x4x2 .f32)
  ie3 := (V0 (Proc.devRef .tc main_arg14) : Vec Ideal S1x2x1 .f32)
  le0 := (V0 (Proc.devRef .tc main_arg15) : Vec Ideal S1x4x4 .f32)
  le1 := (V0 (Proc.devRef .tc main_arg16) : Vec Ideal S1x8x4 .f32)
  le2 := (V0 (Proc.devRef .tc main_arg17) : Vec Ideal S1x8x2 .f32)

variable {V0}

/-- The channels the first softmax scores choose. -/
theorem pick_ch (hL : (logitsOf V0).Finite) : (∀ k t, Fine ((res_main_v12 V0 : Vec Ideal S1x16x4 .f32) (ix3 0 k t)))
    ∧ ∃ a : Fin 4 → Fin 16, (∀ t, IsTop (colOf (logitsOf V0).ie0 t) (a t))
      ∧ ∀ t, (Host.topK S1x4x1 2 (FloatOps.cmpfTotal (F := Ideal) (φ := .f32) .gt) (res_main_v13 V0) sliceFits_S1x4x16_S1x4x1).2 (ix3 0 t 0)
        = BitVec.ofNat 32 (a t).val := by
  obtain ⟨M, hM⟩ : ∃ M : Fin 4 → EReal, M = fun t => max ⊥ (Finset.fold max ⊥ (logitsOf V0).ie0 (Finset.univ.filter fun i => reducesTo_S1x16x4_S1x4_d1.drop i = ix2 0 t)) :=
    ⟨_, rfl⟩
  refine soft_pick (n := 16) (m := 4) (by decide) (fun k t => hL.ie0 _) (M := M) (fun t => ?_) (fun k t => ?_) (fun k t => ?_) _
  · rw [hM]
    show Fine (max ⊥ _)
    rw [max_eq_right bot_le]
    refine fold_fine _ _ hL.ie0 (i := ix3 0 0 t) (Finset.mem_filter.2 ⟨Finset.mem_univ _, funext fun b => ?_⟩)
    match b with
    | 0 => rfl
    | 1 => rfl
  · pointwise [res_main_v12, res_main_v8, res_main_v1]
    simp only [div_one_eq, low_eq, hM]
    rfl
  · pointwise [res_main_v13]

/-- The image networks the second softmax scores choose. -/
theorem pick_md (hL : (logitsOf V0).Finite) : (∀ k t, Fine ((res_main_v32 V0 : Vec Ideal S1x4x4 .f32) (ix3 0 k t)))
    ∧ ∃ a : Fin 4 → Fin 4, (∀ t, IsTop (colOf (logitsOf V0).le0 t) (a t))
      ∧ ∀ t, (Host.topK S1x4x1 2 (FloatOps.cmpfTotal (F := Ideal) (φ := .f32) .gt) (res_main_v33 V0) sliceFits_S1x4x4_S1x4x1).2 (ix3 0 t 0)
        = BitVec.ofNat 32 (a t).val := by
  obtain ⟨M, hM⟩ : ∃ M : Fin 4 → EReal, M = fun t => max ⊥ (Finset.fold max ⊥ (logitsOf V0).le0 (Finset.univ.filter fun i => reducesTo_S1x4x4_S1x4_d1.drop i = ix2 0 t)) :=
    ⟨_, rfl⟩
  refine soft_pick (n := 4) (m := 4) (by decide) (fun k t => hL.le0 _) (M := M) (fun t => ?_) (fun k t => ?_) (fun k t => ?_) _
  · rw [hM]
    show Fine (max ⊥ _)
    rw [max_eq_right bot_le]
    refine fold_fine _ _ hL.le0 (i := ix3 0 0 t) (Finset.mem_filter.2 ⟨Finset.mem_univ _, funext fun b => ?_⟩)
    match b with
    | 0 => rfl
    | 1 => rfl
  · pointwise [res_main_v32, res_main_v28, res_main_v21]
    simp only [div_one_eq, low_eq, hM]
    rfl
  · pointwise [res_main_v33]

/-- The pairs of outputs of the image stage the first sigmoid scores choose. -/
theorem pick_one (hL : (logitsOf V0).Finite) : (∀ k t, Fine ((res_main_v71 V0 : Vec Ideal S1x64x4 .f32) (ix3 0 k t)))
    ∧ ∃ a s : Fin 4 → Fin 64, (∀ t, IsTop (colOf (logitsOf V0).ie1 t) (a t)) ∧ (∀ t, IsNext (colOf (logitsOf V0).ie1 t) (a t) (s t))
      ∧ (∀ t, (res_main_indices_15 V0 : IVec S1x4x2 32) (ix3 0 t 0) = BitVec.ofNat 32 (a t).val)
      ∧ ∀ t, (res_main_indices_15 V0 : IVec S1x4x2 32) (ix3 0 t 1) = BitVec.ofNat 32 (s t).val := by
  refine sigmoid_pick (n := 64) (m := 4) (by decide) (fun k t => hL.ie1 _) (fun k t => ?_) (fun k t => ?_) _
  · pointwise [res_main_v71]
    simp only [div_one_eq, Ideal.logistic]
    rfl
  · pointwise [res_main_v72]

/-- The modules the third softmax scores choose. -/
theorem pick_m1 (hL : (logitsOf V0).Finite) : (∀ k t, Fine ((res_main_v97 V0 : Vec Ideal S1x8x4 .f32) (ix3 0 k t)))
    ∧ ∃ a : Fin 4 → Fin 8, (∀ t, IsTop (colOf (logitsOf V0).le1 t) (a t))
      ∧ ∀ t, (Host.topK S1x4x1 2 (FloatOps.cmpfTotal (F := Ideal) (φ := .f32) .gt) (res_main_v98 V0) sliceFits_S1x4x8_S1x4x1).2 (ix3 0 t 0)
        = BitVec.ofNat 32 (a t).val := by
  obtain ⟨M, hM⟩ : ∃ M : Fin 4 → EReal, M = fun t => max ⊥ (Finset.fold max ⊥ (logitsOf V0).le1 (Finset.univ.filter fun i => reducesTo_S1x8x4_S1x4_d1.drop i = ix2 0 t)) :=
    ⟨_, rfl⟩
  refine soft_pick (n := 8) (m := 4) (by decide) (fun k t => hL.le1 _) (M := M) (fun t => ?_) (fun k t => ?_) (fun k t => ?_) _
  · rw [hM]
    show Fine (max ⊥ _)
    rw [max_eq_right bot_le]
    refine fold_fine _ _ hL.le1 (i := ix3 0 0 t) (Finset.mem_filter.2 ⟨Finset.mem_univ _, funext fun b => ?_⟩)
    match b with
    | 0 => rfl
    | 1 => rfl
  · pointwise [res_main_v97, res_main_v93, res_main_v86]
    simp only [div_one_eq, low_eq, hM]
    rfl
  · pointwise [res_main_v98]

/-- The pairs of outputs of the first module stage the second sigmoid scores choose. -/
theorem pick_two (hL : (logitsOf V0).Finite) : (∀ k t, Fine ((res_main_v134 V0 : Vec Ideal S1x4x2 .f32) (ix3 0 k t)))
    ∧ ∃ a s : Fin 2 → Fin 4, (∀ t, IsTop (colOf (logitsOf V0).ie2 t) (a t)) ∧ (∀ t, IsNext (colOf (logitsOf V0).ie2 t) (a t) (s t))
      ∧ (∀ t, (res_main_indices_27 V0 : IVec S1x2x2 32) (ix3 0 t 0) = BitVec.ofNat 32 (a t).val)
      ∧ ∀ t, (res_main_indices_27 V0 : IVec S1x2x2 32) (ix3 0 t 1) = BitVec.ofNat 32 (s t).val := by
  refine sigmoid_pick (n := 4) (m := 2) (by decide) (fun k t => hL.ie2 _) (fun k t => ?_) (fun k t => ?_) _
  · pointwise [res_main_v134]
    simp only [div_one_eq, Ideal.logistic]
    rfl
  · pointwise [res_main_v135]

/-- The modules the last softmax scores choose. -/
theorem pick_m2 (hL : (logitsOf V0).Finite) : (∀ k t, Fine ((res_main_v160 V0 : Vec Ideal S1x8x2 .f32) (ix3 0 k t)))
    ∧ ∃ a : Fin 2 → Fin 8, (∀ t, IsTop (colOf (logitsOf V0).le2 t) (a t))
      ∧ ∀ t, (Host.topK S1x2x1 2 (FloatOps.cmpfTotal (F := Ideal) (φ := .f32) .gt) (res_main_v161 V0) sliceFits_S1x2x8_S1x2x1).2 (ix3 0 t 0)
        = BitVec.ofNat 32 (a t).val := by
  obtain ⟨M, hM⟩ : ∃ M : Fin 2 → EReal, M = fun t => max ⊥ (Finset.fold max ⊥ (logitsOf V0).le2 (Finset.univ.filter fun i => reducesTo_S1x8x2_S1x2_d1.drop i = ix2 0 t)) :=
    ⟨_, rfl⟩
  refine soft_pick (n := 8) (m := 2) (by decide) (fun k t => hL.le2 _) (M := M) (fun t => ?_) (fun k t => ?_) (fun k t => ?_) _
  · rw [hM]
    show Fine (max ⊥ _)
    rw [max_eq_right bot_le]
    refine fold_fine _ _ hL.le2 (i := ix3 0 0 t) (Finset.mem_filter.2 ⟨Finset.mem_univ _, funext fun b => ?_⟩)
    match b with
    | 0 => rfl
    | 1 => rfl
  · pointwise [res_main_v160, res_main_v156, res_main_v149]
    simp only [div_one_eq, low_eq, hM]
    rfl
  · pointwise [res_main_v161]

/-- The pair of outputs of the last stage the last sigmoid scores choose. -/
theorem pick_three (hL : (logitsOf V0).Finite) : (∀ k t, Fine ((res_main_v197 V0 : Vec Ideal S1x2x1 .f32) (ix3 0 k t)))
    ∧ ∃ a s : Fin 1 → Fin 2, (∀ t, IsTop (colOf (logitsOf V0).ie3 t) (a t)) ∧ (∀ t, IsNext (colOf (logitsOf V0).ie3 t) (a t) (s t))
      ∧ (∀ t, (res_main_indices_39 V0 : IVec S1x1x2 32) (ix3 0 t 0) = BitVec.ofNat 32 (a t).val)
      ∧ ∀ t, (res_main_indices_39 V0 : IVec S1x1x2 32) (ix3 0 t 1) = BitVec.ofNat 32 (s t).val := by
  refine sigmoid_pick (n := 2) (m := 1) (by decide) (fun k t => hL.ie3 _) (fun k t => ?_) (fun k t => ?_) _
  · obtain rfl : t = 0 := Subsingleton.elim _ _
    pointwise [res_main_v197]
    simp only [div_one_eq, Ideal.logistic]
    rfl
  · obtain rfl : t = 0 := Subsingleton.elim _ _
    pointwise [res_main_v198]

/-- The reference's result, of its arguments. -/
def result (V0 : Valuation τ sig (Elt Ideal)) : Vec Ideal S512x2 .f32 :=
  readout (score2x1 (res_main_v197 V0) (extractStridedSlice S1x1x1 ![0, 0, 0] (res_main_indices_39 V0) slices_S1x1x2_S1x1x1_0_0_0))
    (score2x1 (res_main_v197 V0) (extractStridedSlice S1x1x1 ![0, 0, 1] (res_main_indices_39 V0) slices_S1x1x2_S1x1x1_0_0_1)) (res_main_v189 V0)

variable (V0)

/-- The image stage's output is the stage at its scores. -/
theorem v63_eq : res_main_v63 V0 = stageOne (score16x4 (res_main_v12 V0) (Host.topK S1x4x1 2 (FloatOps.cmpfTotal (F := Ideal) (φ := .f32) .gt) (res_main_v13 V0) sliceFits_S1x4x16_S1x4x1).2)
    (score4x4 (res_main_v32 V0) (Host.topK S1x4x1 2 (FloatOps.cmpfTotal (F := Ideal) (φ := .f32) .gt) (res_main_v33 V0) sliceFits_S1x4x4_S1x4x1).2)
    (dataOf V0).x (dataOf V0).W1 (dataOf V0).b1 (dataOf V0).W2 (dataOf V0).b2 (dataOf V0).W3 (dataOf V0).b3 := rfl

/-- The first module stage's output is the stage at its scores. -/
theorem v126_eq : res_main_v126 V0 = stageTwo (score8x4 (res_main_v97 V0) (Host.topK S1x4x1 2 (FloatOps.cmpfTotal (F := Ideal) (φ := .f32) .gt) (res_main_v98 V0) sliceFits_S1x4x8_S1x4x1).2)
    (score64x4 (res_main_v71 V0) (extractStridedSlice S1x4x1 ![0, 0, 0] (res_main_indices_15 V0) slices_S1x4x2_S1x4x1_0_0_0))
    (score64x4 (res_main_v71 V0) (extractStridedSlice S1x4x1 ![0, 0, 1] (res_main_indices_15 V0) slices_S1x4x2_S1x4x1_0_0_1))
    (res_main_v63 V0) (dataOf V0).w1 (dataOf V0).c1 (dataOf V0).w2 (dataOf V0).c2 := rfl

/-- The second module stage's output is the stage at its scores. -/
theorem v189_eq : res_main_v189 V0 = stageThree (score8x2 (res_main_v160 V0) (Host.topK S1x2x1 2 (FloatOps.cmpfTotal (F := Ideal) (φ := .f32) .gt) (res_main_v161 V0) sliceFits_S1x2x8_S1x2x1).2)
    (score4x2 (res_main_v134 V0) (extractStridedSlice S1x2x1 ![0, 0, 0] (res_main_indices_27 V0) slices_S1x2x2_S1x2x1_0_0_0))
    (score4x2 (res_main_v134 V0) (extractStridedSlice S1x2x1 ![0, 0, 1] (res_main_indices_27 V0) slices_S1x2x2_S1x2x1_0_0_1))
    (res_main_v126 V0) (dataOf V0).w1 (dataOf V0).c1 (dataOf V0).w2 (dataOf V0).c2 := rfl

variable {V0}

/-- With finite logits it is the specified function along the routes they choose. -/
theorem result_apply (hL : (logitsOf V0).Finite) :
    ∃ R, Spec.Picks (logitsOf V0) R ∧ ∀ b t, result V0 (ix2 b t) = Spec.out (dataOf V0) R b t := by
  obtain ⟨f0, ch, hch, ich⟩ := pick_ch hL
  obtain ⟨g0, md, hmd, imd⟩ := pick_md hL
  obtain ⟨f1, a1, s1, ha1, hs1, ia1, is1⟩ := pick_one hL
  obtain ⟨g1, m1, hm1, im1⟩ := pick_m1 hL
  obtain ⟨f2, a2, s2, ha2, hs2, ia2, is2⟩ := pick_two hL
  obtain ⟨g2, m2, hm2, im2⟩ := pick_m2 hL
  obtain ⟨f3, a3, s3, ha3, hs3, ia3, is3⟩ := pick_three hL
  refine ⟨⟨ch, md, a1, s1, m1, a2, s2, m2, a3 0, s3 0⟩, ⟨hch, hmd, ha1, hs1, hm1, ha2, hs2, hm2, ha3 0, hs3 0⟩, ?_⟩
  generalize hR : (⟨ch, md, a1, s1, m1, a2, s2, m2, a3 0, s3 0⟩ : Spec.Routes) = R
  have h1 : ∀ b i, (res_main_v63 V0 : Vec Ideal S512x64 .f32) (ix2 b i) = Spec.one (dataOf V0) R b i := fun b i => by
    rw [v63_eq]
    exact one_apply (dataOf V0) R _ _ (by subst hR; exact score16x4_apply f0 ich) (by subst hR; exact score4x4_apply g0 imd) b i
  have h2 : ∀ b t, (res_main_v126 V0 : Vec Ideal S512x4 .f32) (ix2 b t) = Spec.two (dataOf V0) R b t := fun b t => by
    rw [v126_eq]
    refine two_apply (dataOf V0) R _ _ _ _ ?_ ?_ ?_ h1 b t
    · subst hR; exact score64x4_apply f1 fun t => by pointwise; exact ia1 t
    · subst hR; exact score64x4_apply f1 fun t => by pointwise; exact is1 t
    · subst hR; exact score8x4_apply g1 im1
  have h3 : ∀ b t, (res_main_v189 V0 : Vec Ideal S512x2 .f32) (ix2 b t) = Spec.three (dataOf V0) R b t := fun b t => by
    rw [v189_eq]
    refine three_apply (dataOf V0) R _ _ _ _ ?_ ?_ ?_ h2 b t
    · subst hR; exact score4x2_apply f2 fun t => by pointwise; exact ia2 t
    · subst hR; exact score4x2_apply f2 fun t => by pointwise; exact is2 t
    · subst hR; exact score8x2_apply g2 im2
  intro b t
  refine out_apply (dataOf V0) R _ _ _ ?_ ?_ h3 b t
  · subst hR
    intro k t
    obtain rfl : t = 0 := Subsingleton.elim _ _
    exact score2x1_apply f3 (fun t => by obtain rfl : t = 0 := Subsingleton.elim _ _; pointwise; exact ia3 0) k 0
  · subst hR
    intro k t
    obtain rfl : t = 0 := Subsingleton.elim _ _
    exact score2x1_apply f3 (fun t => by obtain rfl : t = 0 := Subsingleton.elim _ _; pointwise; exact is3 0) k 0

end Cert.ReferenceIdeal.Hand

end
-- ==== Proof.lean ====
/- The certificate: the frames of the three programs, the idealization, and the kernel against the reference. -/
module

public import proofs.«01_k».proof.Defs
public import proofs.«01_k».proof.Proof.Gen.ReferenceIdeal.Run
public import proofs.«01_k».proof.Proof.Kernel.Run
public import proofs.«01_k».proof.Proof.KernelIdeal.Run
public import proofs.«01_k».proof.Proof.Gen.Pre_embeddings_finite
public import proofs.«01_k».proof.Proof.KernelIdeal.Final
public import proofs.«01_k».proof.Proof.Finite
public import proofs.«01_k».proof.Proof.ReferenceIdeal.Value

@[expose] public section

noncomputable section

namespace Cert.Proof

open Idealize.ShloMosaic Idealize.SL.Sem Idealize.ShloMosaic.TcCoe

/-- The kernel runs, leaves its arguments as they were and its counters at zero. -/
theorem frame_kernel : Cert.quiescent_Kernel (hKernel := Cert.Kernel.Gen.facts) := fun m ρ _ =>
  (θ_run _ _ _).mono (fun _ h => ⟨fun c => Cert.Kernel.Hand.args_kept m h.1 c, h.2⟩) (Cert.Kernel.Hand.run_main m ρ)

/-- The same of the kernel read over the reals. -/
theorem frame_kernelIdeal : Cert.quiescent_KernelIdeal (hKernelIdeal := Cert.KernelIdeal.Gen.facts) := fun m ρ _ =>
  (θ_run _ _ _).mono (fun _ h => ⟨fun c => Cert.KernelIdeal.Hand.args_kept m h.1 c, h.2⟩)
    (Cert.KernelIdeal.Hand.run_main m ρ)

/-- The same of the reference, which has no counters. -/
theorem frame_referenceIdeal : Cert.quiescent_ReferenceIdeal (hReferenceIdeal := Cert.ReferenceIdeal.Gen.facts) :=
  fun m ρ _ =>
  (θ_run _ _ _).mono (fun r h => ⟨fun c => (h c).2, sem_eq_zero_of_no_sems (by decide) r.2⟩)
    (Cert.ReferenceIdeal.Value.run m ρ)

/-- Where the two launches hold the same arguments, the reference's function is of the kernel's arguments. -/
theorem result_eq (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (hL : (Cert.KernelIdeal.Hand.argLogits m c).Finite) (hD : Cert.ReferenceIdeal.Hand.dataOf V = Cert.KernelIdeal.Hand.argData m c)
    (hE : Cert.ReferenceIdeal.Hand.logitsOf V = Cert.KernelIdeal.Hand.argLogits m c) :
    Cert.ReferenceIdeal.Hand.result V = Cert.KernelIdeal.Hand.outAt m c Cert.KernelIdeal.Hand.pt0 := by
  obtain ⟨R, hR, h⟩ := Cert.KernelIdeal.Hand.outAt_apply m c hL
  obtain ⟨R', hR', h'⟩ := Cert.ReferenceIdeal.Hand.result_apply (V0 := V) (by rw [hE]; exact hL)
  rw [hE] at hR'
  obtain rfl := hR.unique hR'
  rw [hD] at h'
  funext i
  have hi : i = ix2 (i 0) (i 1) := by
    funext a
    fin_cases a <;> rfl
  rw [hi]
  exact (h' (i 0) (i 1)).trans (h (i 0) (i 1)).symm

/-- On finite logits the kernel read over the reals ends at the reference's result. -/
theorem algebraic : Cert.algebraic_KernelIdeal_ReferenceIdeal_pre_embeddings_finite (hKernelIdeal := Cert.KernelIdeal.Gen.facts)
    (hReferenceIdeal := Cert.ReferenceIdeal.Gen.facts) (hPre_embeddings_finite := Cert.Pre_embeddings_finite.Gen.facts) := by
  intro m g m' g' hp ha
  refine ⟨fun c => Cert.KernelIdeal.Hand.outAt m c Cert.KernelIdeal.Hand.pt0, ?_, ?_⟩
  · exact (θ_run _ _ _).mono (fun _ h c => ⟨Cert.KernelIdeal.Hand.final_apply m c h.1, Cert.KernelIdeal.Hand.args_kept m h.1 c⟩)
      (Cert.KernelIdeal.Hand.run_main m g)
  · refine (θ_run _ _ _).mono (fun _ h c => ⟨?_, (h c).2⟩) (Cert.ReferenceIdeal.Value.run m' g')
    obtain ⟨h0, h1, h2, h3, h4, h5, h6, h7, h8, h9, h10, h11, h12, h13, h14, h15, h16, h17⟩ := ha c
    refine (h c).1.trans (Eq.trans (b := Cert.ReferenceIdeal.Hand.result (StableHlo.launchContents m' c)) rfl ?_)
    refine result_eq m _ c (Cert.KernelIdeal.Hand.logits_finite m hp c) ?_ ?_
    · exact (Cert.Spec.Data.mk.injEq ..).mpr ⟨congrArg (fun v => shapeCast Cert.ReferenceIdeal.S512x16x784
        (v : Vec Ideal Cert.ReferenceIdeal.S512x16x28x28 .f32) Cert.ReferenceIdeal.Gen.shapeCasts_S512x16x28x28_S512x16x784) h0, h1, h2, h3, h4, h5, h6, h7, h8, h9, h10⟩
    · exact (Cert.Spec.Logits.mk.injEq ..).mpr ⟨h11, h12, h13, h14, h15, h16, h17⟩

/-- The frame of the kernel over the reals, on finite logits. -/
theorem frame_kernelIdeal_finite : Cert.quiescent_KernelIdeal_pre_embeddings_finite (hKernelIdeal := Cert.KernelIdeal.Gen.facts)
    (hPre_embeddings_finite := Cert.Pre_embeddings_finite.Gen.facts) := fun m ρ _ => frame_kernelIdeal m ρ trivial

/-- The frame of the reference, on finite logits. -/
theorem frame_referenceIdeal_finite : Cert.quiescent_ReferenceIdeal_pre_embeddings_finite (hReferenceIdeal := Cert.ReferenceIdeal.Gen.facts)
    (hPre_embeddings_finite := Cert.Pre_embeddings_finite.Gen.facts) := fun m ρ _ => frame_referenceIdeal m ρ trivial

/-- Everything claimed. -/
theorem claim : Cert.Claim := ⟨Cert.Kernel.Gen.facts, Cert.KernelIdeal.Gen.facts, Cert.ReferenceIdeal.Gen.facts, Cert.Pre_embeddings_finite.Gen.facts,
  frame_kernel, frame_kernelIdeal, frame_kernelIdeal_finite, frame_referenceIdeal, frame_referenceIdeal_finite, trivial, algebraic⟩

end Cert.Proof

end
